-- ==== Defs.lean ====
def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_RglruReferenceIdeal (m : (ℓ : Loc Cert.RglruReferenceIdeal.nD Cert.RglruReferenceIdeal.τ Cert.RglruReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteReferenceIdeal (m : (ℓ : Loc Cert.RouteReferenceIdeal.nD Cert.RouteReferenceIdeal.τ Cert.RouteReferenceIdeal.sig) → Buf (Elt Ideal) ℓ) : Prop :=
  True

def Pre_PleFirst (m : (ℓ : Loc Cert.PleFirst.nD Cert.PleFirst.τ Cert.PleFirst.sig) → Buf (Elt Bits) ℓ) : Prop :=
  True

def Pre_PleFirstIdeal (m : (ℓ : Loc Cert.PleFirstIdeal.nD Cert.PleFirstIdeal.τ Cert.PleFirstIdeal.sig) → Buf (Elt Ideal) ℓ) : Prop :=
  True

def Pre_PleFirstReferenceIdeal (m : (ℓ : Loc Cert.PleFirstReferenceIdeal.nD Cert.PleFirstReferenceIdeal.τ Cert.PleFirstReferenceIdeal.sig) → Buf (Elt Ideal) ℓ) : Prop :=
  True

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ r.2.sem = fun _ => 0)

def quiescent_RglruReferenceIdeal [hRglruReferenceIdeal : Cert.RglruReferenceIdeal.Facts] : Prop :=
  ∀ (m : (ℓ : Loc Cert.RglruReferenceIdeal.nD Cert.RglruReferenceIdeal.τ Cert.RglruReferenceIdeal.sig) → Buf (Elt Ideal) ℓ) (g : Dev Cert.RglruReferenceIdeal.nD → PrngReg), Pre_RglruReferenceIdeal m →
    θ_run (Cert.RglruReferenceIdeal.defs (F := Ideal)) (onTc (τ := Cert.RglruReferenceIdeal.τ) (Cert.RglruReferenceIdeal.main (F := Ideal))) ⟨m, fun _ => 0, g⟩ (fun r => (∀ c : Dev Cert.RglruReferenceIdeal.nD,
      r.2.mem ((c.tc : Thread Cert.RglruReferenceIdeal.nD Cert.RglruReferenceIdeal.τ).loc Cert.RglruReferenceIdeal.main_arg0) = m ((c.tc : Thread Cert.RglruReferenceIdeal.nD Cert.RglruReferenceIdeal.τ).loc Cert.RglruReferenceIdeal.main_arg0)
      ∧ r.2.mem ((c.tc : Thread Cert.RglruReferenceIdeal.nD Cert.RglruReferenceIdeal.τ).loc Cert.RglruReferenceIdeal.main_arg1) = m ((c.tc : Thread Cert.RglruReferenceIdeal.nD Cert.RglruReferenceIdeal.τ).loc Cert.RglruReferenceIdeal.main_arg1)
      ∧ r.2.mem ((c.tc : Thread Cert.RglruReferenceIdeal.nD Cert.RglruReferenceIdeal.τ).loc Cert.RglruReferenceIdeal.main_arg2) = m ((c.tc : Thread Cert.RglruReferenceIdeal.nD Cert.RglruReferenceIdeal.τ).loc Cert.RglruReferenceIdeal.main_arg2)
      ∧ r.2.mem ((c.tc : Thread Cert.RglruReferenceIdeal.nD Cert.RglruReferenceIdeal.τ).loc Cert.RglruReferenceIdeal.main_arg3) = m ((c.tc : Thread Cert.RglruReferenceIdeal.nD Cert.RglruReferenceIdeal.τ).loc Cert.RglruReferenceIdeal.main_arg3)
      ∧ r.2.mem ((c.tc : Thread Cert.RglruReferenceIdeal.nD Cert.RglruReferenceIdeal.τ).loc Cert.RglruReferenceIdeal.main_arg4) = m ((c.tc : Thread Cert.RglruReferenceIdeal.nD Cert.RglruReferenceIdeal.τ).loc Cert.RglruReferenceIdeal.main_arg4)
      ∧ r.2.mem ((c.tc : Thread Cert.RglruReferenceIdeal.nD Cert.RglruReferenceIdeal.τ).loc Cert.RglruReferenceIdeal.main_arg5) = m ((c.tc : Thread Cert.RglruReferenceIdeal.nD Cert.RglruReferenceIdeal.τ).loc Cert.RglruReferenceIdeal.main_arg5)
      ∧ r.2.mem ((c.tc : Thread Cert.RglruReferenceIdeal.nD Cert.RglruReferenceIdeal.τ).loc Cert.RglruReferenceIdeal.main_arg6) = m ((c.tc : Thread Cert.RglruReferenceIdeal.nD Cert.RglruReferenceIdeal.τ).loc Cert.RglruReferenceIdeal.main_arg6)
      ∧ r.2.mem ((c.tc : Thread Cert.RglruReferenceIdeal.nD Cert.RglruReferenceIdeal.τ).loc Cert.RglruReferenceIdeal.main_arg7) = m ((c.tc : Thread Cert.RglruReferenceIdeal.nD Cert.RglruReferenceIdeal.τ).loc Cert.RglruReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3))
      ∧ r.2.sem = fun _ => 0)

def quiescent_PleFirst [hPleFirst : Cert.PleFirst.Facts] : Prop :=
  ∀ (m : (ℓ : Loc Cert.PleFirst.nD Cert.PleFirst.τ Cert.PleFirst.sig) → Buf (Elt Bits) ℓ) (g : Dev Cert.PleFirst.nD → PrngReg), Pre_PleFirst m →
    θ_run (Cert.PleFirst.defs (F := Bits)) (onTc (τ := Cert.PleFirst.τ) (Cert.PleFirst.main (F := Bits))) ⟨m, fun _ => 0, g⟩ (fun r => (∀ c : Dev Cert.PleFirst.nD,
      r.2.mem ((c.tc : Thread Cert.PleFirst.nD Cert.PleFirst.τ).loc Cert.PleFirst.main_arg0) = m ((c.tc : Thread Cert.PleFirst.nD Cert.PleFirst.τ).loc Cert.PleFirst.main_arg0)
      ∧ r.2.mem ((c.tc : Thread Cert.PleFirst.nD Cert.PleFirst.τ).loc Cert.PleFirst.main_arg1) = m ((c.tc : Thread Cert.PleFirst.nD Cert.PleFirst.τ).loc Cert.PleFirst.main_arg1)
      ∧ r.2.mem ((c.tc : Thread Cert.PleFirst.nD Cert.PleFirst.τ).loc Cert.PleFirst.main_arg2) = m ((c.tc : Thread Cert.PleFirst.nD Cert.PleFirst.τ).loc Cert.PleFirst.main_arg2)
      ∧ r.2.mem ((c.tc : Thread Cert.PleFirst.nD Cert.PleFirst.τ).loc Cert.PleFirst.main_arg3) = m ((c.tc : Thread Cert.PleFirst.nD Cert.PleFirst.τ).loc Cert.PleFirst.main_arg3)
      ∧ r.2.mem ((c.tc : Thread Cert.PleFirst.nD Cert.PleFirst.τ).loc Cert.PleFirst.main_arg4) = m ((c.tc : Thread Cert.PleFirst.nD Cert.PleFirst.τ).loc Cert.PleFirst.main_arg4)
      ∧ r.2.mem ((c.tc : Thread Cert.PleFirst.nD Cert.PleFirst.τ).loc Cert.PleFirst.main_arg5) = m ((c.tc : Thread Cert.PleFirst.nD Cert.PleFirst.τ).loc Cert.PleFirst.main_arg5))
      ∧ r.2.sem = fun _ => 0)

def quiescent_PleFirstIdeal [hPleFirstIdeal : Cert.PleFirstIdeal.Facts] : Prop :=
  ∀ (m : (ℓ : Loc Cert.PleFirstIdeal.nD Cert.PleFirstIdeal.τ Cert.PleFirstIdeal.sig) → Buf (Elt Ideal) ℓ) (g : Dev Cert.PleFirstIdeal.nD → PrngReg), Pre_PleFirstIdeal m →
    θ_run (Cert.PleFirstIdeal.defs (F := Ideal)) (onTc (τ := Cert.PleFirstIdeal.τ) (Cert.PleFirstIdeal.main (F := Ideal))) ⟨m, fun _ => 0, g⟩ (fun r => (∀ c : Dev Cert.PleFirstIdeal.nD,
      r.2.mem ((c.tc : Thread Cert.PleFirstIdeal.nD Cert.PleFirstIdeal.τ).loc Cert.PleFirstIdeal.main_arg0) = m ((c.tc : Thread Cert.PleFirstIdeal.nD Cert.PleFirstIdeal.τ).loc Cert.PleFirstIdeal.main_arg0)
      ∧ r.2.mem ((c.tc : Thread Cert.PleFirstIdeal.nD Cert.PleFirstIdeal.τ).loc Cert.PleFirstIdeal.main_arg1) = m ((c.tc : Thread Cert.PleFirstIdeal.nD Cert.PleFirstIdeal.τ).loc Cert.PleFirstIdeal.main_arg1)
      ∧ r.2.mem ((c.tc : Thread Cert.PleFirstIdeal.nD Cert.PleFirstIdeal.τ).loc Cert.PleFirstIdeal.main_arg2) = m ((c.tc : Thread Cert.PleFirstIdeal.nD Cert.PleFirstIdeal.τ).loc Cert.PleFirstIdeal.main_arg2)
      ∧ r.2.mem ((c.tc : Thread Cert.PleFirstIdeal.nD Cert.PleFirstIdeal.τ).loc Cert.PleFirstIdeal.main_arg3) = m ((c.tc : Thread Cert.PleFirstIdeal.nD Cert.PleFirstIdeal.τ).loc Cert.PleFirstIdeal.main_arg3)
      ∧ r.2.mem ((c.tc : Thread Cert.PleFirstIdeal.nD Cert.PleFirstIdeal.τ).loc Cert.PleFirstIdeal.main_arg4) = m ((c.tc : Thread Cert.PleFirstIdeal.nD Cert.PleFirstIdeal.τ).loc Cert.PleFirstIdeal.main_arg4)
      ∧ r.2.mem ((c.tc : Thread Cert.PleFirstIdeal.nD Cert.PleFirstIdeal.τ).loc Cert.PleFirstIdeal.main_arg5) = m ((c.tc : Thread Cert.PleFirstIdeal.nD Cert.PleFirstIdeal.τ).loc Cert.PleFirstIdeal.main_arg5))
      ∧ r.2.sem = fun _ => 0)

def quiescent_PleFirstReferenceIdeal [hPleFirstReferenceIdeal : Cert.PleFirstReferenceIdeal.Facts] : Prop :=
  ∀ (m : (ℓ : Loc Cert.PleFirstReferenceIdeal.nD Cert.PleFirstReferenceIdeal.τ Cert.PleFirstReferenceIdeal.sig) → Buf (Elt Ideal) ℓ) (g : Dev Cert.PleFirstReferenceIdeal.nD → PrngReg), Pre_PleFirstReferenceIdeal m →
    θ_run (Cert.PleFirstReferenceIdeal.defs (F := Ideal)) (onTc (τ := Cert.PleFirstReferenceIdeal.τ) (Cert.PleFirstReferenceIdeal.main (F := Ideal))) ⟨m, fun _ => 0, g⟩ (fun r => (∀ c : Dev Cert.PleFirstReferenceIdeal.nD,
      r.2.mem ((c.tc : Thread Cert.PleFirstReferenceIdeal.nD Cert.PleFirstReferenceIdeal.τ).loc Cert.PleFirstReferenceIdeal.main_arg0) = m ((c.tc : Thread Cert.PleFirstReferenceIdeal.nD Cert.PleFirstReferenceIdeal.τ).loc Cert.PleFirstReferenceIdeal.main_arg0)
      ∧ r.2.mem ((c.tc : Thread Cert.PleFirstReferenceIdeal.nD Cert.PleFirstReferenceIdeal.τ).loc Cert.PleFirstReferenceIdeal.main_arg1) = m ((c.tc : Thread Cert.PleFirstReferenceIdeal.nD Cert.PleFirstReferenceIdeal.τ).loc Cert.PleFirstReferenceIdeal.main_arg1)
      ∧ r.2.mem ((c.tc : Thread Cert.PleFirstReferenceIdeal.nD Cert.PleFirstReferenceIdeal.τ).loc Cert.PleFirstReferenceIdeal.main_arg2) = m ((c.tc : Thread Cert.PleFirstReferenceIdeal.nD Cert.PleFirstReferenceIdeal.τ).loc Cert.PleFirstReferenceIdeal.main_arg2)
      ∧ r.2.mem ((c.tc : Thread Cert.PleFirstReferenceIdeal.nD Cert.PleFirstReferenceIdeal.τ).loc Cert.PleFirstReferenceIdeal.main_arg3) = m ((c.tc : Thread Cert.PleFirstReferenceIdeal.nD Cert.PleFirstReferenceIdeal.τ).loc Cert.PleFirstReferenceIdeal.main_arg3)
      ∧ r.2.mem ((c.tc : Thread Cert.PleFirstReferenceIdeal.nD Cert.PleFirstReferenceIdeal.τ).loc Cert.PleFirstReferenceIdeal.main_arg4) = m ((c.tc : Thread Cert.PleFirstReferenceIdeal.nD Cert.PleFirstReferenceIdeal.τ).loc Cert.PleFirstReferenceIdeal.main_arg4)
      ∧ r.2.mem ((c.tc : Thread Cert.PleFirstReferenceIdeal.nD Cert.PleFirstReferenceIdeal.τ).loc Cert.PleFirstReferenceIdeal.main_arg5) = m ((c.tc : Thread Cert.PleFirstReferenceIdeal.nD Cert.PleFirstReferenceIdeal.τ).loc Cert.PleFirstReferenceIdeal.main_arg5))
      ∧ r.2.sem = fun _ => 0)

def preserves_Rglru_RglruIdeal : Prop :=
  True

def algebraic_RglruIdeal_RglruReferenceIdeal [hRglruIdeal : Cert.RglruIdeal.Facts] [hRglruReferenceIdeal : Cert.RglruReferenceIdeal.Facts] : Prop :=
  ∀ (m : (ℓ : Loc Cert.RglruIdeal.nD Cert.RglruIdeal.τ Cert.RglruIdeal.sig) → Buf (Elt Ideal) ℓ) (g : Dev Cert.RglruIdeal.nD → PrngReg)
    (m' : (ℓ : Loc Cert.RglruReferenceIdeal.nD Cert.RglruReferenceIdeal.τ Cert.RglruReferenceIdeal.sig) → Buf (Elt Ideal) ℓ) (g' : Dev Cert.RglruReferenceIdeal.nD → PrngReg), Pre_RglruIdeal m →
    (∀ c : Dev Cert.RglruIdeal.nD,
      m' ((c.tc : Thread Cert.RglruReferenceIdeal.nD Cert.RglruReferenceIdeal.τ).loc Cert.RglruReferenceIdeal.main_arg0) = m ((c.tc : Thread Cert.RglruIdeal.nD Cert.RglruIdeal.τ).loc Cert.RglruIdeal.main_arg0)
      ∧ m' ((c.tc : Thread Cert.RglruReferenceIdeal.nD Cert.RglruReferenceIdeal.τ).loc Cert.RglruReferenceIdeal.main_arg1) = m ((c.tc : Thread Cert.RglruIdeal.nD Cert.RglruIdeal.τ).loc Cert.RglruIdeal.main_arg1)
      ∧ m' ((c.tc : Thread Cert.RglruReferenceIdeal.nD Cert.RglruReferenceIdeal.τ).loc Cert.RglruReferenceIdeal.main_arg2) = m ((c.tc : Thread Cert.RglruIdeal.nD Cert.RglruIdeal.τ).loc Cert.RglruIdeal.main_arg2)
      ∧ m' ((c.tc : Thread Cert.RglruReferenceIdeal.nD Cert.RglruReferenceIdeal.τ).loc Cert.RglruReferenceIdeal.main_arg3) = m ((c.tc : Thread Cert.RglruIdeal.nD Cert.RglruIdeal.τ).loc Cert.RglruIdeal.main_arg3)
      ∧ m' ((c.tc : Thread Cert.RglruReferenceIdeal.nD Cert.RglruReferenceIdeal.τ).loc Cert.RglruReferenceIdeal.main_arg4) = m ((c.tc : Thread Cert.RglruIdeal.nD Cert.RglruIdeal.τ).loc Cert.RglruIdeal.main_arg4)
      ∧ m' ((c.tc : Thread Cert.RglruReferenceIdeal.nD Cert.RglruReferenceIdeal.τ).loc Cert.RglruReferenceIdeal.main_arg5) = m ((c.tc : Thread Cert.RglruIdeal.nD Cert.RglruIdeal.τ).loc Cert.RglruIdeal.main_arg5)
      ∧ m' ((c.tc : Thread Cert.RglruReferenceIdeal.nD Cert.RglruReferenceIdeal.τ).loc Cert.RglruReferenceIdeal.main_arg6) = m ((c.tc : Thread Cert.RglruIdeal.nD Cert.RglruIdeal.τ).loc Cert.RglruIdeal.main_arg6)
      ∧ m' ((c.tc : Thread Cert.RglruReferenceIdeal.nD Cert.RglruReferenceIdeal.τ).loc Cert.RglruReferenceIdeal.main_arg7) = m ((c.tc : Thread Cert.RglruIdeal.nD Cert.RglruIdeal.τ).loc Cert.RglruIdeal.main_arg7)) →
    ∃ (v0 : (c : Dev Cert.RglruIdeal.nD) → Buf (Elt Ideal) ((c.tc : Thread Cert.RglruIdeal.nD Cert.RglruIdeal.τ).loc Cert.RglruIdeal.main_v32)),
      θ_run (Cert.RglruIdeal.defs (F := Ideal)) (onTc (τ := Cert.RglruIdeal.τ) (Cert.RglruIdeal.main (F := Ideal))) ⟨m, fun _ => 0, g⟩ (fun r => ∀ c : Dev Cert.RglruIdeal.nD,
          r.2.mem ((c.tc : Thread Cert.RglruIdeal.nD Cert.RglruIdeal.τ).loc Cert.RglruIdeal.main_v32) = v0 c
          ∧ r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
          ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
          ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
          ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
          ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
          ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
          ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
          ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ θ_run (Cert.RglruReferenceIdeal.defs (F := Ideal)) (onTc (τ := Cert.RglruReferenceIdeal.τ) (Cert.RglruReferenceIdeal.main (F := Ideal))) ⟨m', fun _ => 0, g'⟩ (fun r => ∀ c : Dev Cert.RglruReferenceIdeal.nD,
          r.2.mem ((c.tc : Thread Cert.RglruReferenceIdeal.nD Cert.RglruReferenceIdeal.τ).loc Cert.RglruReferenceIdeal.main_v99) = v0 c
          ∧ r.2.mem ((c.tc : Thread Cert.RglruReferenceIdeal.nD Cert.RglruReferenceIdeal.τ).loc Cert.RglruReferenceIdeal.main_arg0) = m' ((c.tc : Thread Cert.RglruReferenceIdeal.nD Cert.RglruReferenceIdeal.τ).loc Cert.RglruReferenceIdeal.main_arg0)
          ∧ r.2.mem ((c.tc : Thread Cert.RglruReferenceIdeal.nD Cert.RglruReferenceIdeal.τ).loc Cert.RglruReferenceIdeal.main_arg1) = m' ((c.tc : Thread Cert.RglruReferenceIdeal.nD Cert.RglruReferenceIdeal.τ).loc Cert.RglruReferenceIdeal.main_arg1)
          ∧ r.2.mem ((c.tc : Thread Cert.RglruReferenceIdeal.nD Cert.RglruReferenceIdeal.τ).loc Cert.RglruReferenceIdeal.main_arg2) = m' ((c.tc : Thread Cert.RglruReferenceIdeal.nD Cert.RglruReferenceIdeal.τ).loc Cert.RglruReferenceIdeal.main_arg2)
          ∧ r.2.mem ((c.tc : Thread Cert.RglruReferenceIdeal.nD Cert.RglruReferenceIdeal.τ).loc Cert.RglruReferenceIdeal.main_arg3) = m' ((c.tc : Thread Cert.RglruReferenceIdeal.nD Cert.RglruReferenceIdeal.τ).loc Cert.RglruReferenceIdeal.main_arg3)
          ∧ r.2.mem ((c.tc : Thread Cert.RglruReferenceIdeal.nD Cert.RglruReferenceIdeal.τ).loc Cert.RglruReferenceIdeal.main_arg4) = m' ((c.tc : Thread Cert.RglruReferenceIdeal.nD Cert.RglruReferenceIdeal.τ).loc Cert.RglruReferenceIdeal.main_arg4)
          ∧ r.2.mem ((c.tc : Thread Cert.RglruReferenceIdeal.nD Cert.RglruReferenceIdeal.τ).loc Cert.RglruReferenceIdeal.main_arg5) = m' ((c.tc : Thread Cert.RglruReferenceIdeal.nD Cert.RglruReferenceIdeal.τ).loc Cert.RglruReferenceIdeal.main_arg5)
          ∧ r.2.mem ((c.tc : Thread Cert.RglruReferenceIdeal.nD Cert.RglruReferenceIdeal.τ).loc Cert.RglruReferenceIdeal.main_arg6) = m' ((c.tc : Thread Cert.RglruReferenceIdeal.nD Cert.RglruReferenceIdeal.τ).loc Cert.RglruReferenceIdeal.main_arg6)
          ∧ r.2.mem ((c.tc : Thread Cert.RglruReferenceIdeal.nD Cert.RglruReferenceIdeal.τ).loc Cert.RglruReferenceIdeal.main_arg7) = m' ((c.tc : Thread Cert.RglruReferenceIdeal.nD Cert.RglruReferenceIdeal.τ).loc Cert.RglruReferenceIdeal.main_arg7))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v17) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v37) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_Gmlp_GmlpIdeal : Prop :=
  True

def algebraic_GmlpIdeal_GmlpReferenceIdeal [hGmlpIdeal : Cert.GmlpIdeal.Facts] [hGmlpReferenceIdeal : Cert.GmlpReferenceIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpIdeal m →
    (∀ c : Dev Cert.GmlpIdeal.nD,
      m' ((c.tc : Thread Cert.GmlpReferenceIdeal.nD Cert.GmlpReferenceIdeal.τ).loc Cert.GmlpReferenceIdeal.main_arg0) = m ((c.tc : Thread Cert.GmlpIdeal.nD Cert.GmlpIdeal.τ).loc Cert.GmlpIdeal.main_arg0)
      ∧ m' ((c.tc : Thread Cert.GmlpReferenceIdeal.nD Cert.GmlpReferenceIdeal.τ).loc Cert.GmlpReferenceIdeal.main_arg1) = m ((c.tc : Thread Cert.GmlpIdeal.nD Cert.GmlpIdeal.τ).loc Cert.GmlpIdeal.main_arg1)
      ∧ m' ((c.tc : Thread Cert.GmlpReferenceIdeal.nD Cert.GmlpReferenceIdeal.τ).loc Cert.GmlpReferenceIdeal.main_arg2) = m ((c.tc : Thread Cert.GmlpIdeal.nD Cert.GmlpIdeal.τ).loc Cert.GmlpIdeal.main_arg2)
      ∧ m' ((c.tc : Thread Cert.GmlpReferenceIdeal.nD Cert.GmlpReferenceIdeal.τ).loc Cert.GmlpReferenceIdeal.main_arg3) = m ((c.tc : Thread Cert.GmlpIdeal.nD Cert.GmlpIdeal.τ).loc Cert.GmlpIdeal.main_arg3)
      ∧ m' ((c.tc : Thread Cert.GmlpReferenceIdeal.nD Cert.GmlpReferenceIdeal.τ).loc Cert.GmlpReferenceIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v5)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v5) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v66) = v0 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4))

def preserves_Route_RouteIdeal : Prop :=
  True

def algebraic_RouteIdeal_RouteReferenceIdeal [hRouteIdeal : Cert.RouteIdeal.Facts] [hRouteReferenceIdeal : Cert.RouteReferenceIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)
      ∧ m' ((c.tc : Thread Cert.RouteReferenceIdeal.nD Cert.RouteReferenceIdeal.τ).loc Cert.RouteReferenceIdeal.main_arg2) = m ((c.tc : Thread Cert.RouteIdeal.nD Cert.RouteIdeal.τ).loc Cert.RouteIdeal.main_arg2)
      ∧ m' ((c.tc : Thread Cert.RouteReferenceIdeal.nD Cert.RouteReferenceIdeal.τ).loc Cert.RouteReferenceIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v15_0)) (v1 : (c : Dev Cert.RouteIdeal.nD) → Buf (Elt Ideal) ((c.tc : Thread Cert.RouteIdeal.nD Cert.RouteIdeal.τ).loc Cert.RouteIdeal.main_v15_3)) (v2 : (c : Dev Cert.RouteIdeal.nD) → Buf (Elt Ideal) ((c.tc : Thread Cert.RouteIdeal.nD Cert.RouteIdeal.τ).loc Cert.RouteIdeal.main_v15_4)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v15_0) = v0 c
          ∧ r.2.mem ((c.tc : Thread Cert.RouteIdeal.nD Cert.RouteIdeal.τ).loc Cert.RouteIdeal.main_v15_3) = v1 c
          ∧ r.2.mem ((c.tc : Thread Cert.RouteIdeal.nD Cert.RouteIdeal.τ).loc Cert.RouteIdeal.main_v15_4) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v35) = v0 c
          ∧ r.2.mem ((c.tc : Thread Cert.RouteReferenceIdeal.nD Cert.RouteReferenceIdeal.τ).loc Cert.RouteReferenceIdeal.main_v36) = v1 c
          ∧ r.2.mem ((c.tc : Thread Cert.RouteReferenceIdeal.nD Cert.RouteReferenceIdeal.τ).loc Cert.RouteReferenceIdeal.main_v37) = v2 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2)
          ∧ r.2.mem ((c.tc : Thread Cert.RouteReferenceIdeal.nD Cert.RouteReferenceIdeal.τ).loc Cert.RouteReferenceIdeal.main_arg3) = m' ((c.tc : Thread Cert.RouteReferenceIdeal.nD Cert.RouteReferenceIdeal.τ).loc Cert.RouteReferenceIdeal.main_arg3))

def preserves_PleFirst_PleFirstIdeal : Prop :=
  True

def algebraic_PleFirstIdeal_PleFirstReferenceIdeal [hPleFirstIdeal : Cert.PleFirstIdeal.Facts] [hPleFirstReferenceIdeal : Cert.PleFirstReferenceIdeal.Facts] : Prop :=
  ∀ (m : (ℓ : Loc Cert.PleFirstIdeal.nD Cert.PleFirstIdeal.τ Cert.PleFirstIdeal.sig) → Buf (Elt Ideal) ℓ) (g : Dev Cert.PleFirstIdeal.nD → PrngReg)
    (m' : (ℓ : Loc Cert.PleFirstReferenceIdeal.nD Cert.PleFirstReferenceIdeal.τ Cert.PleFirstReferenceIdeal.sig) → Buf (Elt Ideal) ℓ) (g' : Dev Cert.PleFirstReferenceIdeal.nD → PrngReg), Pre_PleFirstIdeal m →
    (∀ c : Dev Cert.PleFirstIdeal.nD,
      m' ((c.tc : Thread Cert.PleFirstReferenceIdeal.nD Cert.PleFirstReferenceIdeal.τ).loc Cert.PleFirstReferenceIdeal.main_arg0) = m ((c.tc : Thread Cert.PleFirstIdeal.nD Cert.PleFirstIdeal.τ).loc Cert.PleFirstIdeal.main_arg0)
      ∧ m' ((c.tc : Thread Cert.PleFirstReferenceIdeal.nD Cert.PleFirstReferenceIdeal.τ).loc Cert.PleFirstReferenceIdeal.main_arg1) = m ((c.tc : Thread Cert.PleFirstIdeal.nD Cert.PleFirstIdeal.τ).loc Cert.PleFirstIdeal.main_arg1)
      ∧ m' ((c.tc : Thread Cert.PleFirstReferenceIdeal.nD Cert.PleFirstReferenceIdeal.τ).loc Cert.PleFirstReferenceIdeal.main_arg2) = m ((c.tc : Thread Cert.PleFirstIdeal.nD Cert.PleFirstIdeal.τ).loc Cert.PleFirstIdeal.main_arg2)
      ∧ m' ((c.tc : Thread Cert.PleFirstReferenceIdeal.nD Cert.PleFirstReferenceIdeal.τ).loc Cert.PleFirstReferenceIdeal.main_arg3) = m ((c.tc : Thread Cert.PleFirstIdeal.nD Cert.PleFirstIdeal.τ).loc Cert.PleFirstIdeal.main_arg3)
      ∧ m' ((c.tc : Thread Cert.PleFirstReferenceIdeal.nD Cert.PleFirstReferenceIdeal.τ).loc Cert.PleFirstReferenceIdeal.main_arg4) = m ((c.tc : Thread Cert.PleFirstIdeal.nD Cert.PleFirstIdeal.τ).loc Cert.PleFirstIdeal.main_arg4)
      ∧ m' ((c.tc : Thread Cert.PleFirstReferenceIdeal.nD Cert.PleFirstReferenceIdeal.τ).loc Cert.PleFirstReferenceIdeal.main_arg5) = m ((c.tc : Thread Cert.PleFirstIdeal.nD Cert.PleFirstIdeal.τ).loc Cert.PleFirstIdeal.main_arg5)) →
    ∃ (v0 : (c : Dev Cert.PleFirstIdeal.nD) → Buf (Elt Ideal) ((c.tc : Thread Cert.PleFirstIdeal.nD Cert.PleFirstIdeal.τ).loc Cert.PleFirstIdeal.main_v4)),
      θ_run (Cert.PleFirstIdeal.defs (F := Ideal)) (onTc (τ := Cert.PleFirstIdeal.τ) (Cert.PleFirstIdeal.main (F := Ideal))) ⟨m, fun _ => 0, g⟩ (fun r => ∀ c : Dev Cert.PleFirstIdeal.nD,
          r.2.mem ((c.tc : Thread Cert.PleFirstIdeal.nD Cert.PleFirstIdeal.τ).loc Cert.PleFirstIdeal.main_v4) = v0 c
          ∧ r.2.mem ((c.tc : Thread Cert.PleFirstIdeal.nD Cert.PleFirstIdeal.τ).loc Cert.PleFirstIdeal.main_arg0) = m ((c.tc : Thread Cert.PleFirstIdeal.nD Cert.PleFirstIdeal.τ).loc Cert.PleFirstIdeal.main_arg0)
          ∧ r.2.mem ((c.tc : Thread Cert.PleFirstIdeal.nD Cert.PleFirstIdeal.τ).loc Cert.PleFirstIdeal.main_arg1) = m ((c.tc : Thread Cert.PleFirstIdeal.nD Cert.PleFirstIdeal.τ).loc Cert.PleFirstIdeal.main_arg1)
          ∧ r.2.mem ((c.tc : Thread Cert.PleFirstIdeal.nD Cert.PleFirstIdeal.τ).loc Cert.PleFirstIdeal.main_arg2) = m ((c.tc : Thread Cert.PleFirstIdeal.nD Cert.PleFirstIdeal.τ).loc Cert.PleFirstIdeal.main_arg2)
          ∧ r.2.mem ((c.tc : Thread Cert.PleFirstIdeal.nD Cert.PleFirstIdeal.τ).loc Cert.PleFirstIdeal.main_arg3) = m ((c.tc : Thread Cert.PleFirstIdeal.nD Cert.PleFirstIdeal.τ).loc Cert.PleFirstIdeal.main_arg3)
          ∧ r.2.mem ((c.tc : Thread Cert.PleFirstIdeal.nD Cert.PleFirstIdeal.τ).loc Cert.PleFirstIdeal.main_arg4) = m ((c.tc : Thread Cert.PleFirstIdeal.nD Cert.PleFirstIdeal.τ).loc Cert.PleFirstIdeal.main_arg4)
          ∧ r.2.mem ((c.tc : Thread Cert.PleFirstIdeal.nD Cert.PleFirstIdeal.τ).loc Cert.PleFirstIdeal.main_arg5) = m ((c.tc : Thread Cert.PleFirstIdeal.nD Cert.PleFirstIdeal.τ).loc Cert.PleFirstIdeal.main_arg5))
      ∧ θ_run (Cert.PleFirstReferenceIdeal.defs (F := Ideal)) (onTc (τ := Cert.PleFirstReferenceIdeal.τ) (Cert.PleFirstReferenceIdeal.main (F := Ideal))) ⟨m', fun _ => 0, g'⟩ (fun r => ∀ c : Dev Cert.PleFirstReferenceIdeal.nD,
          r.2.mem ((c.tc : Thread Cert.PleFirstReferenceIdeal.nD Cert.PleFirstReferenceIdeal.τ).loc Cert.PleFirstReferenceIdeal.main_v24) = v0 c
          ∧ r.2.mem ((c.tc : Thread Cert.PleFirstReferenceIdeal.nD Cert.PleFirstReferenceIdeal.τ).loc Cert.PleFirstReferenceIdeal.main_arg0) = m' ((c.tc : Thread Cert.PleFirstReferenceIdeal.nD Cert.PleFirstReferenceIdeal.τ).loc Cert.PleFirstReferenceIdeal.main_arg0)
          ∧ r.2.mem ((c.tc : Thread Cert.PleFirstReferenceIdeal.nD Cert.PleFirstReferenceIdeal.τ).loc Cert.PleFirstReferenceIdeal.main_arg1) = m' ((c.tc : Thread Cert.PleFirstReferenceIdeal.nD Cert.PleFirstReferenceIdeal.τ).loc Cert.PleFirstReferenceIdeal.main_arg1)
          ∧ r.2.mem ((c.tc : Thread Cert.PleFirstReferenceIdeal.nD Cert.PleFirstReferenceIdeal.τ).loc Cert.PleFirstReferenceIdeal.main_arg2) = m' ((c.tc : Thread Cert.PleFirstReferenceIdeal.nD Cert.PleFirstReferenceIdeal.τ).loc Cert.PleFirstReferenceIdeal.main_arg2)
          ∧ r.2.mem ((c.tc : Thread Cert.PleFirstReferenceIdeal.nD Cert.PleFirstReferenceIdeal.τ).loc Cert.PleFirstReferenceIdeal.main_arg3) = m' ((c.tc : Thread Cert.PleFirstReferenceIdeal.nD Cert.PleFirstReferenceIdeal.τ).loc Cert.PleFirstReferenceIdeal.main_arg3)
          ∧ r.2.mem ((c.tc : Thread Cert.PleFirstReferenceIdeal.nD Cert.PleFirstReferenceIdeal.τ).loc Cert.PleFirstReferenceIdeal.main_arg4) = m' ((c.tc : Thread Cert.PleFirstReferenceIdeal.nD Cert.PleFirstReferenceIdeal.τ).loc Cert.PleFirstReferenceIdeal.main_arg4)
          ∧ r.2.mem ((c.tc : Thread Cert.PleFirstReferenceIdeal.nD Cert.PleFirstReferenceIdeal.τ).loc Cert.PleFirstReferenceIdeal.main_arg5) = m' ((c.tc : Thread Cert.PleFirstReferenceIdeal.nD Cert.PleFirstReferenceIdeal.τ).loc Cert.PleFirstReferenceIdeal.main_arg5))

def Claim : Prop :=
  ∃ (hRglru : Cert.Rglru.Facts) (hRglruIdeal : Cert.RglruIdeal.Facts) (hRglruReferenceIdeal : Cert.RglruReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hPle : Cert.Ple.Facts) (hPleIdeal : Cert.PleIdeal.Facts) (hPleReferenceIdeal : Cert.PleReferenceIdeal.Facts) (hGmlp : Cert.Gmlp.Facts) (hGmlpIdeal : Cert.GmlpIdeal.Facts) (hGmlpReferenceIdeal : Cert.GmlpReferenceIdeal.Facts) (hRoute : Cert.Route.Facts) (hRouteIdeal : Cert.RouteIdeal.Facts) (hRouteReferenceIdeal : Cert.RouteReferenceIdeal.Facts) (hPleFirst : Cert.PleFirst.Facts) (hPleFirstIdeal : Cert.PleFirstIdeal.Facts) (hPleFirstReferenceIdeal : Cert.PleFirstReferenceIdeal.Facts),
    quiescent_Rglru (hRglru := hRglru)
    ∧ quiescent_RglruIdeal (hRglruIdeal := hRglruIdeal)
    ∧ quiescent_RglruReferenceIdeal (hRglruReferenceIdeal := hRglruReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Ple (hPle := hPle)
    ∧ quiescent_PleIdeal (hPleIdeal := hPleIdeal)
    ∧ quiescent_PleReferenceIdeal (hPleReferenceIdeal := hPleReferenceIdeal)
    ∧ quiescent_Gmlp (hGmlp := hGmlp)
    ∧ quiescent_GmlpIdeal (hGmlpIdeal := hGmlpIdeal)
    ∧ quiescent_GmlpReferenceIdeal (hGmlpReferenceIdeal := hGmlpReferenceIdeal)
    ∧ quiescent_Route (hRoute := hRoute)
    ∧ quiescent_RouteIdeal (hRouteIdeal := hRouteIdeal)
    ∧ quiescent_RouteReferenceIdeal (hRouteReferenceIdeal := hRouteReferenceIdeal)
    ∧ quiescent_PleFirst (hPleFirst := hPleFirst)
    ∧ quiescent_PleFirstIdeal (hPleFirstIdeal := hPleFirstIdeal)
    ∧ quiescent_PleFirstReferenceIdeal (hPleFirstReferenceIdeal := hPleFirstReferenceIdeal)
    ∧ preserves_Rglru_RglruIdeal
    ∧ algebraic_RglruIdeal_RglruReferenceIdeal (hRglruIdeal := hRglruIdeal) (hRglruReferenceIdeal := hRglruReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Ple_PleIdeal
    ∧ algebraic_PleIdeal_PleReferenceIdeal (hPleIdeal := hPleIdeal) (hPleReferenceIdeal := hPleReferenceIdeal)
    ∧ preserves_Gmlp_GmlpIdeal
    ∧ algebraic_GmlpIdeal_GmlpReferenceIdeal (hGmlpIdeal := hGmlpIdeal) (hGmlpReferenceIdeal := hGmlpReferenceIdeal)
    ∧ preserves_Route_RouteIdeal
    ∧ algebraic_RouteIdeal_RouteReferenceIdeal (hRouteIdeal := hRouteIdeal) (hRouteReferenceIdeal := hRouteReferenceIdeal)
    ∧ preserves_PleFirst_PleFirstIdeal
    ∧ algebraic_PleFirstIdeal_PleFirstReferenceIdeal (hPleFirstIdeal := hPleFirstIdeal) (hPleFirstReferenceIdeal := hPleFirstReferenceIdeal)
-- ==== Rglru.lean ====
abbrev S32768x3328 : Shape := ⟨2, ![32768, 3328]⟩
abbrev S4x256 : Shape := ⟨2, ![4, 256]⟩
abbrev S256 : Shape := ⟨1, ![256]⟩
abbrev S4x64x64 : Shape := ⟨3, ![4, 64, 64]⟩
abbrev S1x256 : Shape := ⟨2, ![1, 256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S32768x256 : Shape := ⟨2, ![32768, 256]⟩
abbrev S256x512 : Shape := ⟨2, ![256, 512]⟩
abbrev S264x256 : Shape := ⟨2, ![264, 256]⟩
abbrev S8x256 : Shape := ⟨2, ![8, 256]⟩

abbrev nBuf : Space → Nat
  | .hbm => 59
  | .vmem => 13
  | .smem => 0
  | _ => 0

abbrev bufTy : (tb : Table) → Fin (tcTables nBuf tb) → BufTy
  | .hbm, ⟨0, _⟩ => ⟨S32768x3328, .f32⟩
  | .hbm, ⟨1, _⟩ => ⟨S4x256, .f32⟩
  | .hbm, ⟨2, _⟩ => ⟨S256, .f32⟩
  | .hbm, ⟨3, _⟩ => ⟨S4x64x64, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S1x256, .f32⟩
  | .hbm, ⟨9, _⟩ => ⟨S_, .f32⟩
  | .hbm, ⟨10, _⟩ => ⟨S256x256, .f32⟩
  | .hbm, ⟨11, _⟩ => ⟨S1x64x64, .f32⟩
  | .hbm, ⟨12, _⟩ => ⟨S64x64, .f32⟩
  | .hbm, ⟨13, _⟩ => ⟨S_, .i32⟩
  | .hbm, ⟨14, _⟩ => ⟨S_, .i32⟩
  | .hbm, ⟨15, _⟩ => ⟨S256x256, .f32⟩
  | .hbm, ⟨16, _⟩ => ⟨S1x64x64, .f32⟩
  | .hbm, ⟨17, _⟩ => ⟨S64x64, .f32⟩
  | .hbm, ⟨18, _⟩ => ⟨S_, .i32⟩
  | .hbm, ⟨19, _⟩ => ⟨S_, .i32⟩
  | .hbm, ⟨20, _⟩ => ⟨S256x256, .f32⟩
  | .hbm, ⟨21, _⟩ => ⟨S1x64x64, .f32⟩
  | .hbm, ⟨22, _⟩ => ⟨S64x64, .f32⟩
  | .hbm, ⟨23, _⟩ => ⟨S_, .i32⟩
  | .hbm, ⟨24, _⟩ => ⟨S_, .i32⟩
  | .hbm, ⟨25, _⟩ => ⟨S256x256, .f32⟩
  | .hbm, ⟨26, _⟩ => ⟨S1x64x64, .f32⟩
  | .hbm, ⟨27, _⟩ => ⟨S64x64, .f32⟩
  | .hbm, ⟨28, _⟩ => ⟨S_, .i32⟩
  | .hbm, ⟨29, _⟩ => ⟨S_, .i32⟩
  | .hbm, ⟨30, _⟩ => ⟨S256x256, .f32⟩
  | .hbm, ⟨31, _⟩ => ⟨S256x256, .bf16⟩
  | .hbm, ⟨32, _⟩ => ⟨S1x256, .f32⟩
  | .hbm, ⟨33, _⟩ => ⟨S_, .f32⟩
  | .hbm, ⟨34, _⟩ => ⟨S256x256, .f32⟩
  | .hbm, ⟨35, _⟩ => ⟨S1x64x64, .f32⟩
  | .hbm, ⟨36, _⟩ => ⟨S64x64, .f32⟩
  | .hbm, ⟨37, _⟩ => ⟨S_, .i32⟩
  | .hbm, ⟨38, _⟩ => ⟨S_, .i32⟩
  | .hbm, ⟨39, _⟩ => ⟨S256x256, .f32⟩
  | .hbm, ⟨40, _⟩ => ⟨S1x64x64, .f32⟩
  | .hbm, ⟨41, _⟩ => ⟨S64x64, .f32⟩
  | .hbm, ⟨42, _⟩ => ⟨S_, .i32⟩
  | .hbm, ⟨43, _⟩ => ⟨S_, .i32⟩
  | .hbm, ⟨44, _⟩ => ⟨S256x256, .f32⟩
  | .hbm, ⟨45, _⟩ => ⟨S1x64x64, .f32⟩
  | .hbm, ⟨46, _⟩ => ⟨S64x64, .f32⟩
  | .hbm, ⟨47, _⟩ => ⟨S_, .i32⟩
  | .hbm, ⟨48, _⟩ => ⟨S_, .i32⟩
  | .hbm, ⟨49, _⟩ => ⟨S256x256, .f32⟩
  | .hbm, ⟨50, _⟩ => ⟨S1x64x64, .f32⟩
  | .hbm, ⟨51, _⟩ => ⟨S64x64, .f32⟩
  | .hbm, ⟨52, _⟩ => ⟨S_, .i32⟩
  | .hbm, ⟨53, _⟩ => ⟨S_, .i32⟩
  | .hbm, ⟨54, _⟩ => ⟨S256x256, .f32⟩
  | .hbm, ⟨55, _⟩ => ⟨S256x256, .bf16⟩
  | .hbm, ⟨56, _⟩ => ⟨S1x256, .f32⟩
  | .hbm, ⟨57, _⟩ => ⟨S1x256, .f32⟩
  | .hbm, ⟨58, _⟩ => ⟨S32768x256, .f32⟩
  | .local _ .vmem, ⟨0, _⟩ => ⟨S256x512, .f32⟩
  | .local _ .vmem, ⟨1, _⟩ => ⟨S256x512, .f32⟩
  | .local _ .vmem, ⟨2, _⟩ => ⟨S4x256, .f32⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S264x256, .f32⟩
  | .local _ .vmem, ⟨12, _⟩ => ⟨S8x256, .f32⟩
  | _, _ => ⟨S32768x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_8 : Ref sig .tc := ⟨.hbm, 37, rfl⟩
abbrev main_c_9 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_10 : Ref sig .tc := ⟨.hbm, 42, rfl⟩
abbrev main_c_11 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_12 : Ref sig .tc := ⟨.hbm, 47, rfl⟩
abbrev main_c_13 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_14 : Ref sig .tc := ⟨.hbm, 52, rfl⟩
abbrev main_c_15 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RglruReferenceIdeal.lean ====
abbrev S32768x3328 : Shape := ⟨2, ![32768, 3328]⟩
abbrev S4x256 : Shape := ⟨2, ![4, 256]⟩
abbrev S256 : Shape := ⟨1, ![256]⟩
abbrev S4x64x64 : Shape := ⟨3, ![4, 64, 64]⟩
abbrev S32768x256 : Shape := ⟨2, ![32768, 256]⟩
abbrev S8x4096x256 : Shape := ⟨3, ![8, 4096, 256]⟩
abbrev S_ : Shape := ⟨0, ![]⟩
abbrev S8x4099x256 : Shape := ⟨3, ![8, 4099, 256]⟩
abbrev S1x256 : Shape := ⟨2, ![1, 256]⟩
abbrev S1x1x256 : Shape := ⟨3, ![1, 1, 256]⟩
abbrev S8x4096x4x64 : Shape := ⟨4, ![8, 4096, 4, 64]⟩
abbrev S4x64x8x4096 : Shape := ⟨4, ![4, 64, 8, 4096]⟩
abbrev S8x256 : Shape := ⟨2, ![8, 256]⟩
abbrev S4096x8x256 : Shape := ⟨3, ![4096, 8, 256]⟩
abbrev S1x8x256 : Shape := ⟨3, ![1, 8, 256]⟩

abbrev nBuf : Space → Nat
  | .hbm => 162
  | .vmem => 0
  | .smem => 0
  | _ => 0

abbrev hbmTy0_0 (i : Nat) : BufTy := match i % 128 with
  | 0 => ⟨S32768x3328, .f32⟩
  | 1 => ⟨S4x256, .f32⟩
  | 2 => ⟨S256, .f32⟩
  | 3 => ⟨S4x64x64, .f32⟩
  | 4 => ⟨S256, .f32⟩
  | 5 => ⟨S4x64x64, .f32⟩
  | 6 => ⟨S256, .f32⟩
  | 7 => ⟨S256, .f32⟩
  | 8 => ⟨S32768x256, .f32⟩
  | 9 => ⟨S8x4096x256, .f32⟩
  | 10 => ⟨S_, .i32⟩
  | 11 => ⟨S_, .f32⟩
  | 12 => ⟨S8x4099x256, .f32⟩
  | 13 => ⟨S1x256, .f32⟩
  | 14 => ⟨S256, .f32⟩
  | 15 => ⟨S8x4096x256, .f32⟩
  | 16 => ⟨S1x1x256, .f32⟩
  | 17 => ⟨S8x4096x256, .f32⟩
  | 18 => ⟨S8x4096x256, .f32⟩
  | 19 => ⟨S1x256, .f32⟩
  | 20 => ⟨S256, .f32⟩
  | 21 => ⟨S8x4096x256, .f32⟩
  | 22 => ⟨S1x1x256, .f32⟩
  | 23 => ⟨S8x4096x256, .f32⟩
  | 24 => ⟨S8x4096x256, .f32⟩
  | 25 => ⟨S8x4096x256, .f32⟩
  | 26 => ⟨S1x256, .f32⟩
  | 27 => ⟨S256, .f32⟩
  | 28 => ⟨S8x4096x256, .f32⟩
  | 29 => ⟨S1x1x256, .f32⟩
  | 30 => ⟨S8x4096x256, .f32⟩
  | 31 => ⟨S8x4096x256, .f32⟩
  | 32 => ⟨S8x4096x256, .f32⟩
  | 33 => ⟨S1x256, .f32⟩
  | 34 => ⟨S256, .f32⟩
  | 35 => ⟨S8x4096x256, .f32⟩
  | 36 => ⟨S1x1x256, .f32⟩
  | 37 => ⟨S8x4096x256, .f32⟩
  | 38 => ⟨S8x4096x256, .f32⟩
  | 39 => ⟨S8x4096x256, .f32⟩
  | 40 => ⟨S1x1x256, .f32⟩
  | 41 => ⟨S8x4096x256, .f32⟩
  | 42 => ⟨S8x4096x256, .f32⟩
  | 43 => ⟨S8x4096x4x64, .f32⟩
  | 44 => ⟨S4x64x8x4096, .f32⟩
  | 45 => ⟨S8x4096x4x64, .f32⟩
  | 46 => ⟨S8x4096x256, .f32⟩
  | 47 => ⟨S1x1x256, .f32⟩
  | 48 => ⟨S8x4096x256, .f32⟩
  | 49 => ⟨S8x4096x256, .f32⟩
  | 50 => ⟨S8x4096x256, .f32⟩
  | 51 => ⟨S8x4096x256, .f32⟩
  | 52 => ⟨S_, .f32⟩
  | 53 => ⟨S8x4096x256, .f32⟩
  | 54 => ⟨S8x4096x256, .f32⟩
  | 55 => ⟨S_, .f32⟩
  | 56 => ⟨S8x4096x256, .f32⟩
  | 57 => ⟨S8x4096x256, .f32⟩
  | 58 => ⟨S4x64x8x4096, .f32⟩
  | 59 => ⟨S8x4096x4x64, .f32⟩
  | 60 => ⟨S8x4096x256, .f32⟩
  | 61 => ⟨S1x1x256, .f32⟩
  | 62 => ⟨S8x4096x256, .f32⟩
  | 63 => ⟨S8x4096x256, .f32⟩
  | 64 => ⟨S8x4096x256, .f32⟩
  | 65 => ⟨S8x4096x256, .f32⟩
  | 66 => ⟨S_, .f32⟩
  | 67 => ⟨S8x4096x256, .f32⟩
  | 68 => ⟨S8x4096x256, .f32⟩
  | 69 => ⟨S_, .f32⟩
  | 70 => ⟨S8x4096x256, .f32⟩
  | 71 => ⟨S8x4096x256, .f32⟩
  | 72 => ⟨S_, .f32⟩
  | 73 => ⟨S8x4096x256, .f32⟩
  | 74 => ⟨S8x4096x256, .f32⟩
  | 75 => ⟨S256, .f32⟩
  | 76 => ⟨S_, .f32⟩
  | 77 => ⟨S256, .f32⟩
  | 78 => ⟨S256, .f32⟩
  | 79 => ⟨S256, .f32⟩
  | 80 => ⟨S256, .f32⟩
  | 81 => ⟨S256, .i1⟩
  | 82 => ⟨S256, .f32⟩
  | 83 => ⟨S256, .f32⟩
  | 84 => ⟨S256, .f32⟩
  | 85 => ⟨S256, .f32⟩
  | 86 => ⟨S256, .f32⟩
  | 87 => ⟨S256, .f32⟩
  | 88 => ⟨S256, .f32⟩
  | 89 => ⟨S256, .f32⟩
  | 90 => ⟨S1x1x256, .f32⟩
  | 91 => ⟨S8x4096x256, .f32⟩
  | 92 => ⟨S8x4096x256, .f32⟩
  | 93 => ⟨S8x4096x256, .f32⟩
  | 94 => ⟨S_, .f32⟩
  | 95 => ⟨S8x4096x256, .f32⟩
  | 96 => ⟨S8x4096x256, .f32⟩
  | 97 => ⟨S8x4096x256, .f32⟩
  | 98 => ⟨S8x4096x256, .f32⟩
  | 99 => ⟨S8x4096x256, .f32⟩
  | 100 => ⟨S8x4096x256, .i32⟩
  | 101 => ⟨S_, .i32⟩
  | 102 => ⟨S8x4096x256, .i32⟩
  | 103 => ⟨S8x4096x256, .i1⟩
  | 104 => ⟨S_, .f32⟩
  | 105 => ⟨S_, .f32⟩
  | 106 => ⟨S8x4096x256, .f32⟩
  | 107 => ⟨S8x4096x256, .f32⟩
  | 108 => ⟨S8x4096x256, .f32⟩
  | 109 => ⟨S8x4096x256, .f32⟩
  | 110 => ⟨S_, .f32⟩
  | 111 => ⟨S8x256, .f32⟩
  | 112 => ⟨S4096x8x256, .f32⟩
  | 113 => ⟨S4096x8x256, .f32⟩
  | 114 => ⟨S_, .f32⟩
  | 115 => ⟨S4096x8x256, .f32⟩
  | 116 => ⟨S_, .i32⟩
  | 117 => ⟨S4096x8x256, .f32⟩
  | 118 => ⟨S4096x8x256, .f32⟩
  | 119 => ⟨S_, .i32⟩
  | 120 => ⟨S8x256, .f32⟩
  | 121 => ⟨S4096x8x256, .f32⟩
  | 122 => ⟨S_, .i32⟩
  | 123 => ⟨S_, .i1⟩
  | 124 => ⟨S_, .i32⟩
  | 125 => ⟨S_, .i32⟩
  | 126 => ⟨S1x8x256, .f32⟩
  | 127 => ⟨S8x256, .f32⟩
  | _ => ⟨S32768x3328, .f32⟩

abbrev hbmTy0_1 (i : Nat) : BufTy := match i % 128 with
  | 0 => ⟨S_, .i32⟩
  | 1 => ⟨S_, .i32⟩
  | 2 => ⟨S1x8x256, .f32⟩
  | 3 => ⟨S8x256, .f32⟩
  | 4 => ⟨S8x256, .f32⟩
  | 5 => ⟨S8x256, .f32⟩
  | 6 => ⟨S1x8x256, .f32⟩
  | 7 => ⟨S_, .i32⟩
  | 8 => ⟨S_, .i32⟩
  | 9 => ⟨S4096x8x256, .f32⟩
  | 10 => ⟨S_, .i32⟩
  | 11 => ⟨S_, .i32⟩
  | 12 => ⟨S32768x256, .f32⟩
  | 13 => ⟨S8x4096x256, .f32⟩
  | 14 => ⟨S8x4096x256, .f32⟩
  | 15 => ⟨S8x4096x256, .f32⟩
  | 16 => ⟨S8x4096x256, .f32⟩
  | 17 => ⟨S_, .f32⟩
  | 18 => ⟨S8x4096x256, .f32⟩
  | 19 => ⟨S8x4096x256, .f32⟩
  | 20 => ⟨S8x4096x256, .f32⟩
  | 21 => ⟨S_, .f32⟩
  | 22 => ⟨S8x4096x256, .f32⟩
  | 23 => ⟨S8x4096x256, .f32⟩
  | 24 => ⟨S8x4096x256, .f32⟩
  | 25 => ⟨S_, .f32⟩
  | 26 => ⟨S8x4096x256, .f32⟩
  | 27 => ⟨S8x4096x256, .f32⟩
  | 28 => ⟨S_, .f32⟩
  | 29 => ⟨S8x4096x256, .f32⟩
  | 30 => ⟨S8x4096x256, .f32⟩
  | 31 => ⟨S8x4096x256, .f32⟩
  | 32 => ⟨S8x4096x256, .f32⟩
  | 33 => ⟨S32768x256, .f32⟩
  | _ => ⟨S32768x3328, .f32⟩

abbrev hbmTy (i : Nat) : BufTy := match i / 128 with
  | 0 => hbmTy0_0 i
  | 1 => hbmTy0_1 i
  | _ => ⟨S32768x3328, .f32⟩

abbrev bufTy : (tb : Table) → Fin (tcTables nBuf tb) → BufTy
  | .hbm, ⟨i, _⟩ => hbmTy i
  | _, _ => ⟨S32768x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_5 : Ref sig .tc := ⟨.hbm, 101, rfl⟩
abbrev main_v72 : Ref sig .tc := ⟨.hbm, 102, rfl⟩
abbrev main_v73 : Ref sig .tc := ⟨.hbm, 103, rfl⟩
abbrev main_cst_6 : Ref sig .tc := ⟨.hbm, 104, rfl⟩
abbrev main_call2_v0 : Ref sig .tc := ⟨.hbm, 105, rfl⟩
abbrev main_call2_v1 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_7 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_8 : Ref sig .tc := ⟨.hbm, 114, rfl⟩
abbrev main_v80 : Ref sig .tc := ⟨.hbm, 115, rfl⟩
abbrev main_c_9 : Ref sig .tc := ⟨.hbm, 116, rfl⟩
abbrev main_v81_0 : Ref sig .tc := ⟨.hbm, 117, rfl⟩
abbrev main_v81_1 : Ref sig .tc := ⟨.hbm, 118, rfl⟩
abbrev main_v81_2 : Ref sig .tc := ⟨.hbm, 119, rfl⟩
abbrev main_v81_3 : Ref sig .tc := ⟨.hbm, 120, rfl⟩
abbrev main_v81_4 : Ref sig .tc := ⟨.hbm, 121, rfl⟩
abbrev main_while0c_c_18 : Ref sig .tc := ⟨.hbm, 122, rfl⟩
abbrev main_while0c_v100 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_call3_v0 : Ref sig .tc := ⟨.hbm, 126, rfl⟩
abbrev main_while0b_v100 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_v0 : Ref sig .tc := ⟨.hbm, 130, rfl⟩
abbrev main_while0b_v101 : Ref sig .tc := ⟨.hbm, 131, rfl⟩
abbrev main_while0b_v102 : Ref sig .tc := ⟨.hbm, 132, rfl⟩
abbrev main_while0b_v103 : Ref sig .tc := ⟨.hbm, 133, rfl⟩
abbrev main_while0b_call5_v0 : Ref sig .tc := ⟨.hbm, 134, rfl⟩
abbrev main_while0b_call5_c : Ref sig .tc := ⟨.hbm, 135, rfl⟩
abbrev main_while0b_call5_c_0 : Ref sig .tc := ⟨.hbm, 136, rfl⟩
abbrev main_while0b_v104 : Ref sig .tc := ⟨.hbm, 137, rfl⟩
abbrev main_while0b_c_18 : Ref sig .tc := ⟨.hbm, 138, rfl⟩
abbrev main_while0b_v105 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_10 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_11 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_12 : Ref sig .tc := ⟨.hbm, 153, rfl⟩
abbrev main_v93 : Ref sig .tc := ⟨.hbm, 154, rfl⟩
abbrev main_v94 : Ref sig .tc := ⟨.hbm, 155, rfl⟩
abbrev main_cst_13 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩

abbrev nD : Nat := 1
abbrev τ : Topo := Topo.v7x

variable {F : FTy → Type} [FloatOps F]

abbrev main_while0_count : Scf.Loop 32 := ⟨0#32, 4096#32, 1#32⟩
-- ==== InProj.lean ====
abbrev S32768x1024 : Shape := ⟨2, ![32768, 1024]⟩
abbrev S1024 : Shape := ⟨1, ![1024]⟩
abbrev S1024x3080 : Shape := ⟨2, ![1024, 3080]⟩
abbrev S1x1024 : Shape := ⟨2, ![1, 1024]⟩
abbrev S1024x3072 : Shape := ⟨2, ![1024, 3072]⟩
abbrev S1024x4 : Shape := ⟨2, ![1024, 4]⟩
abbrev S_ : Shape := ⟨0, ![]⟩
abbrev S1024x128 : Shape := ⟨2, ![1024, 128]⟩
abbrev S1024x3328 : Shape := ⟨2, ![1024, 3328]⟩
abbrev S32768x3328 : Shape := ⟨2, ![32768, 3328]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩

abbrev nBuf : Space → Nat
  | .hbm => 16
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3080, .f32⟩
  | .hbm, ⟨3, _⟩ => ⟨S1x1024, .f32⟩
  | .hbm, ⟨4, _⟩ => ⟨S1024x3072, .f32⟩
  | .hbm, ⟨5, _⟩ => ⟨S1024x4, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x4, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x3328, .f32⟩
  | .hbm, ⟨14, _⟩ => ⟨S1024x3328, .bf16⟩
  | .hbm, ⟨15, _⟩ => ⟨S32768x3328, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x3328, .f32⟩
  | .local _ .vmem, ⟨5, _⟩ => ⟨S512x3328, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjReferenceIdeal.lean ====
abbrev S32768x1024 : Shape := ⟨2, ![32768, 1024]⟩
abbrev S1024 : Shape := ⟨1, ![1024]⟩
abbrev S1024x3080 : Shape := ⟨2, ![1024, 3080]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3080 : Shape := ⟨2, ![32768, 3080]⟩
abbrev S32768x124 : Shape := ⟨2, ![32768, 124]⟩
abbrev S32768x3076 : Shape := ⟨2, ![32768, 3076]⟩
abbrev S32768x4 : Shape := ⟨2, ![32768, 4]⟩
abbrev S32768x3328 : Shape := ⟨2, ![32768, 3328]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3080, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3080, .f32⟩
  | .hbm, ⟨20, _⟩ => ⟨S_, .f32⟩
  | .hbm, ⟨21, _⟩ => ⟨S32768x124, .f32⟩
  | .hbm, ⟨22, _⟩ => ⟨S32768x3076, .f32⟩
  | .hbm, ⟨23, _⟩ => ⟨S32768x4, .f32⟩
  | .hbm, ⟨24, _⟩ => ⟨S32768x3328, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutProj.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x512, .f32⟩
  | .hbm, ⟨4, _⟩ => ⟨S1024x1024, .f32⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S512x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S256x1024, .bf16⟩
  | .local _ .vmem, ⟨9, _⟩ => ⟨S256x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x512, .f32⟩
  | .hbm, ⟨4, _⟩ => ⟨S1024x1024, .f32⟩
  | .hbm, ⟨5, _⟩ => ⟨S32768x1024, .f32⟩
  | .hbm, ⟨6, _⟩ => ⟨S32768x1024, .f32⟩
  | .hbm, ⟨7, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Ple.lean ====
abbrev S32768x1024 : Shape := ⟨2, ![32768, 1024]⟩
abbrev S2x32768x256 : Shape := ⟨3, ![2, 32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S2x32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S32768x1024 : Shape := ⟨2, ![32768, 1024]⟩
abbrev S2x32768x256 : Shape := ⟨3, ![2, 32768, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x32768x256 : Shape := ⟨3, ![1, 32768, 256]⟩
abbrev S32768x256 : Shape := ⟨2, ![32768, 256]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S1x32768x256, .f32⟩
  | .hbm, ⟨32, _⟩ => ⟨S32768x256, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Gmlp.lean ====
abbrev S32768x3328 : Shape := ⟨2, ![32768, 3328]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S32768x256 : Shape := ⟨2, ![32768, 256]⟩
abbrev S512x512 : Shape := ⟨2, ![512, 512]⟩
abbrev S512x256 : Shape := ⟨2, ![512, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 11
  | .vmem => 8
  | .smem => 0
  | _ => 0

abbrev bufTy : (tb : Table) → Fin (tcTables nBuf tb) → BufTy
  | .hbm, ⟨0, _⟩ => ⟨S32768x3328, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S1x256, .f32⟩
  | .hbm, ⟨10, _⟩ => ⟨S32768x256, .f32⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S128x256, .f32⟩
  | .local _ .vmem, ⟨6, _⟩ => ⟨S512x256, .f32⟩
  | .local _ .vmem, ⟨7, _⟩ => ⟨S512x256, .f32⟩
  | _, _ => ⟨S32768x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpReferenceIdeal.lean ====
abbrev S32768x3328 : Shape := ⟨2, ![32768, 3328]⟩
abbrev S256 : Shape := ⟨1, ![256]⟩
abbrev S4x128x128 : Shape := ⟨3, ![4, 128, 128]⟩
abbrev S4x128 : Shape := ⟨2, ![4, 128]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x256 : Shape := ⟨2, ![1, 256]⟩
abbrev S256x128x4x64 : Shape := ⟨4, ![256, 128, 4, 64]⟩
abbrev S128x128 : Shape := ⟨2, ![128, 128]⟩
abbrev S1x128x128 : Shape := ⟨3, ![1, 128, 128]⟩
abbrev S4x256x64x128 : Shape := ⟨4, ![4, 256, 64, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 94
  | .vmem => 0
  | .smem => 0
  | _ => 0

abbrev bufTy : (tb : Table) → Fin (tcTables nBuf tb) → BufTy
  | .hbm, ⟨0, _⟩ => ⟨S32768x3328, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S_, .f32⟩
  | .hbm, ⟨9, _⟩ => ⟨S32768x256, .f32⟩
  | .hbm, ⟨10, _⟩ => ⟨S32768x256, .f32⟩
  | .hbm, ⟨11, _⟩ => ⟨S32768x256, .f32⟩
  | .hbm, ⟨12, _⟩ => ⟨S_, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S_, .f32⟩
  | .hbm, ⟨17, _⟩ => ⟨S32768x256, .f32⟩
  | .hbm, ⟨18, _⟩ => ⟨S32768x256, .f32⟩
  | .hbm, ⟨19, _⟩ => ⟨S_, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S_, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S_, .f32⟩
  | .hbm, ⟨35, _⟩ => ⟨S32768x256, .f32⟩
  | .hbm, ⟨36, _⟩ => ⟨S32768x256, .f32⟩
  | .hbm, ⟨37, _⟩ => ⟨S_, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x256, .f32⟩
  | .hbm, ⟨57, _⟩ => ⟨S32768x256, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x256, .f32⟩
  | .hbm, ⟨63, _⟩ => ⟨S32768x256, .f32⟩
  | .hbm, ⟨64, _⟩ => ⟨S1x256, .f32⟩
  | .hbm, ⟨65, _⟩ => ⟨S32768x256, .f32⟩
  | .hbm, ⟨66, _⟩ => ⟨S32768x256, .f32⟩
  | .hbm, ⟨67, _⟩ => ⟨S1x256, .f32⟩
  | .hbm, ⟨68, _⟩ => ⟨S32768x256, .f32⟩
  | .hbm, ⟨69, _⟩ => ⟨S32768x256, .f32⟩
  | .hbm, ⟨70, _⟩ => ⟨S256x128x4x64, .f32⟩
  | .hbm, ⟨71, _⟩ => ⟨S_, .f32⟩
  | .hbm, ⟨72, _⟩ => ⟨S128x128, .f32⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .f32⟩
  | .hbm, ⟨80, _⟩ => ⟨S128x128, .f32⟩
  | .hbm, ⟨81, _⟩ => ⟨S128x128, .f32⟩
  | .hbm, ⟨82, _⟩ => ⟨S1x128x128, .f32⟩
  | .hbm, ⟨83, _⟩ => ⟨S4x128x128, .f32⟩
  | .hbm, ⟨84, _⟩ => ⟨S4x128x128, .f32⟩
  | .hbm, ⟨85, _⟩ => ⟨S4x256x64x128, .f32⟩
  | .hbm, ⟨86, _⟩ => ⟨S256x128x4x64, .f32⟩
  | .hbm, ⟨87, _⟩ => ⟨S128x4, .f32⟩
  | .hbm, ⟨88, _⟩ => ⟨S128x4x1, .f32⟩
  | .hbm, ⟨89, _⟩ => ⟨S1x128x4x1, .f32⟩
  | .hbm, ⟨90, _⟩ => ⟨S256x128x4x64, .f32⟩
  | .hbm, ⟨91, _⟩ => ⟨S256x128x4x64, .f32⟩
  | .hbm, ⟨92, _⟩ => ⟨S32768x256, .f32⟩
  | .hbm, ⟨93, _⟩ => ⟨S32768x256, .f32⟩
  | _, _ => ⟨S32768x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_cst : Ref sig .tc := ⟨.hbm, 79, rfl⟩
abbrev main_call0_v5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Route.lean ====
abbrev S32768x1024 : Shape := ⟨2, ![32768, 1024]⟩
abbrev S1024 : Shape := ⟨1, ![1024]⟩
abbrev S1024x2048 : Shape := ⟨2, ![1024, 2048]⟩
abbrev S8x2x128x128 : Shape := ⟨4, ![8, 2, 128, 128]⟩
abbrev S8x1x128x128 : Shape := ⟨4, ![8, 1, 128, 128]⟩
abbrev S8x128x128 : Shape := ⟨3, ![8, 128, 128]⟩
abbrev S_ : Shape := ⟨0, ![]⟩
abbrev S8x128x256 : Shape := ⟨3, ![8, 128, 256]⟩
abbrev S8x256x256 : Shape := ⟨3, ![8, 256, 256]⟩
abbrev S1x1024 : Shape := ⟨2, ![1, 1024]⟩
abbrev S1024x8x256 : Shape := ⟨3, ![1024, 8, 256]⟩
abbrev S8x1024x256 : Shape := ⟨3, ![8, 1024, 256]⟩
abbrev S8x128x32768 : Shape := ⟨3, ![8, 128, 32768]⟩
abbrev S512x1024 : Shape := ⟨2, ![512, 1024]⟩
abbrev S8x128x512 : Shape := ⟨3, ![8, 128, 512]⟩
abbrev S2x512x1024 : Shape := ⟨3, ![2, 512, 1024]⟩
abbrev S2x8x512x256 : Shape := ⟨4, ![2, 8, 512, 256]⟩
abbrev S512 : Shape := ⟨1, ![512]⟩
abbrev S512x1 : Shape := ⟨2, ![512, 1]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x1x512x256 : Shape := ⟨4, ![1, 1, 512, 256]⟩
abbrev S8x512 : Shape := ⟨2, ![8, 512]⟩
abbrev S1x256x256 : Shape := ⟨3, ![1, 256, 256]⟩
abbrev S256x256 : Shape := ⟨2, ![256, 256]⟩
abbrev S256x512 : Shape := ⟨2, ![256, 512]⟩
abbrev S128x512 : Shape := ⟨2, ![128, 512]⟩
abbrev S16x8x512 : Shape := ⟨3, ![16, 8, 512]⟩
abbrev S1x8x512 : Shape := ⟨3, ![1, 8, 512]⟩
abbrev S1x128x512 : Shape := ⟨3, ![1, 128, 512]⟩

abbrev nBuf : Space → Nat
  | .hbm => 25
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S8x2x128x128, .f32⟩
  | .hbm, ⟨4, _⟩ => ⟨S8x1x128x128, .f32⟩
  | .hbm, ⟨5, _⟩ => ⟨S8x128x128, .f32⟩
  | .hbm, ⟨6, _⟩ => ⟨S_, .f32⟩
  | .hbm, ⟨7, _⟩ => ⟨S8x128x128, .f32⟩
  | .hbm, ⟨8, _⟩ => ⟨S8x1x128x128, .f32⟩
  | .hbm, ⟨9, _⟩ => ⟨S8x128x128, .f32⟩
  | .hbm, ⟨10, _⟩ => ⟨S8x128x256, .f32⟩
  | .hbm, ⟨11, _⟩ => ⟨S8x1x128x128, .f32⟩
  | .hbm, ⟨12, _⟩ => ⟨S8x128x128, .f32⟩
  | .hbm, ⟨13, _⟩ => ⟨S8x128x256, .f32⟩
  | .hbm, ⟨14, _⟩ => ⟨S8x256x256, .f32⟩
  | .hbm, ⟨15, _⟩ => ⟨S8x256x256, .bf16⟩
  | .hbm, ⟨16, _⟩ => ⟨S1x1024, .f32⟩
  | .hbm, ⟨17, _⟩ => ⟨S1024x2048, .bf16⟩
  | .hbm, ⟨18, _⟩ => ⟨S1024x8x256, .bf16⟩
  | .hbm, ⟨19, _⟩ => ⟨S8x1024x256, .bf16⟩
  | .hbm, ⟨20, _⟩ => ⟨S32768x1024, .bf16⟩
  | .hbm, ⟨21, _⟩ => ⟨S8x128x32768, .f32⟩
  | .hbm, ⟨22, _⟩ => ⟨S8x128x32768, .f32⟩
  | .hbm, ⟨23, _⟩ => ⟨S8x128x32768, .bf16⟩
  | .hbm, ⟨24, _⟩ => ⟨S8x128x32768, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S8x1024x256, .bf16⟩
  | .local _ .vmem, ⟨5, _⟩ => ⟨S8x256x256, .bf16⟩
  | .local _ .vmem, ⟨6, _⟩ => ⟨S512x1024, .bf16⟩
  | .local _ .vmem, ⟨7, _⟩ => ⟨S512x1024, .bf16⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .bf16⟩
  | .local _ .vmem, ⟨13, _⟩ => ⟨S8x128x512, .bf16⟩
  | .local _ .vmem, ⟨14, _⟩ => ⟨S8x128x512, .bf16⟩
  | .local _ .vmem, ⟨15, _⟩ => ⟨S8x128x512, .bf16⟩
  | .local _ .vmem, ⟨16, _⟩ => ⟨S2x512x1024, .bf16⟩
  | .local _ .vmem, ⟨17, _⟩ => ⟨S2x8x512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v21 : Index := Scalar.indexCast v1
  let c0_6 : Index := 0#32
  let c0_7 : Index := 0#32
  ![v21.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v25 : Index := Scalar.indexCast v0
  let c0_8 : Index := 0#32
  let c0_9 : Index := 0#32
  ![v25.toNat, 0, 0]
@[reducible] def k0_t1_loop : Scf.Loop 32 :=
  let c0_i32_12 : BitVec 32 := 0#32
  let c8_i32 : BitVec 32 := 8#32
  let v30 : BitVec 32 := Scalar.addi c0_i32_12 c8_i32
  let c1_i32_13 : BitVec 32 := 1#32
  ⟨c0_i32_12, v30, c1_i32_13⟩
def k0_off3 (k0_t1 : Fin k0_t1_loop.trips) : Fin 3 → Nat :=
  let c0_i32_12 : BitVec 32 := 0#32
  let c1_i32_13 : BitVec 32 := 1#32
  let arg13 : BitVec 32 := Scf.iv c0_i32_12 c1_i32_13 k0_t1
  let v31 : Index := Scalar.indexCast arg13
  let c0_15 : Index := 0#32
  let c0_16 : Index := 0#32
  ![v31.toNat, 0, 0]
def k0_off4 (i : grid0.Coords) (k0_t1 : Fin k0_t1_loop.trips) : Fin 4 → Nat :=
  let arg0 : BitVec 32 := BitVec.ofNat 32 (i 0).val
  let c2_i32 : BitVec 32 := 2#32
  let v0 : BitVec 32 := Scalar.remsi arg0 c2_i32
  let v34 : Index := Scalar.indexCast v0
  let c0_i32_12 : BitVec 32 := 0#32
  let c1_i32_13 : BitVec 32 := 1#32
  let arg13 : BitVec 32 := Scf.iv c0_i32_12 c1_i32_13 k0_t1
  let v35 : Index := Scalar.indexCast arg13
  let c0_17 : Index := 0#32
  let c0_18 : Index := 0#32
  ![v34.toNat, v35.toNat, 0, 0]
def k0_off5 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v39 : Index := Scalar.indexCast v1
  let c0_20 : Index := 0#32
  let c0_21 : Index := 0#32
  ![v39.toNat, 0, 0]
def k0_off6 (k0_t1 : Fin k0_t1_loop.trips) : Fin 3 → Nat :=
  let c0_i32_12 : BitVec 32 := 0#32
  let c1_i32_13 : BitVec 32 := 1#32
  let arg13 : BitVec 32 := Scf.iv c0_i32_12 c1_i32_13 k0_t1
  let v42 : Index := Scalar.indexCast arg13
  let c0_22 : Index := 0#32
  let c0_23 : Index := 0#32
  ![v42.toNat, 0, 0]
def k0_off7 (i : grid0.Coords) (k0_t1 : Fin k0_t1_loop.trips) : Fin 4 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v47 : Index := Scalar.indexCast v1
  let c0_i32_12 : BitVec 32 := 0#32
  let c1_i32_13 : BitVec 32 := 1#32
  let arg13 : BitVec 32 := Scf.iv c0_i32_12 c1_i32_13 k0_t1
  let v48 : Index := Scalar.indexCast arg13
  let c0_25 : Index := 0#32
  let c0_26 : Index := 0#32
  ![v47.toNat, v48.toNat, 0, 0]
def k0_off8 (k0_t1 : Fin k0_t1_loop.trips) : Fin 3 → Nat :=
  let c0_i32_12 : BitVec 32 := 0#32
  let c1_i32_13 : BitVec 32 := 1#32
  let arg13 : BitVec 32 := Scf.iv c0_i32_12 c1_i32_13 k0_t1
  let v1863 : Index := Scalar.indexCast arg13
  let c0_233 : Index := 0#32
  let c0_234 : Index := 0#32
  ![v1863.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RouteReferenceIdeal.lean ====
abbrev S32768x1024 : Shape := ⟨2, ![32768, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S8x1x128x128 : Shape := ⟨4, ![8, 1, 128, 128]⟩
abbrev S8x128x128 : Shape := ⟨3, ![8, 128, 128]⟩
abbrev S8x128x32768 : Shape := ⟨3, ![8, 128, 32768]⟩
abbrev S8x1x128x32768 : Shape := ⟨4, ![8, 1, 128, 32768]⟩
abbrev S8x128x1x32768 : Shape := ⟨4, ![8, 128, 1, 32768]⟩
abbrev S8x128x128x32768 : Shape := ⟨4, ![8, 128, 128, 32768]⟩
abbrev S8x32768 : Shape := ⟨2, ![8, 32768]⟩
abbrev S8x1x32768 : Shape := ⟨3, ![8, 1, 32768]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S8x2x128x128, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x2048, .f32⟩
  | .hbm, ⟨21, _⟩ => ⟨S32768x8x2x128, .f32⟩
  | .hbm, ⟨22, _⟩ => ⟨S32768x8x1x128, .f32⟩
  | .hbm, ⟨23, _⟩ => ⟨S32768x8x128, .f32⟩
  | .hbm, ⟨24, _⟩ => ⟨S8x1x128x128, .f32⟩
  | .hbm, ⟨25, _⟩ => ⟨S8x128x128, .f32⟩
  | .hbm, ⟨26, _⟩ => ⟨S8x128x32768, .f32⟩
  | .hbm, ⟨27, _⟩ => ⟨S8x1x128x32768, .f32⟩
  | .hbm, ⟨28, _⟩ => ⟨S8x128x1x32768, .f32⟩
  | .hbm, ⟨29, _⟩ => ⟨S8x128x128x32768, .f32⟩
  | .hbm, ⟨30, _⟩ => ⟨S8x128x128x32768, .f32⟩
  | .hbm, ⟨31, _⟩ => ⟨S8x128x128x32768, .i1⟩
  | .hbm, ⟨32, _⟩ => ⟨S_, .f32⟩
  | .hbm, ⟨33, _⟩ => ⟨S_, .f32⟩
  | .hbm, ⟨34, _⟩ => ⟨S8x128x128x32768, .f32⟩
  | .hbm, ⟨35, _⟩ => ⟨S8x128x128x32768, .f32⟩
  | .hbm, ⟨36, _⟩ => ⟨S8x128x128x32768, .f32⟩
  | .hbm, ⟨37, _⟩ => ⟨S8x128x128x32768, .f32⟩
  | .hbm, ⟨38, _⟩ => ⟨S_, .f32⟩
  | .hbm, ⟨39, _⟩ => ⟨S8x128x32768, .f32⟩
  | .hbm, ⟨40, _⟩ => ⟨S_, .f32⟩
  | .hbm, ⟨41, _⟩ => ⟨S8x128x32768, .f32⟩
  | .hbm, ⟨42, _⟩ => ⟨S8x128x32768, .f32⟩
  | .hbm, ⟨43, _⟩ => ⟨S_, .f32⟩
  | .hbm, ⟨44, _⟩ => ⟨S8x32768, .f32⟩
  | .hbm, ⟨45, _⟩ => ⟨S8x1x32768, .f32⟩
  | .hbm, ⟨46, _⟩ => ⟨S8x128x32768, .f32⟩
  | .hbm, ⟨47, _⟩ => ⟨S8x128x32768, .f32⟩
  | .hbm, ⟨48, _⟩ => ⟨S8x128x32768, .f32⟩
  | .hbm, ⟨49, _⟩ => ⟨S32768x1024, .bf16⟩
  | .hbm, ⟨50, _⟩ => ⟨S8x128x32768, .bf16⟩
  | .hbm, ⟨51, _⟩ => ⟨S8x128x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== PleFirst.lean ====
abbrev S32768x1024 : Shape := ⟨2, ![32768, 1024]⟩
abbrev S2x32768x256 : Shape := ⟨3, ![2, 32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S2x32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleFirstReferenceIdeal.lean ====
abbrev S32768x1024 : Shape := ⟨2, ![32768, 1024]⟩
abbrev S2x32768x256 : Shape := ⟨3, ![2, 32768, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x32768x256 : Shape := ⟨3, ![1, 32768, 256]⟩
abbrev S32768x256 : Shape := ⟨2, ![32768, 256]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S1x32768x256, .f32⟩
  | .hbm, ⟨32, _⟩ => ⟨S32768x256, .f32⟩
  | .hbm, ⟨33, _⟩ => ⟨S32768x1024, .f32⟩
  | .hbm, ⟨34, _⟩ => ⟨S32768x1024, .f32⟩
  | .hbm, ⟨35, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.Recurrence.lean ====
/- The linear recurrence h(t) = a(t)·h(t−1) + b(t) over the extended reals, and its evaluation by doubling: after the
   step of distance d every position holds the composition of the last 2d steps that end there. -/
module

public import Idealize.ShloMosaic.PureOps.Ideal

@[expose] public section

namespace Cert.Recurrence

/-- The last `n` steps of the recurrence that end at position `t`, applied to `h`. -/
noncomputable def run (a b : ℕ → EReal) : ℕ → ℕ → EReal → EReal
  | _, 0, h => h
  | t, n + 1, h => a t * run a b (t - 1) n h + b t

/-- The product of the last `n` factors that end at position `t`. -/
noncomputable def prod (a : ℕ → EReal) : ℕ → ℕ → EReal
  | _, 0 => 1
  | t, n + 1 => a t * prod a (t - 1) n

variable (a b : ℕ → EReal)

/-- Steps compose: `n + k` steps are `k` steps followed by `n` steps. -/
theorem run_add (t n k : ℕ) (h : EReal) : run a b t (n + k) h = run a b t n (run a b (t - n) k h) := by
  induction n generalizing t with
  | zero => rw [Nat.zero_add]; rfl
  | succ n ih =>
    rw [Nat.add_right_comm]
    show a t * run a b (t - 1) (n + k) h + b t = a t * run a b (t - 1) n _ + b t
    rw [ih, Nat.sub_sub, Nat.add_comm 1 n]

/-- Products compose likewise. -/
theorem prod_add (t n k : ℕ) : prod a t (n + k) = prod a t n * prod a (t - n) k := by
  induction n generalizing t with
  | zero => rw [Nat.zero_add]; show _ = 1 * _; rw [one_mul]; rfl
  | succ n ih =>
    rw [Nat.add_right_comm]
    show a t * prod a (t - 1) (n + k) = a t * prod a (t - 1) n * _
    rw [ih, mul_assoc, Nat.sub_sub, Nat.add_comm 1 n]

variable {a} (ha : ∀ t, 0 ≤ a t ∧ a t ≠ ⊤)
include ha

/-- A product of nonnegative finite factors is nonnegative and finite. -/
theorem prod_fin (t n : ℕ) : 0 ≤ prod a t n ∧ prod a t n ≠ ⊤ := by
  induction n generalizing t with
  | zero => exact ⟨zero_le_one, EReal.coe_ne_top 1⟩
  | succ n ih =>
    obtain ⟨h1, h2⟩ := ih (t - 1)
    obtain ⟨g1, g2⟩ := ha t
    refine ⟨mul_nonneg g1 h1, ?_⟩
    show a t * prod a (t - 1) n ≠ ⊤
    lift a t to ℝ using ⟨g2, fun e => by rw [e] at g1; exact absurd g1 (by simp)⟩ with x
    lift prod a (t - 1) n to ℝ using ⟨h2, fun e => by rw [e] at h1; exact absurd h1 (by simp)⟩ with y
    rw [← EReal.coe_mul]
    exact EReal.coe_ne_top _

/-- The steps are affine in what they start from. -/
theorem run_affine (t n : ℕ) (h : EReal) : run a b t n h = prod a t n * h + run a b t n 0 := by
  induction n generalizing t with
  | zero => show h = 1 * h + 0; rw [one_mul, add_zero]
  | succ n ih =>
    show a t * run a b (t - 1) n h + b t = a t * prod a (t - 1) n * h + (a t * run a b (t - 1) n 0 + b t)
    rw [ih, EReal.left_distrib_of_nonneg_of_ne_top (ha t).1 (ha t).2, mul_assoc, add_assoc]

omit ha in
/-- One doubling step of the products. -/
theorem prod_double (t d : ℕ) :
    prod a t (min d (t + 1)) * (if d ≤ t then prod a (t - d) (min d (t - d + 1)) else 1) = prod a t (min (2 * d) (t + 1)) := by
  by_cases h : d ≤ t
  · rw [if_pos h, min_eq_left (by omega : d ≤ t + 1), ← prod_add]
    congr 1; omega
  · rw [if_neg h, mul_one]
    congr 1; omega

/-- One doubling step of the recurrence started at zero. -/
theorem run_double (t d : ℕ) :
    prod a t (min d (t + 1)) * (if d ≤ t then run a b (t - d) (min d (t - d + 1)) 0 else 0) + run a b t (min d (t + 1)) 0
      = run a b t (min (2 * d) (t + 1)) 0 := by
  by_cases h : d ≤ t
  · rw [if_pos h, min_eq_left (by omega : d ≤ t + 1), ← run_affine b ha, ← run_add]
    congr 1; omega
  · rw [if_neg h, mul_zero, zero_add]
    congr 1; omega

omit ha in
/-- The first level: one factor. -/
theorem prod_one (t : ℕ) : prod a t (min 1 (t + 1)) = a t := by
  rw [min_eq_left (by omega : 1 ≤ t + 1)]
  exact mul_one _

omit ha in
/-- The first level: one step from zero. -/
theorem run_one (t : ℕ) : run a b t (min 1 (t + 1)) 0 = b t := by
  rw [min_eq_left (by omega : 1 ≤ t + 1)]
  show a t * 0 + b t = b t
  rw [mul_zero, zero_add]

end Cert.Recurrence
-- ==== Proof.RglruScan.lean ====
/- One block of the recurrent layer: the eight doubling steps over 256 positions are the recurrence itself. -/
module

public import proofs.«01_k».proof.Proof.Gen.RglruIdeal.Skeleton
public import proofs.«01_k».proof.Proof.Recurrence
public import Idealize.ShloMosaic.Lib.Pointwise
public import Idealize.ShloMosaic.Lib.ValueIdx

@[expose] public section

set_option maxRecDepth 16384

noncomputable section

namespace Cert.RglruIdeal.Scan

open Cert.RglruIdeal Cert.RglruIdeal.Gen Idealize.ShloMosaic Idealize.ShloMosaic.TcCoe Idealize.SL.Sem
open Cert.Recurrence

/-- The row number of each element, as the kernel computes it. -/
abbrev rows : IVec S256x256 32 := iota .tc S256x256 32 [0] iota_S256x256_d0_w32

/-- Rows shifted down by `d`, the first `d` of them filled. -/
def down (d : BitVec 32) (fill : EReal) (x : FVec Ideal S256x256 .f32) : FVec Ideal S256x256 .f32 :=
  select (cmpi .sge rows (broadcast S256x256 d)) (dynamicRotate 0 d none x rotates_S256x256_d0) (broadcast S256x256 fill)

/-- A row number is at least `d` as words exactly when it is as numbers. -/
theorem ge_word (r d : ℕ) (hr : r < 256) (hd : d < 256) :
    (IntOp.cmpi .sge (BitVec.ofNat 32 r) (BitVec.ofNat 32 d) = 1#1) ↔ d ≤ r := by
  have e : ∀ n, n < 256 → (BitVec.ofNat 32 n).toInt = (n : ℤ) := fun n hn => by
    rw [BitVec.toInt_eq_toNat_of_lt] <;> rw [BitVec.toNat_ofNat] <;> omega
  have o : ∀ q : Bool, (BitVec.ofBool q = 1#1) ↔ q = true := by decide
  simp only [IntOp.cmpi, o, BitVec.sle_eq_decide, e r hr, e d hd, decide_eq_true_eq]
  omega

/-- What the shifted rows hold. -/
theorem down_apply (d : ℕ) (hd : d < 256) (fill : EReal) (x : FVec Ideal S256x256 .f32) (r c : Fin 256) :
    down (BitVec.ofNat 32 d) fill x (ix2 r c)
      = if h : d ≤ r.val then x (ix2 (⟨r.val - d, by omega⟩ : Fin 256) c) else fill := by
  unfold down
  pointwise
  unfold Scalar.select
  by_cases h : d ≤ r.val
  · refine (if_pos ((ge_word r d r.isLt hd).mpr h)).trans ?_
    rw [dif_pos h]
    refine congrArg (fun q : Fin 256 => x (ix2 q c)) (Fin.ext ?_)
    show (r.val + 256 - (BitVec.ofNat 32 d).toNat % 256) % 256 = r.val - d
    have : (BitVec.ofNat 32 d).toNat = d := by rw [BitVec.toNat_ofNat]; omega
    rw [this]; omega
  · rw [dif_neg h]
    exact if_neg (fun e => h ((ge_word r d r.isLt hd).mp e))

/-- One doubling step of the factors. -/
def stepA (d : BitVec 32) (x : FVec Ideal S256x256 .f32) : FVec Ideal S256x256 .f32 :=
  mulf x (down d (Scalar.ofBits (F := Ideal) .f32 0x3F800000#32) x)

/-- One doubling step of the partial results. -/
def stepB (d : BitVec 32) (x y : FVec Ideal S256x256 .f32) : FVec Ideal S256x256 .f32 :=
  addf (mulf x (down d (Scalar.ofBits (F := Ideal) .f32 0x00000000#32) y)) y

/-- The column `c` of a block, by row number. -/
def col (x : FVec Ideal S256x256 .f32) (c : Fin 256) (t : ℕ) : EReal := if h : t < 256 then x (ix2 (⟨t, h⟩ : Fin 256) c) else 0

theorem col_apply (x : FVec Ideal S256x256 .f32) (r c : Fin 256) : col x c r.val = x (ix2 r c) := dif_pos r.isLt

section
variable {a b : FVec Ideal S256x256 .f32} (ha : ∀ r c : Fin 256, 0 ≤ a (ix2 r c) ∧ a (ix2 r c) ≠ ⊤)

/-- `x` holds the products of the last `d` factors. -/
def IsA (a : FVec Ideal S256x256 .f32) (d : ℕ) (x : FVec Ideal S256x256 .f32) : Prop :=
  ∀ r c : Fin 256, x (ix2 r c) = prod (col a c) r (min d (r.val + 1))

/-- `y` holds the recurrence's last `d` steps from zero. -/
def IsB (a b : FVec Ideal S256x256 .f32) (d : ℕ) (y : FVec Ideal S256x256 .f32) : Prop :=
  ∀ r c : Fin 256, y (ix2 r c) = run (col a c) (col b c) r (min d (r.val + 1)) 0

theorem isA_one : IsA a 1 a := fun r c => by rw [prod_one, col_apply]

theorem isB_one : IsB a b 1 b := fun r c => by rw [run_one, col_apply]

/-- The word of one and the word of zero. -/
theorem one_word : (Scalar.ofBits (F := Ideal) .f32 0x3F800000#32 : EReal) = 1 := by
  pointwise

theorem zero_word : (Scalar.ofBits (F := Ideal) .f32 0x00000000#32 : EReal) = 0 := by
  pointwise

theorem isA_step {x : FVec Ideal S256x256 .f32} (d : ℕ) (hd : d < 256) (hx : IsA a d x) :
    IsA a (2 * d) (stepA (BitVec.ofNat 32 d) x) := fun r c => by
  rw [← prod_double]
  show x (ix2 r c) * down _ _ x (ix2 r c) = _
  rw [down_apply d hd, hx r c, one_word]
  refine congrArg (_ * ·) ?_
  by_cases h : d ≤ r.val
  · rw [dif_pos h, if_pos h, hx]
  · rw [dif_neg h, if_neg h]

include ha in
theorem col_fin (c : Fin 256) (t : ℕ) : 0 ≤ col a c t ∧ col a c t ≠ ⊤ := by
  unfold col
  split
  · exact ha _ c
  · exact ⟨le_rfl, EReal.zero_ne_top⟩

include ha in
theorem isB_step {x y : FVec Ideal S256x256 .f32} (d : ℕ) (hd : d < 256) (hx : IsA a d x) (hy : IsB a b d y) :
    IsB a b (2 * d) (stepB (BitVec.ofNat 32 d) x y) := fun r c => by
  rw [← run_double _ (col_fin ha c)]
  show x (ix2 r c) * down _ _ y (ix2 r c) + y (ix2 r c) = _
  rw [down_apply d hd, hx r c, hy r c, zero_word]
  refine congrArg (fun q => _ * q + _) ?_
  by_cases h : d ≤ r.val
  · rw [dif_pos h, if_pos h, hy]
  · rw [dif_neg h, if_neg h]

end

/-- What enters the recurrence at each position: the normalised and gated input, by the kernel's operations. -/
def enter (k : BitVec 32) (x i th : FVec Ideal S256x256 .f32) (two : EReal) : FVec Ideal S256x256 .f32 :=
  mulf (mulf (select (cmpi .eq rows (broadcast S256x256 (Scalar.select (Scalar.cmpi .eq k 0#32) 0#32 4294967295#32)))
    (broadcast S256x256 (Scalar.ofBits (F := Ideal) .f32 0x3F800000#32))
    (sqrt (divf (mulf (broadcast S256x256 two) th) (subf (broadcast S256x256 (Scalar.ofBits (F := Ideal) .f32 0x3F800000#32)) th)))) i) x

/-- The block of results, by the kernel's operations. -/
def block (k : BitVec 32) (x i a th : FVec Ideal S256x256 .f32) (two : EReal) (h : FVec Ideal S1x256 .f32) : FVec Ideal S256x256 .f32 :=
  k0_pay22 rows (k0_pay18 rows (k0_pay13 k x i a th two) (k0_pay14 a) k0_pay15) (k0_pay19 rows (k0_pay14 a) k0_pay15)
    (k0_pay20 rows) (k0_pay21 rows (k0_pay14 a) k0_pay15) h

/-- The factors after the first `n` doubling steps. -/
def levA (a : FVec Ideal S256x256 .f32) : ℕ → FVec Ideal S256x256 .f32
  | 0 => a
  | n + 1 => stepA (BitVec.ofNat 32 (2 ^ n)) (levA a n)

/-- The partial results after the first `n` doubling steps. -/
def levB (a b : FVec Ideal S256x256 .f32) : ℕ → FVec Ideal S256x256 .f32
  | 0 => b
  | n + 1 => stepB (BitVec.ofNat 32 (2 ^ n)) (levA a n) (levB a b n)

theorem isA_lev (a : FVec Ideal S256x256 .f32) (n : ℕ) (hn : n ≤ 8) : IsA a (2 ^ n) (levA a n) := by
  induction n with
  | zero => exact isA_one
  | succ n ih =>
    rw [pow_succ, mul_comm]
    exact isA_step _ (lt_of_le_of_lt (Nat.pow_le_pow_right (by omega) (by omega : n ≤ 7)) (by norm_num)) (ih (by omega))

theorem isB_lev (a b : FVec Ideal S256x256 .f32) (ha : ∀ r c : Fin 256, 0 ≤ a (ix2 r c) ∧ a (ix2 r c) ≠ ⊤) (n : ℕ) (hn : n ≤ 8) :
    IsB a b (2 ^ n) (levB a b n) := by
  induction n with
  | zero => exact isB_one
  | succ n ih =>
    rw [pow_succ, mul_comm]
    exact isB_step ha _ (lt_of_le_of_lt (Nat.pow_le_pow_right (by omega) (by omega : n ≤ 7)) (by norm_num))
      (isA_lev a n (by omega)) (ih (by omega))

/-- The kernel's block is eight doubling steps, then one step from the carried value. -/
theorem block_eq (k : BitVec 32) (x i a th : FVec Ideal S256x256 .f32) (two : EReal) (h : FVec Ideal S1x256 .f32) :
    block k x i a th two h
      = addf (mulf (levA a 8) (broadcastTo S256x256 h broadcasts_S1x256_S256x256)) (levB a (enter k x i th two) 8) := by
  rfl

/-- The kernel's block holds the recurrence run over the block from the carried value. -/
theorem block_apply (k : BitVec 32) (x i a th : FVec Ideal S256x256 .f32) (two : EReal) (h : FVec Ideal S1x256 .f32)
    (ha : ∀ r c : Fin 256, 0 ≤ a (ix2 r c) ∧ a (ix2 r c) ≠ ⊤) (r c : Fin 256) :
    block k x i a th two h (ix2 r c)
      = run (col a c) (col (enter k x i th two) c) r (r.val + 1) (h (ix2 0 c)) := by
  rw [block_eq, run_affine _ (col_fin ha c)]
  have eA := isA_lev a 8 le_rfl r c
  have eB := isB_lev a (enter k x i th two) ha 8 le_rfl r c
  rw [min_eq_right (by have := r.isLt; omega)] at eA eB
  rw [← eA, ← eB]
  pointwise

end Cert.RglruIdeal.Scan
-- ==== Proof.RglruBlock.lean ====
/- The parts of one grid point of the recurrent layer: what its loads read from the scratch and what its stores leave there. -/
module

public import proofs.«01_k».proof.Proof.Gen.RglruIdeal.Value
public import proofs.«01_k».proof.Proof.RglruScan
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.RglruIdeal.Point

open Cert.RglruIdeal Cert.RglruIdeal.Gen Cert.RglruIdeal.Value Cert.RglruIdeal.Scan
open Idealize.ShloMosaic Idealize.ShloMosaic.TcCoe Idealize.SL.Sem

/-- The right half of an input block: what is convolved. -/
def xin (g : FVec Ideal S256x512 .f32) : FVec Ideal S256x256 .f32 :=
  View.ld (Val := Elt Ideal) (e' := .f32) g (Rect.unit ![0, 256] ![256, 256] inb_S256x512_S256x256_0_256)

/-- The left half of an input block: what the result is gated by. -/
def gin (g : FVec Ideal S256x512 .f32) : FVec Ideal S256x256 .f32 :=
  View.ld (Val := Elt Ideal) (e' := .f32) g (Rect.unit ![0, 0] ![256, 256] inb_S256x512_S256x256_0_0)

/-- Eight rows above a block. -/
def above (p : FVec Ideal S8x256 .f32) (x : FVec Ideal S256x256 .f32) : FVec Ideal S264x256 .f32 := fun i =>
  if h : (i 0).val < 8 then p (ix2 (⟨(i 0).val, h⟩ : Fin 8) (i 1))
  else x (ix2 (⟨(i 0).val - 8, by have : (i 0).val < 264 := (i 0).isLt; omega⟩ : Fin 256) (i 1))

/-- The convolved block, by the kernel's operations. -/
def conv (e : FVec Ideal S264x256 .f32) (cw : FVec Ideal S4x256 .f32) (cb : FVec Ideal S1x256 .f32) : FVec Ideal S256x256 .f32 :=
  k0_pay6 cb
    (View.ld (Val := Elt Ideal) (e' := .f32) e (Rect.unit ![5, 0] ![256, 256] inb_S264x256_S256x256_5_0)) (View.ld (Val := Elt Ideal) (e' := .f32) cw (Rect.unit ![0, 0] ![1, 256] inb_S4x256_S1x256_0_0))
    (View.ld (Val := Elt Ideal) (e' := .f32) e (Rect.unit ![6, 0] ![256, 256] inb_S264x256_S256x256_6_0)) (View.ld (Val := Elt Ideal) (e' := .f32) cw (Rect.unit ![1, 0] ![1, 256] inb_S4x256_S1x256_1_0))
    (View.ld (Val := Elt Ideal) (e' := .f32) e (Rect.unit ![7, 0] ![256, 256] inb_S264x256_S256x256_7_0)) (View.ld (Val := Elt Ideal) (e' := .f32) cw (Rect.unit ![2, 0] ![1, 256] inb_S4x256_S1x256_2_0))
    (View.ld (Val := Elt Ideal) (e' := .f32) e (Rect.unit ![8, 0] ![256, 256] inb_S264x256_S256x256_8_0)) (View.ld (Val := Elt Ideal) (e' := .f32) cw (Rect.unit ![3, 0] ![1, 256] inb_S4x256_S1x256_3_0))

/-- The block's results before the output gate, by the kernel's operations. -/
def res (k : BitVec 32) (x : FVec Ideal S256x256 .f32) (wa : FVec Ideal S256x256 .bf16) (ba : FVec Ideal S1x256 .f32)
    (wx : FVec Ideal S256x256 .bf16) (bx lam : FVec Ideal S1x256 .f32) (h : FVec Ideal S1x256 .f32) : FVec Ideal S256x256 .f32 :=
  block k x (k0_pay8 x wx bx) (k0_pay10 x wa ba lam) (k0_pay11 x wa ba lam) (Scalar.ofBits (F := Ideal) .f32 0xC0000000#32) h

/-- The last row of a block on eight rows: what is carried to the next block. -/
def last8 (y : FVec Ideal S256x256 .f32) : FVec Ideal S8x256 .f32 := fun i => y (ix2 255 (i 1))

/-- The last eight rows of a block. -/
def tail8 (x : FVec Ideal S256x256 .f32) : FVec Ideal S8x256 .f32 := fun i =>
  x (ix2 (⟨248 + (i 0).val, by have : (i 0).val < 8 := (i 0).isLt; omega⟩ : Fin 256) (i 1))

/-- The first eight rows of the scratch. -/
def head8 (e : FVec Ideal S264x256 .f32) : FVec Ideal S8x256 .f32 := fun i =>
  e (ix2 (⟨(i 0).val, by have : (i 0).val < 8 := (i 0).isLt; omega⟩ : Fin 264) (i 1))

/-- A block written below row eight of the scratch leaves its first eight rows above it. -/
theorem above_eq (e : FVec Ideal S264x256 .f32) (x : FVec Ideal S256x256 .f32) (h : scM0_0.IsWhole) :
    View.read (s := S264x256) (e := .f32) (Elt Ideal) (View.whole cc0_scratch0)
      (View.writes (s := S264x256) (e := .f32) (View.whole cc0_scratch0) (Elt Ideal) (h.unread e)
        [⟨Rect.unit ![8, 0] ![256, 256] inb_S264x256_S256x256_8_0, k0_pay5 (F := Ideal) x⟩]) = above (head8 e) x := by
  funext i
  rw [show k0_pay5 (F := Ideal) x = x from by funext j; idx_vars j; pointwise [k0_pay5]]
  by_cases hi : (i 0).val < 8
  · rw [View.read_writes_cons_rows_of_not_mem (View.whole cc0_scratch0) _ _ _ _ i rfl rfl (Or.inl hi), above, dif_pos hi]
    show View.read (Elt Ideal) (View.whole cc0_scratch0) (h.unread e) i = _
    rw [read_unread_whole]
    refine congrArg e (funext fun a => ?_)
    match a with
    | 0 => rfl
    | 1 => rfl
  · refine (View.read_writes_cons_rows_of_mem (View.whole cc0_scratch0) _ _ _ _ i
      (ix2 (⟨(i 0).val - 8, by have : (i 0).val < 264 := (i 0).isLt; omega⟩ : Fin 256) (i 1)) rfl
      (show (i 0).val = 8 + ((i 0).val - 8) by omega) rfl).trans ?_
    rw [above, dif_neg hi]
    rfl

/-- A block written below eight rows of zeros. -/
theorem above_zero (x : FVec Ideal S256x256 .f32) :
    View.canon (Val := Elt Ideal) (s := S264x256) (e := .f32) [⟨Rect.unit ![8, 0] ![256, 256] inb_S264x256_S256x256_8_0, k0_pay5 (F := Ideal) x⟩,
      ⟨Rect.unit ![0, 0] ![8, 256] inb_S264x256_S8x256_0_0, k0_pay3 (F := Ideal)⟩] = above (fun _ => 0) x := by
  rw [← View.read_writes_junk_eq_canon (View.whole cc0_scratch0)]
  funext i
  rw [show k0_pay5 (F := Ideal) x = x from by funext j; idx_vars j; pointwise [k0_pay5]]
  by_cases hi : (i 0).val < 8
  · rw [View.read_writes_cons_rows_of_not_mem (View.whole cc0_scratch0) _ _ _ _ i rfl rfl (Or.inl hi)]
    refine (View.read_writes_cons_rows_of_mem (View.whole cc0_scratch0) _ _ _ _ i (ix2 (⟨(i 0).val, hi⟩ : Fin 8) (i 1)) rfl
        (show (i 0).val = 0 + (i 0).val by omega) rfl).trans ?_
    rw [above, dif_pos hi]
    pointwise [k0_pay3]
  · refine (View.read_writes_cons_rows_of_mem (View.whole cc0_scratch0) _ _ _ _ i
      (ix2 (⟨(i 0).val - 8, by have : (i 0).val < 264 := (i 0).isLt; omega⟩ : Fin 256) (i 1)) rfl
      (show (i 0).val = 8 + ((i 0).val - 8) by omega) rfl).trans ?_
    rw [above, dif_neg hi]
    rfl

/-- The first eight rows written last are what the scratch's head holds. -/
theorem head8_canon (p : FVec Ideal S8x256 .f32) (L : List (View.Piece (Elt Ideal) S264x256 .f32)) :
    head8 (View.canon (⟨Rect.unit ![0, 0] ![8, 256] inb_S264x256_S8x256_0_0, p⟩ :: L)) = p := by
  rw [← View.read_writes_junk_eq_canon (View.whole cc0_scratch0)]
  funext i
  exact View.read_writes_cons_rows_of_mem (View.whole cc0_scratch0) _ _ _ _ _ i rfl
    (show (i 0).val = 0 + (i 0).val by omega) rfl

/-- The scratch's last eight rows. -/
abbrev rTail : Rect S264x256 := Rect.unit (s := S264x256) ![256, 0] ![8, 256] inb_S264x256_S8x256_256_0

/-- The last eight rows of the scratch are the block's. -/
theorem tail_canon (x : FVec Ideal S256x256 .f32) (L : List (View.Piece (Elt Ideal) S264x256 .f32)) :
    (View.whole cc0_scratch0).readCov (⟨Rect.unit ![8, 0] ![256, 256] inb_S264x256_S256x256_8_0, k0_pay5 (F := Ideal) x⟩ :: L)
      rTail.toLoadRect = tail8 x := by
  rw [View.readCov_eq_canon', ← View.read_writes_junk_eq_canon (View.whole cc0_scratch0)]
  funext i
  rw [show k0_pay5 (F := Ideal) x = x from by funext j; idx_vars j; pointwise [k0_pay5]]
  refine View.read_writes_cons_rows_of_mem (View.whole cc0_scratch0) _ _ _ _ _ _ rfl ?_ ?_
  · show 256 + 1 * (i 0).val = 8 + (248 + (i 0).val)
    omega
  · show 0 + 1 * (i 1).val = (i 1).val
    omega

theorem pay7_id (y : FVec Ideal S8x256 .f32) : k0_pay7 (F := Ideal) y = y := by
  funext j; idx_vars j; pointwise [k0_pay7]

/-- A load after writes that cover the scratch. -/
theorem readCov_ld (L : List (View.Piece (Elt Ideal) S264x256 .f32)) (r : Rect S264x256) :
    (View.whole cc0_scratch0).readCov L r.toLoadRect = View.ld (View.canon L) r := View.readCov_eq_canon' _ _ _

/-- The block below the eight rows is the block. -/
theorem ld_above (p : FVec Ideal S8x256 .f32) (x : FVec Ideal S256x256 .f32) :
    View.ld (Val := Elt Ideal) (e' := .f32) (above p x) (Rect.unit ![8, 0] ![256, 256] inb_S264x256_S256x256_8_0) = k0_pay5 (F := Ideal) x := by
  funext i
  idx_vars i
  pointwise [k0_pay5, above]

/-- What is carried is the last row of the block's results. -/
theorem last_eq (v148 v149 : FVec Ideal S256x256 .f32) (v151 : IVec S256x256 1) (v152 : FVec Ideal S256x256 .f32)
    (h : FVec Ideal S1x256 .f32) :
    k0_pay1 (k0_pay23 rows v148 v149 v151 v152 h) = last8 (k0_pay22 rows v148 v149 v151 v152 h) := by
  funext i
  idx_vars i
  simp only [k0_pay23]
  pointwise [k0_pay1, last8]

/-- The value carried into a sequence's first block is zero. -/
theorem zero_row : View.ld (Val := Elt Ideal) (e' := .f32) (k0_pay4 (F := Ideal)) (Rect.unit ![0, 0] ![1, 256] inb_S8x256_S1x256_0_0) = fun _ => (0 : EReal) := by
  funext i
  idx_vars i
  pointwise [k0_pay4]

end Cert.RglruIdeal.Point
-- ==== Proof.Rows.lean ====
/- Row-wise functions of the extended reals that several calls share. -/
module

public import Idealize.ShloMosaic.PureOps.Ideal

@[expose] public section

noncomputable section

namespace Cert.Rows

open Idealize.ShloMosaic

/-- A row of 1024 divided by its root mean square (1e-6 added under the root) and scaled by `g`, at position `j`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The logistic function. -/
def sigmoid (x : EReal) : EReal := Ideal.div 1 (1 + Ideal.exp (-x))

/-- The gated update of a row: `h` plus the gate of its normalised row times the projected embedding. -/
def gated (h g : Fin 1024 → EReal) (wg : Fin 1024 → Fin 1024 → EReal) (p : Fin 256 → EReal) (wp : Fin 256 → Fin 1024 → EReal)
    (j : Fin 1024) : EReal :=
  h j + sigmoid (∑ k, rms h g k * wg k j) * ∑ k, p k * wp k j

end Cert.Rows
-- ==== Proof.Lru.lean ====
/- The gated linear recurrence, stated per sequence over the extended reals, and the facts about its pieces that both
   programs use. -/
module

public import Idealize.ShloMosaic.Lib.IdealHost
public import proofs.«01_k».proof.Proof.Recurrence
public import proofs.«01_k».proof.Proof.Rows

@[expose] public section

noncomputable section

namespace Cert.Lru

open Idealize.ShloMosaic Cert.Rows

/-! ## The layer -/

/-- The input `d` positions back, zero before the sequence's start. -/
def tap (x : ℕ → Fin 256 → EReal) (s d : ℕ) (c : Fin 256) : EReal := if d ≤ s then x (s - d) c else 0

/-- The causal convolution over four positions, channel by channel. -/
def conv (w : Fin 4 → Fin 256 → EReal) (b : Fin 256 → EReal) (x : ℕ → Fin 256 → EReal) (s : ℕ) (c : Fin 256) : EReal :=
  (w 0 c * tap x s 3 c + w 1 c * tap x s 2 c + w 2 c * tap x s 1 c + w 3 c * tap x s 0 c) + b c

/-- A row of 256 channels times the block-diagonal matrix of four 64 × 64 blocks. -/
def heads (w : Fin 4 → Fin 64 → Fin 64 → EReal) (y : Fin 256 → EReal) (c : Fin 256) : EReal :=
  ∑ k : Fin 64, y ⟨64 * (c.val / 64) + k.val, by omega⟩ * w ⟨c.val / 64, by omega⟩ k ⟨c.val % 64, by omega⟩

/-- A gate of a row. -/
def gate (w : Fin 4 → Fin 64 → Fin 64 → EReal) (b : Fin 256 → EReal) (y : Fin 256 → EReal) (c : Fin 256) : EReal :=
  sigmoid (heads w y c + b c)

/-- `log (1 + exp v)`, written so that no exponential overflows. -/
def softplus (v : EReal) : EReal := max v 0 + Ideal.log1p (Ideal.exp (-max v (-v)))

/-- The logarithm of the decay. -/
def logDecay (r lam : EReal) : EReal := ((-8 : ℝ) : EReal) * r * softplus (-lam)

/-- The factor that keeps the state's variance. -/
def norm (l : EReal) : EReal := Ideal.sqrt (-Ideal.expm1 (((2 : ℝ) : EReal) * l))

/-- What enters the state at position `s`. -/
def enter (s : ℕ) (l i y : EReal) : EReal := (if s = 0 then 1 else norm l) * i * y

/-- The state after position `s`: the decay times the state before plus what enters, from zero. -/
def state (a b : ℕ → EReal) (s : ℕ) : EReal := Cert.Recurrence.run a b s (s + 1) 0

section
variable (cw : Fin 4 → Fin 256 → EReal) (cb : Fin 256 → EReal) (wa : Fin 4 → Fin 64 → Fin 64 → EReal) (ba : Fin 256 → EReal)
  (wx : Fin 4 → Fin 64 → Fin 64 → EReal) (bx lam : Fin 256 → EReal)

/-- A sequence's logarithm of the decay at a position and a channel. -/
def logAt (x : ℕ → Fin 256 → EReal) (s : ℕ) (c : Fin 256) : EReal := logDecay (gate wa ba (conv cw cb x s) c) (lam c)

/-- A sequence's decay. -/
def decayAt (x : ℕ → Fin 256 → EReal) (c : Fin 256) (s : ℕ) : EReal := Ideal.exp (logAt cw cb wa ba lam x s c)

/-- What enters a sequence's state. -/
def enterAt (x : ℕ → Fin 256 → EReal) (c : Fin 256) (s : ℕ) : EReal :=
  enter s (logAt cw cb wa ba lam x s c) (gate wx bx (conv cw cb x s) c) (conv cw cb x s c)

/-- A sequence's state. -/
def stateAt (x : ℕ → Fin 256 → EReal) (s : ℕ) (c : Fin 256) : EReal :=
  state (decayAt cw cb wa ba lam x c) (enterAt cw cb wa ba wx bx lam x c) s

end

/-- Sequence `b` of the projections: its 4096 tokens, the columns 768 to 1023. -/
def sequence (p : Fin 32768 → Fin 3328 → EReal) (b : Fin 8) (s : ℕ) (c : Fin 256) : EReal :=
  if h : s < 4096 then p ⟨b.val * 4096 + s, by omega⟩ ⟨768 + c.val, by omega⟩ else 0

/-- The tanh form of the Gaussian error unit. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-! ## Constants -/

theorem word_two : Ideal.ofBits .f32 0x40000000#32 = ((2 : ℝ) : EReal) := by
  simp [Ideal.ofBits, Ideal.ieee, -EReal.coe_mul]; norm_num

theorem word_neg_two : Ideal.ofBits .f32 0xC0000000#32 = ((-2 : ℝ) : EReal) := by
  simp [Ideal.ofBits, Ideal.ieee, -EReal.coe_mul, -EReal.coe_neg]; norm_num

theorem word_neg_eight : Ideal.ofBits .f32 0xC1000000#32 = ((-8 : ℝ) : EReal) := by
  simp [Ideal.ofBits, Ideal.ieee, -EReal.coe_mul, -EReal.coe_neg]; norm_num

/-! ## Signs -/

theorem one_ne_bot : (1 : EReal) ≠ ⊥ := EReal.coe_ne_bot 1

theorem exp_nonneg (x : EReal) : 0 ≤ Ideal.exp x := by
  induction x with
  | bot => exact le_rfl
  | top => exact le_top
  | coe r => exact EReal.coe_nonneg.mpr (Real.exp_pos r).le

theorem log1p_nonneg (x : EReal) (h : 0 ≤ x) : 0 ≤ Ideal.log1p x := by
  induction x with
  | bot => exact absurd h (by simp)
  | top => show 0 ≤ Ideal.log (1 + ⊤); rw [EReal.add_top_of_ne_bot one_ne_bot]; exact le_top
  | coe r =>
    have hr : 0 ≤ r := EReal.coe_nonneg.mp h
    have e : (1 : EReal) + (r : EReal) = ((1 + r : ℝ) : EReal) := by push_cast; rfl
    show 0 ≤ Ideal.log (1 + (r : EReal))
    rw [e]
    show 0 ≤ (if 1 + r ≤ 0 then ⊥ else ((Real.log (1 + r) : ℝ) : EReal))
    rw [if_neg (by linarith)]
    exact EReal.coe_nonneg.mpr (Real.log_nonneg (by linarith))

theorem softplus_nonneg (v : EReal) : 0 ≤ softplus v :=
  add_nonneg (le_max_right v 0) (log1p_nonneg _ (exp_nonneg _))

theorem sigmoid_nonneg (x : EReal) : 0 ≤ sigmoid x := by
  unfold sigmoid
  have h := exp_nonneg (-x)
  generalize Ideal.exp (-x) = y at h
  induction y with
  | bot => exact absurd h (by simp)
  | top =>
    rw [EReal.add_top_of_ne_bot one_ne_bot, Ideal.div, if_neg (by simp)]
    simp
  | coe r =>
    have hr : 0 ≤ r := EReal.coe_nonneg.mp h
    rw [show (1 : EReal) + (r : EReal) = ((1 + r : ℝ) : EReal) from by push_cast; rfl, Ideal.div_coe (by linarith), one_mul]
    exact EReal.coe_nonneg.mpr (by positivity)

theorem logDecay_nonpos (r lam : EReal) (h : 0 ≤ r) : logDecay r lam ≤ 0 := by
  unfold logDecay
  refine mul_nonpos_of_nonpos_of_nonneg (mul_nonpos_of_nonpos_of_nonneg (EReal.coe_nonpos.mpr (by norm_num)) h) (softplus_nonneg _)

/-- A decay is a real from zero to one. -/
theorem exp_fin (l : EReal) (h : l ≤ 0) : 0 ≤ Ideal.exp l ∧ Ideal.exp l ≠ ⊤ := by
  refine ⟨exp_nonneg l, ?_⟩
  induction l with
  | bot => exact EReal.zero_ne_top
  | top => exact absurd h (by simp)
  | coe r => exact EReal.coe_ne_top _

/-- The kernel's form of `1 - exp (2 l)` by the hyperbolic tangent. -/
theorem tanh_form (l : EReal) (h : l ≤ 0) :
    Ideal.div (((-2 : ℝ) : EReal) * Ideal.tanh l) (1 - Ideal.tanh l) = -Ideal.expm1 (((2 : ℝ) : EReal) * l) := by
  induction l with
  | bot =>
    rw [EReal.coe_mul_bot_of_pos (by norm_num)]
    show Ideal.div (((-2 : ℝ) : EReal) * (-1)) (1 - (-1)) = -(0 - 1)
    rw [show ((-1 : EReal)) = ((-1 : ℝ) : EReal) by rw [EReal.coe_neg]; rfl, show ((1 : EReal)) = ((1 : ℝ) : EReal) by norm_cast,
      ← EReal.coe_mul, ← EReal.coe_sub, Ideal.div_coe (by norm_num), ← EReal.coe_mul,
      show ((0 : EReal)) = ((0 : ℝ) : EReal) by norm_cast, ← EReal.coe_sub, ← EReal.coe_neg]
    norm_num
  | top => exact absurd h (by simp)
  | coe r =>
    rw [← EReal.coe_mul]
    show Ideal.div (((-2 : ℝ) : EReal) * ((Real.tanh r : ℝ) : EReal)) (1 - ((Real.tanh r : ℝ) : EReal)) = -(((Real.exp (2 * r) : ℝ) : EReal) - 1)
    have hc := Real.cosh_pos r
    have h1 : 1 - Real.tanh r = Real.exp (-r) / Real.cosh r := by
      rw [Real.tanh_eq_sinh_div_cosh, ← Real.cosh_sub_sinh]; field_simp
    have h2 : 1 - Real.tanh r ≠ 0 := by rw [h1]; positivity
    rw [show ((1 : EReal)) = ((1 : ℝ) : EReal) by norm_cast, ← EReal.coe_mul, ← EReal.coe_sub, Ideal.div_coe h2, ← EReal.coe_mul,
      ← EReal.coe_sub, ← EReal.coe_neg]
    congr 1
    rw [h1, Real.tanh_eq_sinh_div_cosh, Real.sinh_eq]
    have e2 : Real.exp (2 * r) = Real.exp r * Real.exp r := by rw [← Real.exp_add]; ring_nf
    have e3 : Real.exp r * Real.exp (-r) = 1 := by rw [← Real.exp_add]; simp
    have hp := Real.exp_pos (-r)
    rw [e2]
    field_simp
    nlinarith [e3]

/-- So the kernel's normalising factor is the layer's. -/
theorem norm_eq (l : EReal) (h : l ≤ 0) :
    Ideal.sqrt (Ideal.div (Ideal.ofBits .f32 0xC0000000#32 * Ideal.tanh l) (1 - Ideal.tanh l)) = norm l := by
  rw [word_neg_two, tanh_form l h, norm]

/-! ## Convolution, gates and states -/

/-- The convolution with the bias added first. -/
theorem conv_eq (w : Fin 4 → Fin 256 → EReal) (b : Fin 256 → EReal) (x : ℕ → Fin 256 → EReal) (s : ℕ) (c : Fin 256) :
    b c + tap x s 3 c * w 0 c + tap x s 2 c * w 1 c + tap x s 1 c * w 2 c + tap x s 0 c * w 3 c = conv w b x s c := by
  unfold conv
  rw [mul_comm (w 0 c), mul_comm (w 1 c), mul_comm (w 2 c), mul_comm (w 3 c)]
  abel

/-- A block-diagonal product: the terms outside the column's block are zero. -/
theorem heads_eq (w : Fin 4 → Fin 64 → Fin 64 → EReal) (y : Fin 256 → EReal) (c : Fin 256) :
    (∑ k : Fin 256, y k * (if h : k.val / 64 = c.val / 64
      then w ⟨c.val / 64, by omega⟩ ⟨k.val % 64, by omega⟩ ⟨c.val % 64, by omega⟩ else 0)) = heads w y c := by
  unfold heads
  have hc : 64 * (c.val / 64) + 64 ≤ 256 := by omega
  let e : Fin 64 ↪ Fin 256 := ⟨fun k => ⟨64 * (c.val / 64) + k.val, by omega⟩, fun a b h => Fin.ext (by
    have := congrArg Fin.val h; simp only at this; omega)⟩
  rw [← Finset.sum_subset (Finset.subset_univ (Finset.univ.map e)), Finset.sum_map]
  · refine Finset.sum_congr rfl fun k _ => ?_
    have hk : (e k).val = 64 * (c.val / 64) + k.val := rfl
    rw [dif_pos (by rw [hk]; omega)]
    refine congrArg (_ * ·) ?_
    refine congrArg (fun q => w _ q _) (Fin.ext ?_)
    show (e k).val % 64 = k.val
    rw [hk]; omega
  · intro k _ hk
    rw [dif_neg, mul_zero]
    intro h
    refine hk (Finset.mem_map.mpr ⟨⟨k.val % 64, by omega⟩, Finset.mem_univ _, Fin.ext ?_⟩)
    show 64 * (c.val / 64) + k.val % 64 = k.val
    omega

/-- The recurrence's next state. -/
theorem state_succ (a b : ℕ → EReal) (s : ℕ) : state a b (s + 1) = a (s + 1) * state a b s + b (s + 1) := rfl

theorem state_zero (a b : ℕ → EReal) : state a b 0 = a 0 * 0 + b 0 := rfl

/-- A run reads only the positions it covers. -/
theorem run_congr (a b a' b' : ℕ → EReal) (o : ℕ) (n t : ℕ) (_ : n ≤ t + 1)
    (ha : ∀ q, q ≤ t → a q = a' (o + q)) (hb : ∀ q, q ≤ t → b q = b' (o + q)) (x : EReal) :
    Cert.Recurrence.run a b t n x = Cert.Recurrence.run a' b' (o + t) n x := by
  induction n generalizing t with
  | zero => rfl
  | succ n ih =>
    show a t * Cert.Recurrence.run a b (t - 1) n x + b t = a' (o + t) * Cert.Recurrence.run a' b' (o + t - 1) n x + b' (o + t)
    rw [ha t le_rfl, hb t le_rfl]
    rcases n with _ | n
    · rfl
    · rw [ih (t - 1) (by omega) (fun q hq => ha q (by omega)) (fun q hq => hb q (by omega)),
        show o + (t - 1) = o + t - 1 by omega]

/-- A block of positions run from the state before it gives the states. -/
theorem state_block (a b a' b' : ℕ → EReal) (o r : ℕ) (ha : ∀ q, q ≤ r → a q = a' (o + q)) (hb : ∀ q, q ≤ r → b q = b' (o + q)) :
    Cert.Recurrence.run a b r (r + 1) (if o = 0 then 0 else state a' b' (o - 1)) = state a' b' (o + r) := by
  rw [run_congr a b a' b' o (r + 1) r le_rfl (ha := ha) (hb := hb)]
  by_cases h : o = 0
  · subst h; rw [if_pos rfl, Nat.zero_add]; rfl
  · rw [if_neg h, state, state, show o + r + 1 = (r + 1) + (o - 1 + 1) by omega,
      Cert.Recurrence.run_add a' b' (o + r) (r + 1) (o - 1 + 1), show o + r - (r + 1) = o - 1 by omega]

end Cert.Lru

end
-- ==== Proof.RglruHost.lean ====
/- The gated linear recurrence's operands as the kernel finds them: the two block-diagonal gate matrices and the rows. -/
module

public import proofs.«01_k».proof.Proof.RglruBlock
public import Idealize.ShloMosaic.Lib.StableHlo.RunClose
public import proofs.«01_k».proof.Proof.Lru

@[expose] public section

set_option maxRecDepth 16384

noncomputable section

namespace Cert.RglruIdeal.Host

open Cert.RglruIdeal Cert.RglruIdeal.Gen Idealize.ShloMosaic Idealize.ShloMosaic.TcCoe Idealize.SL.Sem

/-- A 64 × 64 block written on the diagonal at `o`. -/
def put (x : FVec Ideal S256x256 .f32) (u : FVec Ideal S64x64 .f32) (o : BitVec 32) : FVec Ideal S256x256 .f32 :=
  Idealize.ShloMosaic.Host.dynamicUpdateSlice x u
    (fun k => (((![constantI S_ 32 o, constantI S_ 32 o] : Fin 2 → (⟨S_, .i32⟩ : BufTy).Contents (Elt Ideal))) k (Shape.Idx.first h_S_)).toInt)
    updateFits_S256x256_S64x64

theorem put_apply (x : FVec Ideal S256x256 .f32) (u : FVec Ideal S64x64 .f32) (n : ℕ) (hn : n ≤ 192) (a b : Fin 256) :
    put x u (BitVec.ofNat 32 n) (ix2 a b)
      = if h : (n ≤ a.val ∧ a.val < n + 64) ∧ n ≤ b.val ∧ b.val < n + 64 then
          u (ix2 (⟨a.val - n, by omega⟩ : Fin 64) (⟨b.val - n, by omega⟩ : Fin 64)) else x (ix2 a b) := by
  have e : (BitVec.ofNat 32 n).toInt = (n : ℤ) := by
    rw [BitVec.toInt_eq_toNat_of_lt] <;> rw [BitVec.toNat_ofNat] <;> omega
  have hs : S256x256.Slices ![n, n] S64x64 := ⟨rfl, fun a => by
    match a with
    | 0 => show n + 64 ≤ 256; omega
    | 1 => show n + 64 ≤ 256; omega⟩
  unfold put
  rw [Idealize.ShloMosaic.Host.dynamicUpdateSlice_eq_updateSlice x u _ _ ![n, n] (fun a => by
    match a with
    | 0 => show (min (max ((BitVec.ofNat 32 n).toInt) 0) ((256 - 64 : ℕ) : ℤ)).toNat = n; rw [e]; omega
    | 1 => show (min (max ((BitVec.ofNat 32 n).toInt) 0) ((256 - 64 : ℕ) : ℤ)).toNat = n; rw [e]; omega) hs]
  by_cases h : (n ≤ a.val ∧ a.val < n + 64) ∧ n ≤ b.val ∧ b.val < n + 64
  · rw [dif_pos h]
    unfold updateSlice
    refine (dif_pos (fun a => by match a with | 0 => exact h.1 | 1 => exact h.2)).trans ?_
    refine congrArg u ?_
    idx_ext
  · rw [dif_neg h]
    unfold updateSlice
    exact dif_neg (fun q => h ⟨q 0, q 1⟩)

/-- One of the four blocks. -/
def blk (w : FVec Ideal S4x64x64 .f32) (o : Fin 3 → ℕ) (h : S4x64x64.Slices o S1x64x64) : FVec Ideal S64x64 .f32 :=
  shapeCast S64x64 (extractStridedSlice S1x64x64 o w h) shapeCasts_S1x64x64_S64x64

/-- The block-diagonal matrix, by the host's operations. -/
def diag (w : FVec Ideal S4x64x64 .f32) : FVec Ideal S256x256 .bf16 :=
  truncf (F := Ideal) .bf16
    (put (put (put (put (broadcastInDim S256x256 ![] bcast_S_S256x256 (constant S_ .f32 0x00000000#32))
      (blk w ![0, 0, 0] slices_S4x64x64_S1x64x64_0_0_0) 0#32)
      (blk w ![1, 0, 0] slices_S4x64x64_S1x64x64_1_0_0) 64#32)
      (blk w ![2, 0, 0] slices_S4x64x64_S1x64x64_2_0_0) 128#32)
      (blk w ![3, 0, 0] slices_S4x64x64_S1x64x64_3_0_0) 192#32) bitsLt_bf16_f32

theorem blk_apply (w : FVec Ideal S4x64x64 .f32) (n : Fin 4) (h : S4x64x64.Slices ![n.val, 0, 0] S1x64x64) (a b : Fin 64) :
    blk w ![n.val, 0, 0] h (ix2 a b) = w (ix3 n a b) := by
  unfold blk
  pointwise

/-- The choice among the four blocks, over any operand. -/
theorem pick (w : Fin 4 → Fin 64 → Fin 64 → EReal) (z : EReal) (hz : z = 0) (a b : ℕ) (ha : a < 256) (hb : b < 256) :
    (if h : (192 ≤ a ∧ a < 192 + 64) ∧ 192 ≤ b ∧ b < 192 + 64 then w 3 ⟨a - 192, by omega⟩ ⟨b - 192, by omega⟩ else
     if h : (128 ≤ a ∧ a < 128 + 64) ∧ 128 ≤ b ∧ b < 128 + 64 then w 2 ⟨a - 128, by omega⟩ ⟨b - 128, by omega⟩ else
     if h : (64 ≤ a ∧ a < 64 + 64) ∧ 64 ≤ b ∧ b < 64 + 64 then w 1 ⟨a - 64, by omega⟩ ⟨b - 64, by omega⟩ else
     if h : (0 ≤ a ∧ a < 0 + 64) ∧ 0 ≤ b ∧ b < 0 + 64 then w 0 ⟨a - 0, by omega⟩ ⟨b - 0, by omega⟩ else z)
    = if h : a / 64 = b / 64 then w ⟨b / 64, by omega⟩ ⟨a % 64, by omega⟩ ⟨b % 64, by omega⟩ else 0 := by
  have e : ∀ (p q : Fin 4) (r r' s s' : Fin 64), p.val = q.val → r.val = r'.val → s.val = s'.val → w p r s = w q r' s' :=
    fun p q r r' s s' h h' h'' => by rw [Fin.ext h, Fin.ext h', Fin.ext h'']
  by_cases h3 : (192 ≤ a ∧ a < 192 + 64) ∧ 192 ≤ b ∧ b < 192 + 64
  · rw [dif_pos h3, dif_pos (by omega)]
    refine e _ _ _ _ _ _ ?_ ?_ ?_
    · show 3 = b / 64; omega
    · show a - 192 = a % 64; omega
    · show b - 192 = b % 64; omega
  rw [dif_neg h3]
  by_cases h2 : (128 ≤ a ∧ a < 128 + 64) ∧ 128 ≤ b ∧ b < 128 + 64
  · rw [dif_pos h2, dif_pos (by omega)]
    refine e _ _ _ _ _ _ ?_ ?_ ?_
    · show 2 = b / 64; omega
    · show a - 128 = a % 64; omega
    · show b - 128 = b % 64; omega
  rw [dif_neg h2]
  by_cases h1 : (64 ≤ a ∧ a < 64 + 64) ∧ 64 ≤ b ∧ b < 64 + 64
  · rw [dif_pos h1, dif_pos (by omega)]
    refine e _ _ _ _ _ _ ?_ ?_ ?_
    · show 1 = b / 64; omega
    · show a - 64 = a % 64; omega
    · show b - 64 = b % 64; omega
  rw [dif_neg h1]
  by_cases h0 : (0 ≤ a ∧ a < 0 + 64) ∧ 0 ≤ b ∧ b < 0 + 64
  · rw [dif_pos h0, dif_pos (by omega)]
    refine e _ _ _ _ _ _ ?_ ?_ ?_
    · show 0 = b / 64; omega
    · show a - 0 = a % 64; omega
    · show b - 0 = b % 64; omega
  rw [dif_neg h0, dif_neg (by omega), hz]

/-- The host's block-diagonal matrix holds the blocks on its diagonal and zeros elsewhere. -/
theorem diag_apply (w : FVec Ideal S4x64x64 .f32) (a b : Fin 256) : diag w (ix2 a b)
    = if h : a.val / 64 = b.val / 64 then w (ix3 (⟨b.val / 64, by omega⟩ : Fin 4) (⟨a.val % 64, by omega⟩ : Fin 64) (⟨b.val % 64, by omega⟩ : Fin 64)) else 0 := by
  refine Eq.trans ?_ (pick (fun p r s => w (ix3 p r s)) (Ideal.ofBits .f32 0x00000000#32) Ideal.ofBits_zero_f32 a.val b.val a.isLt b.isLt)
  show put _ _ (BitVec.ofNat 32 192) (ix2 a b) = _
  rw [put_apply _ _ 192 (by omega)]
  have r3 := fun p q => blk_apply w 3 slices_S4x64x64_S1x64x64_3_0_0 p q
  have r2 := fun p q => blk_apply w 2 slices_S4x64x64_S1x64x64_2_0_0 p q
  have r1 := fun p q => blk_apply w 1 slices_S4x64x64_S1x64x64_1_0_0 p q
  have r0 := fun p q => blk_apply w 0 slices_S4x64x64_S1x64x64_0_0_0 p q
  refine dite_congr rfl (fun h => r3 _ _) fun _ => ?_
  show put _ _ (BitVec.ofNat 32 128) (ix2 a b) = _
  rw [put_apply _ _ 128 (by omega)]
  refine dite_congr rfl (fun h => r2 _ _) fun _ => ?_
  show put _ _ (BitVec.ofNat 32 64) (ix2 a b) = _
  rw [put_apply _ _ 64 (by omega)]
  refine dite_congr rfl (fun h => r1 _ _) fun _ => ?_
  show put _ _ (BitVec.ofNat 32 0) (ix2 a b) = _
  rw [put_apply _ _ 0 (by omega)]
  refine dite_congr rfl (fun h => r0 _ _) fun _ => ?_
  pointwise

variable (m : (ℓ : Loc nD τ sig) → Buf (Elt Ideal) ℓ)

theorem V0 (c : Dev nD) : V m c main_v0 = (shapeCast S1x256 (m ((c : Thread nD τ).loc main_arg2) : FVec Ideal S256 .f32)
    shapeCasts_S256_S1x256 : FVec Ideal S1x256 .f32) := by
  unfold V; after_results <;> rfl

theorem V15 (c : Dev nD) : V m c main_v15 = (shapeCast S1x256 (m ((c : Thread nD τ).loc main_arg4) : FVec Ideal S256 .f32)
    shapeCasts_S256_S1x256 : FVec Ideal S1x256 .f32) := by
  unfold V; after_results <;> rfl

theorem V30 (c : Dev nD) : V m c main_v30 = (shapeCast S1x256 (m ((c : Thread nD τ).loc main_arg6) : FVec Ideal S256 .f32)
    shapeCasts_S256_S1x256 : FVec Ideal S1x256 .f32) := by
  unfold V; after_results <;> rfl

theorem V31 (c : Dev nD) : V m c main_v31 = (shapeCast S1x256 (m ((c : Thread nD τ).loc main_arg7) : FVec Ideal S256 .f32)
    shapeCasts_S256_S1x256 : FVec Ideal S1x256 .f32) := by
  unfold V; after_results <;> rfl

theorem V14 (c : Dev nD) : V m c main_v14 = diag (m ((c : Thread nD τ).loc main_arg3)) := by
  unfold V; simp only [hostOps0]; after_results_simp_entrywise; rfl

theorem V29 (c : Dev nD) : V m c main_v29 = diag (m ((c : Thread nD τ).loc main_arg5)) := by
  unfold V; simp only [hostOps0]; after_results_simp_entrywise; rfl

theorem e0 : ∀ t : Fin cfg0.N, win0_0.index t = ![t.val, 1] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)

/-- Token `a` of block `t`, among all tokens. -/
def row (t : Fin cfg0.N) (a : Fin 256) : Fin 32768 := ⟨t.val * 256 + a.val, by have := t.isLt; have : cfg0.N = 128 := N_0; omega⟩

/-- Block `t` of the projections: its tokens' rows, the 512 columns from 512 on. -/
theorem x0 (c : Dev nD) (t : Fin cfg0.N) : X0_0 m c t
    = (fun j => (m ((c : Thread nD τ).loc main_arg0) : FVec Ideal S32768x3328 .f32)
        (ix2 (row t (j 0)) (⟨512 + (j 1).val, by have : (j 1).val < 512 := (j 1).isLt; omega⟩ : Fin 3328)) : FVec Ideal S256x512 .f32) := by
  funext j
  unfold X0_0 Pipeline.Window.fill
  rw [dif_pos (moved0_0 t j)]
  show V m c main_arg0 ((win0_0.blk t).view.emb _) = _
  rw [V_main_arg0]
  refine congrArg (m ((c : Thread nD τ).loc main_arg0)) ?_
  blk_ext [e0, row]

/-- Window 1 holds the convolution's weights. -/
theorem iblk1 (c : Dev nD) (t : Fin cfg0.N) : iblk m c 1 t
    = (m ((c : Thread nD τ).loc main_arg1) : FVec Ideal S4x256 .f32) := by
  funext j
  show V m c main_arg1 ((win0_1.blk t).view.emb j) = _
  rw [V_main_arg1]
  refine congrArg (m ((c : Thread nD τ).loc main_arg1)) ?_
  blk_ext [e1]

theorem asRow (x : FVec Ideal S256 .f32) (j : S1x256.Idx) : (shapeCast S1x256 x shapeCasts_S256_S1x256 : FVec Ideal S1x256 .f32) j = x (ix1 (j 1)) := by
  idx_vars j
  pointwise

/-- Window 2 holds the convolution's bias. -/
theorem iblk2 (c : Dev nD) (t : Fin cfg0.N) : iblk m c 2 t
    = (fun j => (m ((c : Thread nD τ).loc main_arg2) : FVec Ideal S256 .f32) (ix1 (j 1)) : FVec Ideal S1x256 .f32) := by
  funext j
  show V m c main_v0 ((win0_2.blk t).view.emb j) = _
  rw [V0]
  refine (congrArg (shapeCast S1x256 _ shapeCasts_S256_S1x256) (a₂ := j) ?_).trans (asRow _ j)
  blk_ext [e2]

/-- Window 3 holds the first gate's block-diagonal matrix. -/
theorem iblk3 (c : Dev nD) (t : Fin cfg0.N) : iblk m c 3 t = diag (m ((c : Thread nD τ).loc main_arg3)) := by
  funext j
  show V m c main_v14 ((win0_3.blk t).view.emb j) = _
  rw [V14]
  refine congrArg (diag _) ?_
  blk_ext [e3]

/-- Window 4 holds the first gate's bias. -/
theorem iblk4 (c : Dev nD) (t : Fin cfg0.N) : iblk m c 4 t
    = (fun j => (m ((c : Thread nD τ).loc main_arg4) : FVec Ideal S256 .f32) (ix1 (j 1)) : FVec Ideal S1x256 .f32) := by
  funext j
  show V m c main_v15 ((win0_4.blk t).view.emb j) = _
  rw [V15]
  refine (congrArg (shapeCast S1x256 _ shapeCasts_S256_S1x256) (a₂ := j) ?_).trans (asRow _ j)
  blk_ext [e4]

/-- Window 5 holds the second gate's block-diagonal matrix. -/
theorem iblk5 (c : Dev nD) (t : Fin cfg0.N) : iblk m c 5 t = diag (m ((c : Thread nD τ).loc main_arg5)) := by
  funext j
  show V m c main_v29 ((win0_5.blk t).view.emb j) = _
  rw [V29]
  refine congrArg (diag _) ?_
  blk_ext [e5]

/-- Window 6 holds the second gate's bias. -/
theorem iblk6 (c : Dev nD) (t : Fin cfg0.N) : iblk m c 6 t
    = (fun j => (m ((c : Thread nD τ).loc main_arg6) : FVec Ideal S256 .f32) (ix1 (j 1)) : FVec Ideal S1x256 .f32) := by
  funext j
  show V m c main_v30 ((win0_6.blk t).view.emb j) = _
  rw [V30]
  refine (congrArg (shapeCast S1x256 _ shapeCasts_S256_S1x256) (a₂ := j) ?_).trans (asRow _ j)
  blk_ext [e6]

/-- Window 7 holds the decay's parameter. -/
theorem iblk7 (c : Dev nD) (t : Fin cfg0.N) : iblk m c 7 t
    = (fun j => (m ((c : Thread nD τ).loc main_arg7) : FVec Ideal S256 .f32) (ix1 (j 1)) : FVec Ideal S1x256 .f32) := by
  funext j
  show V m c main_v31 ((win0_7.blk t).view.emb j) = _
  rw [V31]
  refine (congrArg (shapeCast S1x256 _ shapeCasts_S256_S1x256) (a₂ := j) ?_).trans (asRow _ j)
  blk_ext [e7]

end Cert.RglruIdeal.Host

end
-- ==== Proof.RglruPoint.lean ====
/- What one grid point of the recurrent layer computes: from its block of the input, the last eight rows of the block
   before it and the carried value. -/
module

public import proofs.«01_k».proof.Proof.Gen.RglruIdeal.Value
public import proofs.«01_k».proof.Proof.RglruBlock
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.RglruIdeal.Point

open Cert.RglruIdeal Cert.RglruIdeal.Gen Cert.RglruIdeal.Value Cert.RglruIdeal.Scan
open Idealize.ShloMosaic Idealize.ShloMosaic.TcCoe Idealize.SL.Sem

variable (m : (ℓ : Loc nD τ sig) → Buf (Elt Ideal) ℓ)

/-- A block's results from the rows above it and the carried value. -/
def resAt (c : Dev nD) (t : Fin cfg0.N) (p : FVec Ideal S8x256 .f32) (h : FVec Ideal S1x256 .f32) : FVec Ideal S256x256 .f32 :=
  res (BitVec.ofNat 32 (grid0.coords t 1).val) (conv (above p (xin (X0_0 m c t))) (iblk m c 1 t) (iblk m c 2 t))
     (iblk m c 3 t) (iblk m c 4 t) (iblk m c 5 t) (iblk m c 6 t) (iblk m c 7 t) h

/-- The first row of what is carried. -/
def row0 (h : FVec Ideal S8x256 .f32) : FVec Ideal S1x256 .f32 := View.ld (Val := Elt Ideal) (e' := .f32) h (Rect.unit ![0, 0] ![1, 256] inb_S8x256_S1x256_0_0)

variable (c : Dev nD) (t : Fin cfg0.N) (acc : FVec Ideal S256x256 .f32 × FVec Ideal S264x256 .f32 × FVec Ideal S8x256 .f32)

/-- The output block away from a sequence's first block. -/
theorem outB (h0 : ¬t.val % 16 = 0) :
    (stAt0 m c t.val t.isLt acc).1 = k0_pay2 (resAt m c t (head8 acc.2.1) (row0 acc.2.2)) (gin (X0_0 m c t)) := by
  rw [stAt0_B m c t acc h0]
  frame_open
  simp (disch := decide) only [↓ View.readCov_skip, ↓ View.readCov_cons_toLoadRect, ↓ View.readCov_fill]
  frame_out
  simp only [read_unread_whole, above_eq, resAt, conv, ld_above]
  rfl

/-- The carried value away from a sequence's first block. -/
theorem carryB (h0 : ¬t.val % 16 = 0) :
    (stAt0 m c t.val t.isLt acc).2.2 = last8 (resAt m c t (head8 acc.2.1) (row0 acc.2.2)) := by
  rw [stAt0_B m c t acc h0]
  frame_open
  simp (disch := decide) only [↓ View.readCov_skip, ↓ View.readCov_cons_toLoadRect, ↓ View.readCov_fill]
  frame_out
  simp only [read_unread_whole, above_eq, resAt, conv, ld_above]
  exact last_eq _ _ _ _ _

/-- The rows kept for the next block away from a sequence's first block. -/
theorem keepB (h0 : ¬t.val % 16 = 0) : head8 (stAt0 m c t.val t.isLt acc).2.1 = tail8 (xin (X0_0 m c t)) := by
  rw [stAt0_B m c t acc h0]
  frame_open
  simp (disch := decide) only [↓ View.readCov_skip, ↓ View.readCov_cons_toLoadRect, ↓ View.readCov_fill]
  frame_out
  simp only [head8_canon, pay7_id]
  exact tail_canon _ _

/-- The output block at a sequence's first block. -/
theorem outA (h0 : t.val % 16 = 0) :
    (stAt0 m c t.val t.isLt acc).1 = k0_pay2 (resAt m c t (fun _ => 0) (fun _ => 0)) (gin (X0_0 m c t)) := by
  rw [stAt0_A m c t acc h0]
  frame_open
  simp (disch := decide) only [↓ View.readCov_skip, ↓ View.readCov_cons_toLoadRect, ↓ View.readCov_fill]
  frame_out
  simp only [readCov_ld, above_zero, resAt, conv, ld_above, zero_row]
  rfl

/-- The carried value after a sequence's first block. -/
theorem carryA (h0 : t.val % 16 = 0) :
    (stAt0 m c t.val t.isLt acc).2.2 = last8 (resAt m c t (fun _ => 0) (fun _ => 0)) := by
  rw [stAt0_A m c t acc h0]
  frame_open
  simp (disch := decide) only [↓ View.readCov_skip, ↓ View.readCov_cons_toLoadRect, ↓ View.readCov_fill]
  frame_out
  simp only [readCov_ld, above_zero, resAt, conv, ld_above, zero_row]
  exact last_eq _ _ _ _ _

/-- The rows kept for the next block at a sequence's first block. -/
theorem keepA (h0 : t.val % 16 = 0) : head8 (stAt0 m c t.val t.isLt acc).2.1 = tail8 (xin (X0_0 m c t)) := by
  rw [stAt0_A m c t acc h0]
  frame_open
  simp (disch := decide) only [↓ View.readCov_skip, ↓ View.readCov_cons_toLoadRect, ↓ View.readCov_fill]
  frame_out
  simp only [head8_canon, pay7_id]
  exact tail_canon _ _

end Cert.RglruIdeal.Point
-- ==== Proof.RglruPay.lean ====
/- What the recurrent layer's kernel computes at one grid point, element by element. -/
module

public import proofs.«01_k».proof.Proof.RglruHost
public import proofs.«01_k».proof.Proof.RglruPoint

@[expose] public section

set_option maxRecDepth 16384

noncomputable section

namespace Cert.RglruIdeal.Pay

open Cert.RglruIdeal Cert.RglruIdeal.Gen Cert.RglruIdeal.Scan Cert.RglruIdeal.Point Cert.RglruIdeal.Host Cert.Rows
open Idealize.ShloMosaic Idealize.ShloMosaic.TcCoe Idealize.SL.Sem

theorem conv_apply (e : FVec Ideal S264x256 .f32) (cw : FVec Ideal S4x256 .f32) (cb : FVec Ideal S1x256 .f32) (r c : Fin 256) :
    conv e cw cb (ix2 r c) = cb (ix2 0 c) + e (ix2 (⟨5 + r.val, by omega⟩ : Fin 264) c) * cw (ix2 0 c)
      + e (ix2 (⟨6 + r.val, by omega⟩ : Fin 264) c) * cw (ix2 1 c) + e (ix2 (⟨7 + r.val, by omega⟩ : Fin 264) c) * cw (ix2 2 c)
      + e (ix2 (⟨8 + r.val, by omega⟩ : Fin 264) c) * cw (ix2 3 c) := by
  pointwise [conv, k0_pay6]

theorem pay8_apply (x : FVec Ideal S256x256 .f32) (w : FVec Ideal S256x256 .bf16) (b : FVec Ideal S1x256 .f32) (r c : Fin 256) :
    k0_pay8 (F := Ideal) x w b (ix2 r c) = sigmoid (∑ k, x (ix2 r k) * w (ix2 k c) + b (ix2 0 c)) := by
  pointwise [k0_pay8, sigmoid]
  rfl

theorem pay9_apply (x : FVec Ideal S256x256 .f32) (w : FVec Ideal S256x256 .bf16) (b lam : FVec Ideal S1x256 .f32) (r c : Fin 256) :
    k0_pay9 (F := Ideal) x w b lam (ix2 r c) = Lru.logDecay (sigmoid (∑ k, x (ix2 r k) * w (ix2 k c) + b (ix2 0 c))) (lam (ix2 0 c)) := by
  unfold Lru.logDecay Lru.softplus
  rw [← Lru.word_neg_eight]
  pointwise [k0_pay9, sigmoid]
  simp only [zero_sub]
  rfl

theorem pay2_apply (y g : FVec Ideal S256x256 .f32) (r c : Fin 256) :
    k0_pay2 (F := Ideal) y g (ix2 r c) = y (ix2 r c) * Lru.gelu (g (ix2 r c)) := by
  pointwise [k0_pay2, Lru.gelu]

/-- The kernel's test for a sequence's first position. -/
theorem first_word : ∀ (k : Fin 16) (r : Fin 256),
    (IntOp.cmpi .eq (BitVec.ofNat 32 r.val) (Scalar.select (Scalar.cmpi .eq (BitVec.ofNat 32 k.val) 0#32) 0#32 4294967295#32) = 1#1)
      ↔ 256 * k.val + r.val = 0 := by
  decide +kernel

theorem enter_apply (k : ℕ) (hk : k < 16) (x i th : FVec Ideal S256x256 .f32) (two : EReal) (r c : Fin 256) :
    enter (BitVec.ofNat 32 k) x i th two (ix2 r c)
      = (if 256 * k + r.val = 0 then 1 else Ideal.sqrt (Ideal.div (two * th (ix2 r c)) (1 - th (ix2 r c)))) * i (ix2 r c) * x (ix2 r c) := by
  pointwise [Scan.enter]
  refine congrArg (fun q => q * i (ix2 r c) * x (ix2 r c)) ?_
  unfold Scalar.select
  have e := first_word ⟨k, hk⟩ r
  by_cases h : 256 * k + r.val = 0
  · rw [if_pos h]; exact if_pos (e.mpr h)
  · rw [if_neg h]; exact if_neg (fun q => h (e.mp q))

end Cert.RglruIdeal.Pay

end
-- ==== Proof.RglruState.lean ====
/- The recurrent layer's kernel at one grid point: given the rows above the block and the state before it, the block's
   results are the sequence's states. -/
module

public import proofs.«01_k».proof.Proof.RglruPay

@[expose] public section

set_option maxRecDepth 16384

noncomputable section

namespace Cert.RglruIdeal.State

open Cert.RglruIdeal Cert.RglruIdeal.Gen Cert.RglruIdeal.Scan Cert.RglruIdeal.Point Cert.RglruIdeal.Host Cert.RglruIdeal.Pay Cert.Rows
open Idealize.ShloMosaic Idealize.ShloMosaic.TcCoe Idealize.SL.Sem

variable (m : (ℓ : Loc nD τ sig) → Buf (Elt Ideal) ℓ) (c : Dev nD)

/-- The arguments, by their indices. -/
def aP : Fin 32768 → Fin 3328 → EReal := fun i j => (m ((c : Thread nD τ).loc main_arg0) : FVec Ideal S32768x3328 .f32) (ix2 i j)
def aCw : Fin 4 → Fin 256 → EReal := fun i j => (m ((c : Thread nD τ).loc main_arg1) : FVec Ideal S4x256 .f32) (ix2 i j)
def aCb : Fin 256 → EReal := fun j => (m ((c : Thread nD τ).loc main_arg2) : FVec Ideal S256 .f32) (ix1 j)
def aWa : Fin 4 → Fin 64 → Fin 64 → EReal := fun h i j => (m ((c : Thread nD τ).loc main_arg3) : FVec Ideal S4x64x64 .f32) (ix3 h i j)
def aBa : Fin 256 → EReal := fun j => (m ((c : Thread nD τ).loc main_arg4) : FVec Ideal S256 .f32) (ix1 j)
def aWx : Fin 4 → Fin 64 → Fin 64 → EReal := fun h i j => (m ((c : Thread nD τ).loc main_arg5) : FVec Ideal S4x64x64 .f32) (ix3 h i j)
def aBx : Fin 256 → EReal := fun j => (m ((c : Thread nD τ).loc main_arg6) : FVec Ideal S256 .f32) (ix1 j)
def aLam : Fin 256 → EReal := fun j => (m ((c : Thread nD τ).loc main_arg7) : FVec Ideal S256 .f32) (ix1 j)

/-- A sequence's input. -/
abbrev inp (b : Fin 8) : ℕ → Fin 256 → EReal := Lru.sequence (aP m c) b

/-- A sequence's state. -/
abbrev st (b : Fin 8) : ℕ → Fin 256 → EReal :=
  Lru.stateAt (aCw m c) (aCb m c) (aWa m c) (aBa m c) (aWx m c) (aBx m c) (aLam m c) (inp m c b)

/-- The rows above block `i` of sequence `b`. -/
def Above (b : Fin 8) (i : ℕ) (p : FVec Ideal S8x256 .f32) : Prop :=
  ∀ (q : Fin 8) (ch : Fin 256), p (ix2 q ch) = if 8 ≤ 256 * i + q.val then inp m c b (256 * i + q.val - 8) ch else 0

variable (t : Fin cfg0.N) (b : Fin 8) (i : ℕ) (hi : i < 16) (ht : t.val = b.val * 16 + i)
include hi ht

theorem xin_apply (r ch : Fin 256) : xin (X0_0 m c t) (ix2 r ch) = inp m c b (256 * i + r.val) ch := by
  rw [x0]
  have h : 256 * i + r.val < 4096 := by omega
  unfold inp Lru.sequence
  rw [dif_pos h]
  unfold aP
  pointwise [xin]
  refine congrArg _ ?_
  unfold row
  idx_ext

theorem gin_apply (r ch : Fin 256) : gin (X0_0 m c t) (ix2 r ch) = aP m c (row t r) ⟨512 + ch.val, by omega⟩ := by
  rw [x0]
  unfold aP
  pointwise [gin]

theorem above_apply (p : FVec Ideal S8x256 .f32) (hp : Above m c b i p) (d : ℕ) (hd : d ≤ 8) (r ch : Fin 256)
    (e : Fin 264) (he : e.val + d = 8 + r.val) :
    above p (xin (X0_0 m c t)) (ix2 e ch) = Lru.tap (inp m c b) (256 * i + r.val) d ch := by
  unfold above Lru.tap
  by_cases h : e.val < 8
  · refine (dif_pos h).trans ((hp _ _).trans ?_)
    show (if 8 ≤ 256 * i + e.val then inp m c b (256 * i + e.val - 8) ch else 0) = _
    rw [show 256 * i + e.val - 8 = 256 * i + r.val - d by omega]
    by_cases h' : 8 ≤ 256 * i + e.val
    · rw [if_pos h', if_pos (by omega)]
    · rw [if_neg h', if_neg (by omega)]
  · refine (dif_neg h).trans ((xin_apply m c t b i hi ht _ _).trans ?_)
    rw [if_pos (by omega)]
    exact congrArg (fun q => inp m c b q ch) (show 256 * i + (e.val - 8) = 256 * i + r.val - d by omega)

/-- The block's convolution. -/
theorem conv_val (p : FVec Ideal S8x256 .f32) (hp : Above m c b i p) (r ch : Fin 256) :
    conv (above p (xin (X0_0 m c t))) (iblk m c 1 t) (iblk m c 2 t) (ix2 r ch)
      = Lru.conv (aCw m c) (aCb m c) (inp m c b) (256 * i + r.val) ch := by
  rw [conv_apply, iblk1, iblk2, above_apply m c t b i hi ht p hp 3 (by omega) r ch _ (by show 5 + r.val + 3 = _; omega),
    above_apply m c t b i hi ht p hp 2 (by omega) r ch _ (by show 6 + r.val + 2 = _; omega),
    above_apply m c t b i hi ht p hp 1 (by omega) r ch _ (by show 7 + r.val + 1 = _; omega),
    above_apply m c t b i hi ht p hp 0 (by omega) r ch _ (by show 8 + r.val + 0 = _; omega), ← Lru.conv_eq]
  rfl

/-- A gate's sum over the block-diagonal matrix. -/
theorem gate_val (p : FVec Ideal S8x256 .f32) (hp : Above m c b i p) (w : FVec Ideal S4x64x64 .f32) (bias : EReal) (r ch : Fin 256) :
    sigmoid (∑ k, conv (above p (xin (X0_0 m c t))) (iblk m c 1 t) (iblk m c 2 t) (ix2 r k) * diag w (ix2 k ch) + bias)
      = sigmoid (Lru.heads (fun h i j => w (ix3 h i j)) (Lru.conv (aCw m c) (aCb m c) (inp m c b) (256 * i + r.val)) ch + bias) := by
  rw [← Lru.heads_eq]
  refine congrArg (fun q => sigmoid (q + bias)) (Finset.sum_congr rfl fun k _ => ?_)
  rw [conv_val m c t b i hi ht p hp, diag_apply]

/-- The block's logarithm of the decay. -/
theorem log_val (p : FVec Ideal S8x256 .f32) (hp : Above m c b i p) (r ch : Fin 256) :
    k0_pay9 (F := Ideal) (conv (above p (xin (X0_0 m c t))) (iblk m c 1 t) (iblk m c 2 t)) (iblk m c 3 t) (iblk m c 4 t) (iblk m c 7 t) (ix2 r ch)
      = Lru.logAt (aCw m c) (aCb m c) (aWa m c) (aBa m c) (aLam m c) (inp m c b) (256 * i + r.val) ch := by
  rw [pay9_apply, iblk3, iblk4, iblk7]
  refine (congrArg (fun q => Lru.logDecay q _) (gate_val m c t b i hi ht p hp _ _ r ch)).trans ?_
  rfl

theorem log_nonpos (p : FVec Ideal S8x256 .f32) (hp : Above m c b i p) (r ch : Fin 256) :
    Lru.logAt (aCw m c) (aCb m c) (aWa m c) (aBa m c) (aLam m c) (inp m c b) (256 * i + r.val) ch ≤ 0 :=
  Lru.logDecay_nonpos _ _ (Lru.sigmoid_nonneg _)

/-- The block's decay. -/
theorem decay_val (p : FVec Ideal S8x256 .f32) (hp : Above m c b i p) (r ch : Fin 256) :
    k0_pay10 (F := Ideal) (conv (above p (xin (X0_0 m c t))) (iblk m c 1 t) (iblk m c 2 t)) (iblk m c 3 t) (iblk m c 4 t) (iblk m c 7 t) (ix2 r ch)
      = Lru.decayAt (aCw m c) (aCb m c) (aWa m c) (aBa m c) (aLam m c) (inp m c b) ch (256 * i + r.val) :=
  congrArg Ideal.exp (log_val m c t b i hi ht p hp r ch)

/-- What enters the state in the block. -/
theorem enter_val (p : FVec Ideal S8x256 .f32) (hp : Above m c b i p) (r ch : Fin 256) :
    enter (BitVec.ofNat 32 i) (conv (above p (xin (X0_0 m c t))) (iblk m c 1 t) (iblk m c 2 t))
      (k0_pay8 (F := Ideal) (conv (above p (xin (X0_0 m c t))) (iblk m c 1 t) (iblk m c 2 t)) (iblk m c 5 t) (iblk m c 6 t))
      (k0_pay11 (F := Ideal) (conv (above p (xin (X0_0 m c t))) (iblk m c 1 t) (iblk m c 2 t)) (iblk m c 3 t) (iblk m c 4 t) (iblk m c 7 t))
      (Scalar.ofBits (F := Ideal) .f32 0xC0000000#32) (ix2 r ch)
      = Lru.enterAt (aCw m c) (aCb m c) (aWa m c) (aBa m c) (aWx m c) (aBx m c) (aLam m c) (inp m c b) ch (256 * i + r.val) := by
  rw [enter_apply i hi]
  have e : k0_pay11 (F := Ideal) (conv (above p (xin (X0_0 m c t))) (iblk m c 1 t) (iblk m c 2 t)) (iblk m c 3 t) (iblk m c 4 t) (iblk m c 7 t) (ix2 r ch)
      = Ideal.tanh (Lru.logAt (aCw m c) (aCb m c) (aWa m c) (aBa m c) (aLam m c) (inp m c b) (256 * i + r.val) ch) :=
    congrArg Ideal.tanh (log_val m c t b i hi ht p hp r ch)
  rw [e, pay8_apply, iblk5, iblk6, gate_val m c t b i hi ht p hp, conv_val m c t b i hi ht p hp]
  unfold Lru.enterAt Lru.enter
  rw [← Lru.norm_eq _ (log_nonpos m c t b i hi ht p hp r ch)]
  rfl

/-- The block's results are the sequence's states. -/
theorem res_val (p : FVec Ideal S8x256 .f32) (hp : Above m c b i p) (h : FVec Ideal S1x256 .f32)
    (hh : ∀ ch : Fin 256, h (ix2 0 ch) = if 256 * i = 0 then 0 else st m c b (256 * i - 1) ch) (r ch : Fin 256) :
    resAt m c t p h (ix2 r ch) = st m c b (256 * i + r.val) ch := by
  have ek : (grid0.coords t 1).val = i := by
    have e : (grid0.coords t 1).val = t.val / 1 % 16 := Pipeline.Grid.coords_val t 1 (by decide) rfl
    omega
  unfold resAt res
  rw [ek, block_apply _ _ _ _ _ _ _ (fun r ch => by
    rw [decay_val m c t b i hi ht p hp]
    exact Lru.exp_fin _ (log_nonpos m c t b i hi ht p hp r ch)), hh]
  refine Lru.state_block _ _ _ _ (256 * i) r.val (fun q hq => ?_) (fun q hq => ?_)
  · have hq' : q < 256 := by omega
    exact (col_apply _ ⟨q, hq'⟩ ch).trans (decay_val m c t b i hi ht p hp ⟨q, hq'⟩ ch)
  · have hq' : q < 256 := by omega
    exact (col_apply _ ⟨q, hq'⟩ ch).trans (enter_val m c t b i hi ht p hp ⟨q, hq'⟩ ch)

end Cert.RglruIdeal.State

end
-- ==== Proof.Rglru.lean ====
/- The recurrent layer's kernel: what the grid's points carry, and the result array as a function of the arguments. -/
module

public import proofs.«01_k».proof.Proof.RglruState

@[expose] public section

set_option maxRecDepth 16384

noncomputable section

namespace Cert.RglruIdeal.Layer

open Cert.RglruIdeal Cert.RglruIdeal.Gen Cert.RglruIdeal.Value Cert.RglruIdeal.Point Cert.RglruIdeal.Host Cert.RglruIdeal.Pay Cert.RglruIdeal.State
open Idealize.ShloMosaic Idealize.ShloMosaic.TcCoe Idealize.SL.Sem
open Idealize.ShloMosaic.Pipeline (Dat)

/-- The layer: every token's state, gated. -/
def G (p : FVec Ideal S32768x3328 .f32) (cw : FVec Ideal S4x256 .f32) (cb : FVec Ideal S256 .f32) (wa : FVec Ideal S4x64x64 .f32)
    (ba : FVec Ideal S256 .f32) (wx : FVec Ideal S4x64x64 .f32) (bx lam : FVec Ideal S256 .f32) : FVec Ideal S32768x256 .f32 := fun i =>
  Lru.stateAt (fun k j => cw (ix2 k j)) (fun j => cb (ix1 j)) (fun h k j => wa (ix3 h k j)) (fun j => ba (ix1 j))
      (fun h k j => wx (ix3 h k j)) (fun j => bx (ix1 j)) (fun j => lam (ix1 j))
      (Lru.sequence (fun k j => p (ix2 k j)) ⟨(i 0).val / 4096, by have : (i 0).val < 32768 := (i 0).isLt; omega⟩) ((i 0).val % 4096) (i 1)
    * Lru.gelu (p (ix2 (i 0) (⟨512 + (i 1).val, by have : (i 1).val < 256 := (i 1).isLt; omega⟩ : Fin 3328)))

variable (m : (ℓ : Loc nD τ sig) → Buf (Elt Ideal) ℓ) (c : Dev nD)

/-- What the points carry after block `i` of sequence `b`, and the block they store. -/
structure Carried (t : Fin cfg0.N) (b : Fin 8) (i : ℕ) (acc : FVec Ideal S256x256 .f32 × FVec Ideal S264x256 .f32 × FVec Ideal S8x256 .f32) : Prop where
  rows : Above m c b (i + 1) (head8 acc.2.1)
  last : ∀ ch : Fin 256, acc.2.2 (ix2 0 ch) = st m c b (256 * (i + 1) - 1) ch
  out : ∀ r ch : Fin 256, acc.1 (ix2 r ch) = st m c b (256 * i + r.val) ch * Lru.gelu (aP m c (row t r) ⟨512 + ch.val, by omega⟩)

/-- The rows kept for the next block. -/
theorem tail_above (t : Fin cfg0.N) (b : Fin 8) (i : ℕ) (hi : i < 16) (ht : t.val = b.val * 16 + i) :
    Above m c b (i + 1) (tail8 (xin (X0_0 m c t))) := fun q ch => by
  rw [if_pos (by omega)]
  refine (xin_apply m c t b i hi ht ⟨248 + q.val, by omega⟩ ch).trans ?_
  exact congrArg (fun s => inp m c b s ch) (show 256 * i + (248 + q.val) = 256 * (i + 1) + q.val - 8 by omega)

theorem first (t : Fin cfg0.N) (b : Fin 8) (ht : t.val = b.val * 16) (acc : FVec Ideal S256x256 .f32 × FVec Ideal S264x256 .f32 × FVec Ideal S8x256 .f32) :
    Carried m c t b 0 (stAt0 m c t.val t.isLt acc) := by
  have h0 : t.val % 16 = 0 := by omega
  have hp : Above m c b 0 (fun _ => 0) := fun q ch => by rw [if_neg (by omega)]
  have hr := fun r ch => res_val m c t b 0 (by omega) (by omega) (fun _ => 0) hp (fun _ => 0) (fun ch => by rw [if_pos (by omega)]) r ch
  refine ⟨?_, fun ch => ?_, fun r ch => ?_⟩
  · rw [keepA m c t acc h0]; exact tail_above m c t b 0 (by omega) (by omega)
  · rw [carryA m c t acc h0]; exact hr 255 ch
  · rw [outA m c t acc h0, pay2_apply, hr, gin_apply m c t b 0 (by omega) (by omega)]

theorem next (t : Fin cfg0.N) (b : Fin 8) (i : ℕ) (hi : i + 1 < 16) (ht : t.val = b.val * 16 + (i + 1)) (t' : Fin cfg0.N)
    (acc : FVec Ideal S256x256 .f32 × FVec Ideal S264x256 .f32 × FVec Ideal S8x256 .f32) (ha : Carried m c t' b i acc) :
    Carried m c t b (i + 1) (stAt0 m c t.val t.isLt acc) := by
  have h0 : ¬t.val % 16 = 0 := by omega
  have hr := fun r ch => res_val m c t b (i + 1) hi ht (head8 acc.2.1) ha.rows (row0 acc.2.2) (fun ch => by
    rw [if_neg (by omega), ← ha.last ch]; pointwise [row0]) r ch
  refine ⟨?_, fun ch => ?_, fun r ch => ?_⟩
  · rw [keepB m c t acc h0]; exact tail_above m c t b (i + 1) hi ht
  · rw [carryB m c t acc h0]; exact hr 255 ch
  · rw [outB m c t acc h0, pay2_apply, hr, gin_apply m c t b (i + 1) hi ht]

/-- What every point leaves. -/
theorem carried (n : ℕ) (hn : n < cfg0.N) (b : Fin 8) (hb : b.val = n / 16) :
    Carried m c ⟨n, hn⟩ b (n % 16) (outsAt0 m c n hn) := by
  have hN : cfg0.N = 128 := N_0
  induction n generalizing b with
  | zero => rw [outsAt0_zero]; exact first m c ⟨0, hn⟩ b (by show 0 = _; omega) _
  | succ n ih =>
    rw [outsAt0_succ]
    by_cases h : (n + 1) % 16 = 0
    · rw [h]; exact first m c ⟨n + 1, hn⟩ b (by show n + 1 = _; omega) _
    · have e : (n + 1) % 16 = n % 16 + 1 := by omega
      rw [e]
      exact next m c ⟨n + 1, hn⟩ b (n % 16) (by omega) (by show n + 1 = _; omega) ⟨n, by omega⟩ _ (ih (by omega) b (by omega))

/-- The result array after the run is the stated function of the arguments. -/
theorem final8 (c : Dev nD) : (dats m 0 c).arrAt 8 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8]
  idx_vars y
  have hN : cfg0.N = 128 := N_0
  have ht : t.val < 128 := lt_of_lt_of_eq t.isLt N_0
  refine ((carried m c t.val t.isLt ⟨t.val / 16, by omega⟩ rfl).out y0 y1).trans ?_
  refine Eq.trans ?_ (congrArg (G _ _ _ _ _ _ _ _) (a₁ := ix2 (row t y0) y1) ?_)
  · unfold G
    have e1 : (t.val * 256 + y0.val) / 4096 = t.val / 16 := by omega
    have e2 : (t.val * 256 + y0.val) % 4096 = 256 * (t.val % 16) + y0.val := by omega
    refine congrArg (· * _) ?_
    refine Eq.trans (b := st m c ⟨(t.val * 256 + y0.val) / 4096, by omega⟩ ((t.val * 256 + y0.val) % 4096) y1) ?_ rfl
    rw [e2]
    exact congrArg (fun b => st m c b _ y1) (Fin.ext e1.symm)
  · blk_ext [e8, row]

end Cert.RglruIdeal.Layer

end
-- ==== Proof.RglruLoop.lean ====
/- The reference of the gated linear recurrence: what its loop over the positions leaves. -/
module

public import proofs.«01_k».proof.Proof.Gen.RglruReferenceIdeal.Run
public import proofs.«01_k».proof.Proof.Gen.RglruReferenceIdeal.Step
public import Idealize.ShloMosaic.Lib.StableHlo.RunClose
public import Idealize.ShloMosaic.Lib.DynamicIndex
public import Idealize.ShloMosaic.Lib.Pipeline.Value
public import Idealize.ShloMosaic.Lib.Pointwise
public import Idealize.ShloMosaic.Lib.ValueIdx
public import proofs.«01_k».proof.Proof.Lru

@[expose] public section

set_option maxRecDepth 16384

noncomputable section

namespace Cert.RglruReferenceIdeal.Loop

open Cert.RglruReferenceIdeal Cert.RglruReferenceIdeal.Gen Cert.RglruReferenceIdeal.Value
open Idealize.ShloMosaic Idealize.ShloMosaic.TcCoe Idealize.SL.Sem Idealize.ShloMosaic.StableHlo

/-- The start of trip `j`'s row: `(j, 0, 0)`. -/
def start (j : ℕ) : Fin 3 → ℤ := fun k =>
  (((![constantI S_ 32 (BitVec.ofNat 32 j), constantI S_ 32 0#32, constantI S_ 32 0#32] : Fin 3 → (⟨S_, .i32⟩ : BufTy).Contents (Elt Ideal))) k (Shape.Idx.first h_S_)).toInt

theorem start_eq (j : ℕ) (hj : j < 4096) (k : Fin 3) : start j k = ((![j, 0, 0] : Fin 3 → ℕ) k : ℤ) := by
  match k with
  | 0 =>
    show (BitVec.ofNat 32 j).toInt = (j : ℤ)
    rw [BitVec.toInt_eq_toNat_of_lt] <;> rw [BitVec.toNat_ofNat] <;> omega
  | 1 => rfl
  | 2 => rfl

theorem slices (j : ℕ) (hj : j < 4096) : S4096x8x256.Slices ![j, 0, 0] S1x8x256 := ⟨rfl, fun a => by
  match a with
  | 0 => show j + 1 ≤ 4096; omega
  | 1 => show 0 + 8 ≤ 8; omega
  | 2 => show 0 + 256 ≤ 256; omega⟩

/-- Row `j` of a position-major array. -/
theorem row_apply (x : FVec Ideal S4096x8x256 .f32) (j : ℕ) (hj : j < 4096) (q : Fin 8) (ch : Fin 256) :
    shapeCast S8x256 (Host.dynamicSlice S1x8x256 x (start j) sliceFits_S4096x8x256_S1x8x256) shapeCasts_S1x8x256_S8x256 (ix2 q ch)
      = x (ix3 ⟨j, hj⟩ q ch) := by
  rw [Host.dynamicSlice_eq_extractStridedSlice S1x8x256 x (start j) ![j, 0, 0] _ (slices j hj) (start_eq j hj)]
  pointwise

/-- Row `j` replaced. -/
theorem put_apply (x : FVec Ideal S4096x8x256 .f32) (u : FVec Ideal S8x256 .f32) (j : ℕ) (hj : j < 4096) (s : Fin 4096) (q : Fin 8) (ch : Fin 256) :
    Host.dynamicUpdateSlice x (broadcastInDim S1x8x256 ![1, 2] bcast_S8x256_S1x8x256_1_2 u) (start j) updateFits_S4096x8x256_S1x8x256 (ix3 s q ch)
      = if s.val = j then u (ix2 q ch) else x (ix3 s q ch) := by
  rw [Host.dynamicUpdateSlice_eq_updateSlice x _ (start j) _ ![j, 0, 0] (fun a => by
    rw [start_eq j hj]
    match a with
    | 0 => show (min (max (j : ℤ) 0) ((4096 - 1 : ℕ) : ℤ)).toNat = j; omega
    | 1 => rfl
    | 2 => rfl) (slices j hj)]
  by_cases h : s.val = j
  · rw [if_pos h]
    unfold updateSlice
    refine (dif_pos (fun a => by
      match a with
      | 0 => show j ≤ s.val ∧ s.val < j + 1; omega
      | 1 => exact ⟨Nat.zero_le _, lt_of_lt_of_eq q.isLt rfl⟩
      | 2 => exact ⟨Nat.zero_le _, lt_of_lt_of_eq ch.isLt rfl⟩)).trans ?_
    refine congrArg u ?_
    idx_ext
  · rw [if_neg h]
    unfold updateSlice
    refine dif_neg (fun w => h ?_)
    have w0 : j ≤ s.val ∧ s.val < j + 1 := w 0
    omega

/-- A position-major array along one sequence and channel. -/
def along (x : FVec Ideal S4096x8x256 .f32) (q : Fin 8) (ch : Fin 256) (s : ℕ) : EReal := if h : s < 4096 then x (ix3 ⟨s, h⟩ q ch) else 0

theorem along_pos (x : FVec Ideal S4096x8x256 .f32) (q : Fin 8) (ch : Fin 256) (s : ℕ) (h : s < 4096) : along x q ch s = x (ix3 ⟨s, h⟩ q ch) := dif_pos h

/-- What the loop's buffers hold before trip `j`. -/
structure Holds (A B : FVec Ideal S4096x8x256 .f32) (V : Valuation τ sig (Elt Ideal)) (j : ℕ) : Prop where
  a : V (Proc.devRef .tc main_v81_0) = A
  b : V (Proc.devRef .tc main_v81_1) = B
  n : V (Proc.devRef .tc main_v81_2) = constantI S_ 32 (BitVec.ofNat 32 j)
  h : ∀ q ch, (V (Proc.devRef .tc main_v81_3) : FVec Ideal S8x256 .f32) (ix2 q ch) = Cert.Recurrence.run (along A q ch) (along B q ch) (j - 1) j 0
  y : ∀ (s : Fin 4096) q ch, s.val < j →
    (V (Proc.devRef .tc main_v81_4) : FVec Ideal S4096x8x256 .f32) (ix3 s q ch) = Lru.state (along A q ch) (along B q ch) s.val

variable {A B : FVec Ideal S4096x8x256 .f32} {V : Valuation τ sig (Elt Ideal)} {j : ℕ}

theorem res_apply (H : Holds A B V j) (hj : j < 4096) (q : Fin 8) (ch : Fin 256) :
    (res_main_while0b_v103 V : FVec Ideal S8x256 .f32) (ix2 q ch) = Cert.Recurrence.run (along A q ch) (along B q ch) j (j + 1) 0 := by
  unfold res_main_while0b_v103
  rw [H.a, H.b, H.n]
  show shapeCast S8x256 (Host.dynamicSlice S1x8x256 A (start j) sliceFits_S4096x8x256_S1x8x256) shapeCasts_S1x8x256_S8x256 (ix2 q ch)
      * (V (Proc.devRef .tc main_v81_3) : FVec Ideal S8x256 .f32) (ix2 q ch)
    + shapeCast S8x256 (Host.dynamicSlice S1x8x256 B (start j) sliceFits_S4096x8x256_S1x8x256) shapeCasts_S1x8x256_S8x256 (ix2 q ch) = _
  rw [row_apply A j hj, row_apply B j hj, H.h, ← along_pos A q ch j hj, ← along_pos B q ch j hj]
  rfl

theorem step (H : Holds A B V j) (hj : j < 4096) : Holds A B (STEP V) (j + 1) where
  a := (STEP_main_v81_0 V).trans H.a
  b := (STEP_main_v81_1 V).trans H.b
  n := (STEP_main_v81_2 V).trans (by
    unfold step_main_v81_2
    rw [H.n]
    funext i
    show BitVec.ofNat 32 j + 1#32 = BitVec.ofNat 32 (j + 1)
    simp only [BitVec.ofNat_add])
  h := fun q ch => by
    rw [STEP_main_v81_3]
    exact res_apply H hj q ch
  y := fun s q ch hs => by
    rw [STEP_main_v81_4]
    unfold step_main_v81_4
    rw [H.n]
    refine (put_apply (V (Proc.devRef .tc main_v81_4)) (res_main_while0b_v103 V) j hj s q ch).trans ?_
    by_cases e : s.val = j
    · rw [if_pos e, res_apply H hj, e]; rfl
    · rw [if_neg e]; exact H.y s q ch (by omega)

theorem iter (X : Valuation τ sig (Elt Ideal)) (H : Holds A B X 0) : ∀ k, k ≤ 4096 → Holds A B (STEP^[k] X) k
  | 0, _ => H
  | k + 1, hk => by
    rw [Function.iterate_succ_apply']
    exact step (iter X H k (by omega)) (by omega)

variable (m : (ℓ : Loc nD τ sig) → Buf (Elt Ideal) ℓ) (c : Dev nD)

/-- The decays of all positions. -/
def decays : FVec Ideal S4096x8x256 .f32 :=
  Step.A_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- What enters at all positions. -/
def enters : FVec Ideal S4096x8x256 .f32 :=
  Step.A_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxRecDepth 65536 in
set_option maxHeartbeats 800000 in
theorem entry_a : entryContents preI m c (Proc.devRef .tc main_v81_0) = decays m c := by
  simp only [entryContents, afterL_cons, afterL_nil]; after_reads_simp; rfl

set_option maxRecDepth 65536 in
set_option maxHeartbeats 800000 in
theorem entry_b : entryContents preI m c (Proc.devRef .tc main_v81_1) = enters m c := by
  simp only [entryContents, afterL_cons, afterL_nil]; after_reads_simp; rfl

set_option maxRecDepth 65536 in
set_option maxHeartbeats 800000 in
theorem entry_h : entryContents preI m c (Proc.devRef .tc main_v81_3) = Step.K_main_v77 (F := Ideal) := by
  simp only [entryContents, afterL_cons, afterL_nil]; after_reads_simp; rfl

theorem entry : Holds (decays m c) (enters m c) (entryContents preI m c) 0 where
  a := entry_a m c
  b := entry_b m c
  n := ctr_entry m c
  h := fun q ch => by
    rw [entry_h]
    unfold Step.K_main_v77
    exact Ideal.ofBits_zero_f32
  y := fun s q ch hs => absurd hs (Nat.not_lt_zero _)

/-- What the loop leaves. -/
theorem last : Holds (decays m c) (enters m c) (STEP^[4096] (entryContents preI m c)) 4096 := iter _ (entry m c) 4096 (le_refl _)

end Cert.RglruReferenceIdeal.Loop
-- ==== Proof.RglruRef.lean ====
/- The reference of the gated linear recurrence: its values before and after the loop, entry by entry. -/
module

public import proofs.«01_k».proof.Proof.Gen.RglruReferenceIdeal.Step
public import Idealize.ShloMosaic.Lib.Pointwise
public import Idealize.ShloMosaic.Lib.ValueIdx
public import proofs.«01_k».proof.Proof.Lru

@[expose] public section

set_option maxRecDepth 16384

noncomputable section

namespace Cert.RglruReferenceIdeal.Ref

open Cert.RglruReferenceIdeal Cert.RglruReferenceIdeal.Gen Cert.RglruReferenceIdeal.Step
open Idealize.ShloMosaic Idealize.ShloMosaic.TcCoe Idealize.SL.Sem

variable (p : FVec Ideal S32768x3328 .f32) (cw : FVec Ideal S4x256 .f32) (cb : FVec Ideal S256 .f32) (wa : FVec Ideal S4x64x64 .f32)
  (ba : FVec Ideal S256 .f32) (wx : FVec Ideal S4x64x64 .f32) (bx lam : FVec Ideal S256 .f32)

theorem merge (a b : Prop) [Decidable a] [Decidable b] (f : b → EReal) :
    (if h : a ∧ b then f h.2 else 0) = if a then (if h : b then f h else 0) else 0 := by
  by_cases ha : a <;> by_cases hb : b <;> simp [ha, hb]

/-- A sequence's input. -/
def seq (q : Fin 8) : ℕ → Fin 256 → EReal := Lru.sequence (fun k j => p (ix2 k j)) q

theorem padded_apply (q : Fin 8) (s : Fin 4099) (ch : Fin 256) :
    A_main_v2 (F := Ideal) p cw cb wa ba wx bx lam (ix3 q s ch) = if 3 ≤ s.val then seq p q (s.val - 3) ch else 0 := by
  have hz : (K_main_call0_v0 (F := Ideal)) = fun _ => 0 := by
    funext i
    show (((0#32 : BitVec 32).toInt : ℝ) : EReal) = 0
    simp
  unfold A_main_v2 A_main_v1 A_main_v0
  rw [hz]
  pointwise [seq, Lru.sequence]
  exact merge (3 ≤ s.val) (s.val - 3 < 4096) fun h => p (ix2 ⟨q.val * 4096 + (s.val - 3), by omega⟩ ⟨768 + ch.val, by omega⟩)

theorem conv_apply (q : Fin 8) (s : Fin 4096) (ch : Fin 256) :
    A_main_v32 (F := Ideal) p cw cb wa ba wx bx lam (ix3 q s ch) = Lru.conv (fun k j => cw (ix2 k j)) (fun j => cb (ix1 j)) (seq p q) s.val ch := by
  have h := fun s : Fin 4099 => padded_apply p cw cb wa ba wx bx lam q s ch
  simp only [A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3]
  generalize A_main_v2 (F := Ideal) p cw cb wa ba wx bx lam = y at h ⊢
  have t : ∀ (k d : ℕ) (_ : k + d = 3) (hb : k + s.val < 4099),
      y (ix3 q ⟨k + s.val, hb⟩ ch) = if d ≤ s.val then seq p q (s.val - d) ch else 0 := fun k d hk hb => (h ⟨k + s.val, hb⟩).trans (by
    show (if 3 ≤ k + s.val then seq p q (k + s.val - 3) ch else 0) = _
    rw [show k + s.val - 3 = s.val - d by omega]
    simp only [show (3 ≤ k + s.val) ↔ d ≤ s.val by omega])
  pointwise [Lru.conv, Lru.tap]
  rw [h ⟨s.val, by omega⟩, t 1 2 rfl, t 2 1 rfl, t 3 0 rfl]
  simp only [Nat.zero_le, if_true, Nat.sub_zero]

/-- The gates' product with the four blocks, head by head. -/
def headsOf (w : FVec Ideal S4x64x64 .f32) (y : FVec Ideal S8x4096x256 .f32) : FVec Ideal S8x4096x256 .f32 :=
  shapeCast _ (transpose S8x4096x4x64 [2, 3, 0, 1] (Host.dotGeneral dot_S4x64x64_S8x4096x4x64_S4x64x8x4096_1_3_2_01_0_2 none w
    (shapeCast S8x4096x4x64 y shapeCasts_S8x4096x256_S8x4096x4x64) : FVec Ideal S4x64x8x4096 .f32) transposes_S4x64x8x4096_S8x4096x4x64_2_3_0_1) shapeCasts_S8x4096x4x64_S8x4096x256

theorem headsOf_apply (w : FVec Ideal S4x64x64 .f32) (y : FVec Ideal S8x4096x256 .f32) (q : Fin 8) (s : Fin 4096) (ch : Fin 256) :
    headsOf w y (ix3 q s ch) = Lru.heads (fun h k j => w (ix3 h k j)) (fun j => y (ix3 q s j)) ch := by
  unfold headsOf
  pointwise [Lru.heads]
  refine Finset.sum_congr rfl fun k _ => ?_
  rw [mul_comm]
  refine congrArg (fun v => v * _) (congrArg y ?_)
  idx_ext

theorem r_apply (q : Fin 8) (s : Fin 4096) (ch : Fin 256) :
    A_main_v45 (F := Ideal) p cw cb wa ba wx bx lam (ix3 q s ch)
      = Lru.gate (fun h k j => wa (ix3 h k j)) (fun j => ba (ix1 j)) (Lru.conv (fun k j => cw (ix2 k j)) (fun j => cb (ix1 j)) (seq p q) s.val) ch := by
  have e : A_main_v36 (F := Ideal) p cw cb wa ba wx bx lam = headsOf wa (A_main_v32 (F := Ideal) p cw cb wa ba wx bx lam) := by unfold A_main_v36 A_main_v35 A_main_v34 A_main_v33; rfl
  have h := (congrFun e (ix3 q s ch)).trans (headsOf_apply wa _ q s ch)
  rw [show (fun j => A_main_v32 (F := Ideal) p cw cb wa ba wx bx lam (ix3 q s j)) = _ from funext fun j => conv_apply p cw cb wa ba wx bx lam q s j] at h
  simp only [A_main_v45, A_main_v43, A_main_v41, A_main_v40, A_main_v39, A_main_v38, A_main_v37, K_main_v44, K_main_v42, K_main_cst, K_main_cst_0]
  generalize A_main_v36 (F := Ideal) p cw cb wa ba wx bx lam = y at h ⊢
  pointwise [Lru.gate, Cert.Rows.sigmoid]
  rw [h]

theorem i_apply (q : Fin 8) (s : Fin 4096) (ch : Fin 256) :
    A_main_v57 (F := Ideal) p cw cb wa ba wx bx lam (ix3 q s ch)
      = Lru.gate (fun h k j => wx (ix3 h k j)) (fun j => bx (ix1 j)) (Lru.conv (fun k j => cw (ix2 k j)) (fun j => cb (ix1 j)) (seq p q) s.val) ch := by
  have e : A_main_v48 (F := Ideal) p cw cb wa ba wx bx lam = headsOf wx (A_main_v32 (F := Ideal) p cw cb wa ba wx bx lam) := by unfold A_main_v48 A_main_v47 A_main_v46 A_main_v33; rfl
  have h := (congrFun e (ix3 q s ch)).trans (headsOf_apply wx _ q s ch)
  rw [show (fun j => A_main_v32 (F := Ideal) p cw cb wa ba wx bx lam (ix3 q s j)) = _ from funext fun j => conv_apply p cw cb wa ba wx bx lam q s j] at h
  simp only [A_main_v57, A_main_v55, A_main_v53, A_main_v52, A_main_v51, A_main_v50, A_main_v49, K_main_v54, K_main_v56, K_main_cst_1, K_main_cst_2]
  generalize A_main_v48 (F := Ideal) p cw cb wa ba wx bx lam = y at h ⊢
  pointwise [Lru.gate, Cert.Rows.sigmoid]
  rw [h]

theorem softplus_apply (ch : Fin 256) : A_main_v61 (F := Ideal) p cw cb wa ba wx bx lam (ix1 ch) = Lru.softplus (-lam (ix1 ch)) := by
  simp only [A_main_v61, A_main_call1_v11, A_main_call1_v10, A_main_call1_v9, A_main_call1_v8, A_main_call1_v7, A_main_call1_v6, A_main_call1_v4, A_main_call1_v3, A_main_call1_v1, A_main_v60, K_main_call1_v0, K_main_call1_v2, K_main_call1_v5, K_main_call1_cst]
  pointwise [Lru.softplus]
  rw [if_neg (fun h => h rfl)]
  rfl

theorem log_apply (q : Fin 8) (s : Fin 4096) (ch : Fin 256) :
    A_main_v64 (F := Ideal) p cw cb wa ba wx bx lam (ix3 q s ch)
      = Lru.logAt (fun k j => cw (ix2 k j)) (fun j => cb (ix1 j)) (fun h k j => wa (ix3 h k j)) (fun j => ba (ix1 j)) (fun j => lam (ix1 j)) (seq p q) s.val ch := by
  have hr := r_apply p cw cb wa ba wx bx lam q s ch
  have hs := softplus_apply p cw cb wa ba wx bx lam ch
  simp only [A_main_v64, A_main_v63, A_main_v62, A_main_v59, K_main_v58, K_main_cst_3]
  generalize A_main_v45 (F := Ideal) p cw cb wa ba wx bx lam = y at hr ⊢
  generalize A_main_v61 (F := Ideal) p cw cb wa ba wx bx lam = z at hs ⊢
  pointwise [Lru.logAt, Lru.logDecay]
  rw [hr, hs, Lru.word_neg_eight]

theorem decay_apply (q : Fin 8) (s : Fin 4096) (ch : Fin 256) :
    A_main_v78 (F := Ideal) p cw cb wa ba wx bx lam (ix3 s q ch)
      = Lru.decayAt (fun k j => cw (ix2 k j)) (fun j => cb (ix1 j)) (fun h k j => wa (ix3 h k j)) (fun j => ba (ix1 j)) (fun j => lam (ix1 j)) (seq p q) ch s.val := by
  have hl := log_apply p cw cb wa ba wx bx lam q s ch
  simp only [A_main_v78, A_main_v65]
  generalize A_main_v64 (F := Ideal) p cw cb wa ba wx bx lam = y at hl ⊢
  pointwise [Lru.decayAt]
  rw [hl]

theorem first_word : ∀ s : Fin 4096, IntOp.cmpi .eq (BitVec.ofNat 32 s.val) 0#32 = 1#1 ↔ s.val = 0 := by
  decide +kernel

theorem enter_apply (q : Fin 8) (s : Fin 4096) (ch : Fin 256) :
    A_main_v79 (F := Ideal) p cw cb wa ba wx bx lam (ix3 s q ch)
      = Lru.enterAt (fun k j => cw (ix2 k j)) (fun j => cb (ix1 j)) (fun h k j => wa (ix3 h k j)) (fun j => ba (ix1 j)) (fun h k j => wx (ix3 h k j)) (fun j => bx (ix1 j)) (fun j => lam (ix1 j)) (seq p q) ch s.val := by
  have hl := log_apply p cw cb wa ba wx bx lam q s ch
  have hi := i_apply p cw cb wa ba wx bx lam q s ch
  have hc := conv_apply p cw cb wa ba wx bx lam q s ch
  simp only [A_main_v79, A_main_v76, A_main_v75, A_main_v74, A_main_v70, A_main_v69, A_main_v68, A_main_v67, K_main_v66, K_main_cst_4, K_main_v73, K_main_v71, K_main_v72, K_main_c_5, K_main_call2_v1, K_main_call2_v0, K_main_cst_6]
  generalize A_main_v64 (F := Ideal) p cw cb wa ba wx bx lam = y at hl ⊢
  generalize A_main_v57 (F := Ideal) p cw cb wa ba wx bx lam = z at hi ⊢
  generalize A_main_v32 (F := Ideal) p cw cb wa ba wx bx lam = x at hc ⊢
  pointwise [Lru.enterAt, Lru.enter, Lru.norm]
  rw [hl, hi, hc, Lru.word_two]
  by_cases h : s.val = 0
  · rw [if_pos h, (first_word s).mpr h]
    refine congrArg (fun v => v * _ * _) ?_
    show Ideal.ofBits .f32 0x3F800000#32 = 1
    exact Ideal.ofBits_one_f32
  · rw [if_neg h]
    refine congrArg (fun v => v * _ * _) ?_
    exact if_neg (fun e => h ((first_word s).mp e))

theorem result_apply (s : State Ideal) (i : S32768x256.Idx) :
    (R_main_v99 (F := Ideal) s p : FVec Ideal S32768x256 .f32) i
      = (s.main_v81_4 : FVec Ideal S4096x8x256 .f32) (ix3 ⟨(i 0).val % 4096, by omega⟩ ⟨(i 0).val / 4096, by have : (i 0).val < 32768 := (i 0).isLt; omega⟩ (i 1))
        * Lru.gelu (p (ix2 (i 0) (⟨512 + (i 1).val, by have : (i 1).val < 256 := (i 1).isLt; omega⟩ : Fin 3328))) := by
  idx_vars i
  unfold R_main_v99
  pointwise [Lru.gelu]
  rw [mul_assoc (p _) (p _) (p _)]

end Cert.RglruReferenceIdeal.Ref
-- ==== Proof.RglruEq.lean ====
/- The gated linear recurrence: the reference's result, and the layer's claims. -/
module

public import proofs.«01_k».proof.Defs
public import proofs.«01_k».proof.Proof.Rglru
public import proofs.«01_k».proof.Proof.RglruLoop
public import proofs.«01_k».proof.Proof.RglruRef
public import proofs.«01_k».proof.Proof.Gen.Rglru.Frame
public import Idealize.ShloMosaic.Lib.Quiescent

@[expose] public section

set_option maxRecDepth 16384

noncomputable section

namespace Cert.RglruReferenceIdeal.Result

open Cert.RglruReferenceIdeal Cert.RglruReferenceIdeal.Gen Cert.RglruReferenceIdeal.Value Cert.RglruReferenceIdeal.Loop Cert.RglruReferenceIdeal.Ref
open Idealize.ShloMosaic Idealize.ShloMosaic.TcCoe Idealize.SL.Sem Idealize.ShloMosaic.StableHlo

variable (m : (ℓ : Loc nD τ sig) → Buf (Elt Ideal) ℓ) (c : Dev nD)

/-- The result read off the loop's outputs. -/
theorem out_eq (V : Valuation τ sig (Elt Ideal)) : out_main_v99 V
    = Step.R_main_v99 (F := Ideal) ⟨V (Proc.devRef .tc main_v81_3), V (Proc.devRef .tc main_v81_4), V (Proc.devRef .tc main_v81_0), V (Proc.devRef .tc main_v81_1)⟩
        (V (Proc.devRef .tc main_arg0)) := by
  unfold out_main_v99 Step.R_main_v99
  rfl

/-- The states the loop stacks are the layer's. -/
theorem state_eq (q : Fin 8) (ch : Fin 256) (s : Fin 4096) :
    Lru.state (along (decays m c) q ch) (along (enters m c) q ch) s.val
      = Lru.stateAt (fun k j => (m ((c.tc : Thread nD τ).loc main_arg1) : FVec Ideal S4x256 .f32) (ix2 k j))
          (fun j => (m ((c.tc : Thread nD τ).loc main_arg2) : FVec Ideal S256 .f32) (ix1 j))
          (fun h k j => (m ((c.tc : Thread nD τ).loc main_arg3) : FVec Ideal S4x64x64 .f32) (ix3 h k j))
          (fun j => (m ((c.tc : Thread nD τ).loc main_arg4) : FVec Ideal S256 .f32) (ix1 j))
          (fun h k j => (m ((c.tc : Thread nD τ).loc main_arg5) : FVec Ideal S4x64x64 .f32) (ix3 h k j))
          (fun j => (m ((c.tc : Thread nD τ).loc main_arg6) : FVec Ideal S256 .f32) (ix1 j))
          (fun j => (m ((c.tc : Thread nD τ).loc main_arg7) : FVec Ideal S256 .f32) (ix1 j))
          (seq (m ((c.tc : Thread nD τ).loc main_arg0)) q) s.val ch := by
  unfold Lru.stateAt Lru.state
  refine (Lru.run_congr _ _ _ _ 0 (s.val + 1) s.val le_rfl ?_ ?_ 0).trans (by rw [Nat.zero_add])
  · intro u hu
    rw [along_pos _ q ch u (by omega), Nat.zero_add]
    exact decay_apply _ _ _ _ _ _ _ _ q ⟨u, by omega⟩ ch
  · intro u hu
    rw [along_pos _ q ch u (by omega), Nat.zero_add]
    exact enter_apply _ _ _ _ _ _ _ _ q ⟨u, by omega⟩ ch

/-- The reference's result is the layer's function of the arguments. -/
theorem ref_eq : out_main_v99 (STEP^[4096] (entryContents preI m c))
    = Cert.RglruIdeal.Layer.G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  have H := last m c
  rw [out_eq, iter_main_arg0]
  generalize STEP^[4096] (entryContents preI m c) = V at H ⊢
  funext i
  have hi : (i 0).val < 32768 := (i 0).isLt
  refine (result_apply _ _ i).trans ?_
  refine congrArg (fun v => v * _) ?_
  exact (H.y ⟨(i 0).val % 4096, by omega⟩ ⟨(i 0).val / 4096, by omega⟩ (i 1) (by show (i 0).val % 4096 < 4096; omega)).trans
    (state_eq m c ⟨(i 0).val / 4096, by omega⟩ (i 1) ⟨(i 0).val % 4096, by omega⟩)

end Cert.RglruReferenceIdeal.Result

namespace Cert.Proof.Rglru

open Idealize.ShloMosaic Idealize.SL.Sem

/-- The reference terminates, keeps its arguments and declares no semaphore. -/
theorem frame_ref : Cert.quiescent_RglruReferenceIdeal := fun m ρ _ =>
  (θ_run Cert.RglruReferenceIdeal.defs _ _).mono (fun r h => ⟨fun c => (h c).2, sem_eq_zero_of_no_sems (by decide) r.2⟩)
    (Cert.RglruReferenceIdeal.Value.run (F := Ideal) m ρ)

/-- The kernel and the reference compute the same array over the reals. -/
theorem algebraic : Cert.algebraic_RglruIdeal_RglruReferenceIdeal := by
  intro m ρ m' ρ' _ hag
  refine ⟨fun c => Cert.RglruIdeal.Layer.G (m ((c.tc : Thread _ _).loc Cert.RglruIdeal.main_arg0)) (m ((c.tc : Thread _ _).loc Cert.RglruIdeal.main_arg1))
    (m ((c.tc : Thread _ _).loc Cert.RglruIdeal.main_arg2)) (m ((c.tc : Thread _ _).loc Cert.RglruIdeal.main_arg3))
    (m ((c.tc : Thread _ _).loc Cert.RglruIdeal.main_arg4)) (m ((c.tc : Thread _ _).loc Cert.RglruIdeal.main_arg5))
    (m ((c.tc : Thread _ _).loc Cert.RglruIdeal.main_arg6)) (m ((c.tc : Thread _ _).loc Cert.RglruIdeal.main_arg7)), ?_, ?_⟩
  · exact (θ_run Cert.RglruIdeal.defs _ _).mono (fun _ h c => ⟨(h c).1.trans (Cert.RglruIdeal.Layer.final8 m c), (h c).2⟩)
      (Cert.RglruIdeal.Value.run_blocks (F := Ideal) m ρ)
  · refine (θ_run Cert.RglruReferenceIdeal.defs _ _).mono (fun _ h c => ⟨(h c).1.trans ?_, (h c).2⟩)
      (Cert.RglruReferenceIdeal.Value.run (F := Ideal) m' ρ')
    refine (Cert.RglruReferenceIdeal.Result.ref_eq m' c).trans ?_
    rw [(hag c).1, (hag c).2.1, (hag c).2.2.1, (hag c).2.2.2.1, (hag c).2.2.2.2.1, (hag c).2.2.2.2.2.1, (hag c).2.2.2.2.2.2.1, (hag c).2.2.2.2.2.2.2]

end Cert.Proof.Rglru

end
-- ==== Proof.InProj.lean ====
/- The input projection: what one block of 512 tokens computes and what the result array holds. The weight is widened with
   columns of zeros after its last two groups of four columns. -/
module

public import proofs.«01_k».proof.Proof.Gen.InProjIdeal.Value
public import proofs.«01_k».proof.Proof.Rows
public import Idealize.ShloMosaic.Lib.Pointwise
public import Idealize.ShloMosaic.Lib.Pipeline.ValueKit
public import Idealize.ShloMosaic.Lib.ValueIdx

@[expose] public section

set_option maxRecDepth 16384

noncomputable section

namespace Cert.InProjIdeal.Proj

open Cert.InProjIdeal Cert.InProjIdeal.Gen Cert.Rows Idealize.ShloMosaic Idealize.ShloMosaic.TcCoe Idealize.SL.Sem
open Idealize.ShloMosaic.Pipeline (Dat)

/-- The widened weight: the columns before 3076, zeros up to 3200, the last four columns, zeros. -/
def wide (w : FVec Ideal S1024x3080 .f32) (k : Fin 1024) (j : Fin 3328) : EReal :=
  if h : j.val < 3076 then w (ix2 k ⟨j.val, by omega⟩)
  else if h' : 3200 ≤ j.val ∧ j.val < 3204 then w (ix2 k ⟨j.val - 124, by omega⟩) else 0

/-- The projection of every token's normalised row. -/
def G (h : FVec Ideal S32768x1024 .f32) (g : FVec Ideal S1024 .f32) (w : FVec Ideal S1024x3080 .f32) :
    FVec Ideal S32768x3328 .f32 := fun i =>
  ∑ k, rms (fun k => h (ix2 (i 0) k)) (fun k => g (ix1 k)) k * wide w k (i 1)

variable (m : (ℓ : Loc nD τ sig) → Buf (Elt Ideal) ℓ) (ρ : Dev nD → PrngReg)

/-- The norm's scale as the launch finds it: one row. -/
theorem V0 (c : Dev nD) : V m c main_v0 = (shapeCast S1x1024 (m ((c : Thread nD τ).loc main_arg1) : FVec Ideal S1024 .f32)
    shapeCasts_S1024_S1x1024 : FVec Ideal S1x1024 .f32) := by
  unfold V
  simp only [hostOps0, hostOps0_1, hostOps0_2, hostOps0_3, hostOps0_4, List.flatten_cons, List.flatten_nil, List.append_nil, List.cons_append, List.nil_append]
  after_results <;> rfl

/-- Four columns widened to 128 by zeros, by the host's operations. -/
def padded (x : FVec Ideal S1024x4 .f32) : FVec Ideal S1024x128 .f32 :=
  pad S1024x128 ![0, 0] ![0, 124] ![0, 0] x (sitofp (F := Ideal) .f32 (constantI S_ 32 0#32)) pads_S1024x4_S1024x128_000_01240 h_S_

/-- The widened weight, by the host's operations. -/
def widened (w : FVec Ideal S1024x3080 .f32) : FVec Ideal S1024x3328 .bf16 :=
  truncf (F := Ideal) .bf16 (concatenate S1024x3328 1
    [⟨S1024x3072, extractStridedSlice S1024x3072 ![0, 0] w slices_S1024x3080_S1024x3072_0_0⟩,
     ⟨S1024x128, padded (extractStridedSlice S1024x4 ![0, 3072] w slices_S1024x3080_S1024x4_0_3072)⟩,
     ⟨S1024x128, padded (extractStridedSlice S1024x4 ![0, 3076] w slices_S1024x3080_S1024x4_0_3076)⟩]
    concatenates_S1024x3072_S1024x128_S1024x128_S1024x3328_d1) bitsLt_bf16_f32

/-- The widened weight as the launch finds it. -/
theorem V7 (c : Dev nD) : V m c main_v7 = widened (m ((c : Thread nD τ).loc main_arg2)) := by
  unfold V
  simp only [hostOps0, hostOps0_1, hostOps0_2, hostOps0_3, hostOps0_4, List.flatten_cons, List.flatten_nil, List.append_nil, List.cons_append, List.nil_append]
  after_results <;> rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)

/-- Token `a` of block `t`, among all tokens. -/
def row (t : Fin cfg0.N) (a : Fin 512) : Fin 32768 := ⟨t.val * 512 + a.val, by have := t.isLt; have : cfg0.N = 64 := N_0; omega⟩

/-- Block `t` of the hidden state holds the rows of its tokens. -/
theorem iblk0 (c : Dev nD) (t : Fin cfg0.N) : iblk m c 0 t
    = (fun j => (m ((c : Thread nD τ).loc main_arg0) : FVec Ideal S32768x1024 .f32) (ix2 (row t (j 0)) (j 1)) : FVec Ideal S512x1024 .f32) := by
  funext j
  show V m c main_arg0 ((win0_0.blk t).view.emb j) = _
  rw [V_main_arg0]
  refine congrArg (m ((c : Thread nD τ).loc main_arg0)) ?_
  blk_ext [e0, row]
/-- Window 1 holds the norm's scale. -/
theorem iblk1 (c : Dev nD) (t : Fin cfg0.N) : iblk m c 1 t
    = (fun j => (m ((c : Thread nD τ).loc main_arg1) : FVec Ideal S1024 .f32) (ix1 (j 1)) : FVec Ideal S1x1024 .f32) := by
  funext j
  show V m c main_v0 ((win0_1.blk t).view.emb j) = _
  rw [V0]
  refine (congrArg (shapeCast S1x1024 (m ((c : Thread nD τ).loc main_arg1) : FVec Ideal S1024 .f32) shapeCasts_S1024_S1x1024) (a₂ := j) ?_).trans ?_
  · blk_ext [e1]
  · idx_vars j
    pointwise

/-- The integer zero read as a real is zero. -/
theorem zero_int : FloatOps.sitofp (F := Ideal) .f32 0#32 = (0 : EReal) := by
  show (((0#32 : BitVec 32).toInt : ℝ) : EReal) = 0
  simp

/-- The choice between the pieces of the widened weight, over any operand. -/
theorem pieces (f : (n : ℕ) → n < 3080 → EReal) (z : EReal) (hz : z = 0) (j : ℕ) (hj : j < 3328) :
    (if h : j < 3072 then f j (by omega) else if h : j - 3072 < 128 then
        if h' : j - 3072 < 4 then f (3072 + (j - 3072)) (by omega) else z
      else if h' : j - 3072 - 128 < 4 then f (3076 + (j - 3072 - 128)) (by omega) else z)
    = if h : j < 3076 then f j (by omega) else if h' : 3200 ≤ j ∧ j < 3204 then f (j - 124) (by omega) else 0 := by
  have e : ∀ (a b : ℕ) (ha : a < 3080) (hb : b < 3080), a = b → f a ha = f b hb := fun a b ha hb h => by subst h; rfl
  by_cases h1 : j < 3072
  · rw [dif_pos h1, dif_pos (by omega)]
  rw [dif_neg h1]
  by_cases h2 : j - 3072 < 128
  · rw [dif_pos h2]
    by_cases h3 : j - 3072 < 4
    · rw [dif_pos h3, dif_pos (by omega)]
      exact e _ _ _ _ (by omega)
    · rw [dif_neg h3, dif_neg (by omega), dif_neg (by omega), hz]
  · rw [dif_neg h2]
    by_cases h3 : j - 3072 - 128 < 4
    · rw [dif_pos h3, dif_neg (by omega), dif_pos (by omega)]
      exact e _ _ _ _ (by omega)
    · rw [dif_neg h3, dif_neg (by omega), dif_neg (by omega), hz]

/-- The host's widened weight is the stated one. -/
theorem widened_apply (w : FVec Ideal S1024x3080 .f32) (k : Fin 1024) (j : Fin 3328) : widened w (ix2 k j) = wide w k j := by
  unfold wide
  pointwise [widened, padded]
  exact pieces (fun n h => w (ix2 k ⟨n, h⟩)) _ zero_int j.val j.isLt

/-- Window 2 holds the widened weight. -/
theorem iblk2 (c : Dev nD) (t : Fin cfg0.N) : iblk m c 2 t
    = (fun j => wide (m ((c : Thread nD τ).loc main_arg2)) (j 0) (j 1) : FVec Ideal S1024x3328 .bf16) := by
  funext j
  show V m c main_v7 ((win0_2.blk t).view.emb j) = _
  rw [V7]
  refine (congrArg (widened _) (a₂ := j) ?_).trans ?_
  · blk_ext [e2]
  · idx_vars j
    exact widened_apply _ _ _

/-- What one block's body stores, at a token and a column. -/
theorem pay1_apply (h : FVec Ideal S512x1024 .f32) (g : FVec Ideal S1x1024 .f32) (w : FVec Ideal S1024x3328 .bf16)
    (a : Fin 512) (b : Fin 3328) :
    k0_pay1 (F := Ideal) h g w (ix2 a b) = ∑ k, rms (fun k => h (ix2 a k)) (fun k => g (ix2 0 k)) k * w (ix2 k b) := by
  pointwise [k0_pay1, rms]

/-- The result array after the run is the stated function of the arguments. -/
theorem final3 (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [iblk0, iblk1, iblk2]
  idx_vars y
  refine (pay1_apply _ _ _ _ _).trans ?_
  refine Eq.trans ?_ (congrArg (G _ _ _) (a₁ := ix2 (row t y0) y1) ?_)
  · rfl
  · blk_ext [e3, row]

end Cert.InProjIdeal.Proj

end
-- ==== Proof.InProjEq.lean ====
/- The input projection's claims: the reference projects with the narrow weight and lays the columns out with zeros between
   them, which is the product with the widened weight. -/
module

public import proofs.«01_k».proof.Defs
public import proofs.«01_k».proof.Proof.InProj
public import proofs.«01_k».proof.Proof.Gen.InProj.Frame
public import proofs.«01_k».proof.Proof.Gen.InProjReferenceIdeal.Run
public import proofs.«01_k».proof.Proof.Gen.InProjReferenceIdeal.Read
public import Idealize.ShloMosaic.Lib.Quiescent

@[expose] public section

set_option maxRecDepth 16384

noncomputable section

namespace Cert.InProjReferenceIdeal.Proj

open Cert.InProjReferenceIdeal Cert.InProjReferenceIdeal.Gen Cert.InProjReferenceIdeal.Read Cert.Rows
open Idealize.ShloMosaic Idealize.ShloMosaic.TcCoe Idealize.SL.Sem

variable (x0 : FVec Ideal S32768x1024 .f32) (x1 : FVec Ideal S1024 .f32) (x2 : FVec Ideal S1024x3080 .f32)

/-- The reference's norm. -/
theorem norm_apply (a : Fin 32768) (b : Fin 1024) :
    val_main_v12 (F := Ideal) x0 x1 (ix2 a b) = rms (fun k => x0 (ix2 a k)) (fun k => x1 (ix1 k)) b := by
  simp only [val_main_v12, val_main_v9, val_main_v8, val_main_v7, val_main_v6, val_main_v5, val_main_v4, val_main_v3,
    val_main_v2, val_main_v1, val_main_v0, val_main_cst, val_main_cst_0, val_main_cst_1, val_main_v10, val_main_v11]
  pointwise [rms]

/-- The reference's narrow projection. -/
theorem narrow_apply (a : Fin 32768) (b : Fin 3080) :
    val_main_v13 (F := Ideal) x0 x1 x2 (ix2 a b)
      = ∑ k, rms (fun k => x0 (ix2 a k)) (fun k => x1 (ix1 k)) k * x2 (ix2 k b) := by
  simp only [← norm_apply]
  unfold val_main_v13
  generalize val_main_v12 (F := Ideal) x0 x1 = y
  pointwise

/-- The reference's result is the product with the widened weight. -/
theorem ref_eq : val_main_v17 (F := Ideal) x0 x1 x2 = Cert.InProjIdeal.Proj.G x0 x1 x2 := by
  funext i
  idx_vars i
  have := i1.isLt
  show _ = ∑ k, rms (fun k => x0 (ix2 i0 k)) (fun k => x1 (ix1 k)) k * Cert.InProjIdeal.Proj.wide x2 k i1
  unfold Cert.InProjIdeal.Proj.wide
  by_cases h : i1.val < 3076
  · simp only [dif_pos h]
    refine Eq.trans ?_ (narrow_apply x0 x1 x2 i0 ⟨i1.val, by omega⟩)
    unfold val_main_v17 val_main_v15 val_main_v16
    generalize val_main_v13 (F := Ideal) x0 x1 x2 = y
    pointwise [val_main_v14]
    rw [dif_pos h]
  · by_cases h' : 3200 ≤ i1.val ∧ i1.val < 3204
    · simp only [dif_neg h, dif_pos h']
      refine Eq.trans ?_ (narrow_apply x0 x1 x2 i0 ⟨i1.val - 124, by omega⟩)
      unfold val_main_v17 val_main_v15 val_main_v16
      generalize val_main_v13 (F := Ideal) x0 x1 x2 = y
      pointwise [val_main_v14, val_main_cst_2]
      split_ifs <;> first | omega | exact congrArg y (congrArg (ix2 i0) (Fin.ext (by dsimp only; omega)))
    · simp only [dif_neg h, dif_neg h', mul_zero, Finset.sum_const_zero]
      unfold val_main_v17 val_main_v15 val_main_v16
      generalize val_main_v13 (F := Ideal) x0 x1 x2 = y
      pointwise [val_main_v14, val_main_cst_2]
      split_ifs <;> first | omega | rfl

end Cert.InProjReferenceIdeal.Proj

namespace Cert.Proof.InProj

open Idealize.ShloMosaic Idealize.SL.Sem

/-- The reference terminates, keeps its arguments and declares no semaphore. -/
theorem frame_ref : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

/-- The kernel and the reference compute the same array over the reals. -/
theorem algebraic : Cert.algebraic_InProjIdeal_InProjReferenceIdeal := by
  intro m ρ m' ρ' _ hag
  refine ⟨fun c => Cert.InProjIdeal.Proj.G (m ((c.tc : Thread _ _).loc Cert.InProjIdeal.main_arg0))
    (m ((c.tc : Thread _ _).loc Cert.InProjIdeal.main_arg1)) (m ((c.tc : Thread _ _).loc Cert.InProjIdeal.main_arg2)), ?_, ?_⟩
  · exact (θ_run Cert.InProjIdeal.defs _ _).mono (fun _ h c => ⟨(h c).1.trans (Cert.InProjIdeal.Proj.final3 m c), (h c).2⟩)
      (Cert.InProjIdeal.Value.run_blocks (F := Ideal) m ρ)
  · refine (θ_run Cert.InProjReferenceIdeal.defs _ _).mono (fun _ h c => ⟨(h c).1.trans ?_, (h c).2⟩)
      (Cert.InProjReferenceIdeal.Value.run (F := Ideal) m' ρ')
    refine (Cert.InProjReferenceIdeal.Read.val_main_v17_eq _ _ _).trans ((Cert.InProjReferenceIdeal.Proj.ref_eq _ _ _).trans ?_)
    rw [(hag c).1, (hag c).2.1, (hag c).2.2]

end Cert.Proof.InProj

end
-- ==== Proof.OutProj.lean ====
/- The output projection: each block of 512 tokens adds three products to the hidden state; the reference adds one
   product with the concatenated operand. -/
module

public import proofs.«01_k».proof.Proof.Gen.OutProjIdeal.Value
public import proofs.«01_k».proof.Proof.Gen.OutProjReferenceIdeal.Run
public import proofs.«01_k».proof.Proof.Gen.OutProjReferenceIdeal.Read
public import Idealize.ShloMosaic.Lib.Pointwise
public import Idealize.ShloMosaic.Lib.Pipeline.ValueKit
public import Idealize.ShloMosaic.Lib.ValueIdx

@[expose] public section

set_option maxRecDepth 16384

noncomputable section

namespace Cert.OutProjIdeal.Proj

open Cert.OutProjIdeal Cert.OutProjIdeal.Gen Idealize.ShloMosaic Idealize.ShloMosaic.TcCoe Idealize.SL.Sem
open Idealize.ShloMosaic.Pipeline (Dat)

/-- The hidden state plus the product of the concatenated parts with the whole weight. -/
def G (h : FVec Ideal S32768x1024 .f32) (ya yb : FVec Ideal S32768x256 .f32) (yc : FVec Ideal S32768x512 .f32)
    (w : FVec Ideal S1024x1024 .f32) : FVec Ideal S32768x1024 .f32 := fun i =>
  h i + ((∑ k : Fin 256, ya (ix2 (i 0) k) * w (ix2 ⟨k.val, by omega⟩ (i 1))
    + ∑ k : Fin 256, yb (ix2 (i 0) k) * w (ix2 ⟨256 + k.val, by omega⟩ (i 1)))
    + ∑ k : Fin 512, yc (ix2 (i 0) k) * w (ix2 ⟨512 + k.val, by omega⟩ (i 1)))

variable (m : (ℓ : Loc nD τ sig) → Buf (Elt Ideal) ℓ) (ρ : Dev nD → PrngReg)

theorem hz : (![0, 0] : Fin 2 → Nat) = fun _ => 0 := funext fun a => by fin_cases a <;> rfl

/-- The weight's rows from 0 on, as the launch finds them. -/
theorem V1 (c : Dev nD) : V m c main_v1 = (extractStridedSlice S256x1024 ![0, 0]
    (truncf (F := Ideal) .bf16 (m ((c : Thread nD τ).loc main_arg4) : FVec Ideal S1024x1024 .f32) bitsLt_bf16_f32)
    slices_S1024x1024_S256x1024_0_0 : FVec Ideal S256x1024 .bf16) := by
  unfold V; after_results <;> rfl
/-- The weight's rows from 256 on, as the launch finds them. -/
theorem V2 (c : Dev nD) : V m c main_v2 = (extractStridedSlice S256x1024 ![256, 0]
    (truncf (F := Ideal) .bf16 (m ((c : Thread nD τ).loc main_arg4) : FVec Ideal S1024x1024 .f32) bitsLt_bf16_f32)
    slices_S1024x1024_S256x1024_256_0 : FVec Ideal S256x1024 .bf16) := by
  unfold V; after_results <;> rfl
/-- The weight's rows from 512 on, as the launch finds them. -/
theorem V3 (c : Dev nD) : V m c main_v3 = (extractStridedSlice S512x1024 ![512, 0]
    (truncf (F := Ideal) .bf16 (m ((c : Thread nD τ).loc main_arg4) : FVec Ideal S1024x1024 .f32) bitsLt_bf16_f32)
    slices_S1024x1024_S512x1024_512_0 : FVec Ideal S512x1024 .bf16) := by
  unfold V; after_results <;> rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)

/-- Token `a` of block `t`, among all tokens. -/
def row (t : Fin cfg0.N) (a : Fin 512) : Fin 32768 := ⟨t.val * 512 + a.val, by have := t.isLt; have : cfg0.N = 64 := N_0; omega⟩

/-- Block `t` of argument 0 holds the rows of its tokens. -/
theorem iblk0 (c : Dev nD) (t : Fin cfg0.N) : iblk m c 0 t
    = (fun j => (m ((c : Thread nD τ).loc main_arg0) : FVec Ideal S32768x1024 .f32) (ix2 (row t (j 0)) (j 1)) : FVec Ideal S512x1024 .f32) := by
  funext j
  show V m c main_arg0 ((win0_0.blk t).view.emb j) = _
  rw [V_main_arg0]
  refine congrArg (m ((c : Thread nD τ).loc main_arg0)) ?_
  blk_ext [e0, row]
/-- Block `t` of argument 1 holds the rows of its tokens. -/
theorem iblk1 (c : Dev nD) (t : Fin cfg0.N) : iblk m c 1 t
    = (fun j => (m ((c : Thread nD τ).loc main_arg1) : FVec Ideal S32768x256 .f32) (ix2 (row t (j 0)) (j 1)) : FVec Ideal S512x256 .f32) := by
  funext j
  show V m c main_arg1 ((win0_1.blk t).view.emb j) = _
  rw [V_main_arg1]
  refine congrArg (m ((c : Thread nD τ).loc main_arg1)) ?_
  blk_ext [e1, row]
/-- Block `t` of argument 2 holds the rows of its tokens. -/
theorem iblk2 (c : Dev nD) (t : Fin cfg0.N) : iblk m c 2 t
    = (fun j => (m ((c : Thread nD τ).loc main_arg2) : FVec Ideal S32768x256 .f32) (ix2 (row t (j 0)) (j 1)) : FVec Ideal S512x256 .f32) := by
  funext j
  show V m c main_arg2 ((win0_2.blk t).view.emb j) = _
  rw [V_main_arg2]
  refine congrArg (m ((c : Thread nD τ).loc main_arg2)) ?_
  blk_ext [e2, row]
/-- Block `t` of argument 3 holds the rows of its tokens. -/
theorem iblk3 (c : Dev nD) (t : Fin cfg0.N) : iblk m c 3 t
    = (fun j => (m ((c : Thread nD τ).loc main_arg3) : FVec Ideal S32768x512 .f32) (ix2 (row t (j 0)) (j 1)) : FVec Ideal S512x512 .f32) := by
  funext j
  show V m c main_arg3 ((win0_3.blk t).view.emb j) = _
  rw [V_main_arg3]
  refine congrArg (m ((c : Thread nD τ).loc main_arg3)) ?_
  blk_ext [e3, row]
/-- Window 4 holds the weight's rows from 0 on. -/
theorem iblk4 (c : Dev nD) (t : Fin cfg0.N) : iblk m c 4 t
    = (fun j => (m ((c : Thread nD τ).loc main_arg4) : FVec Ideal S1024x1024 .f32) (ix2 ⟨0 + (j 0).val, by idx_bounds j; omega⟩ (j 1)) : FVec Ideal S256x1024 .bf16) := by
  funext j
  show V m c main_v1 ((win0_4.blk t).view.emb j) = _
  rw [V1]
  refine (congrArg (extractStridedSlice S256x1024 ![0, 0] (truncf (F := Ideal) .bf16 (m ((c : Thread nD τ).loc main_arg4) : FVec Ideal S1024x1024 .f32) bitsLt_bf16_f32)
    slices_S1024x1024_S256x1024_0_0) (a₂ := j) ?_).trans ?_
  · blk_ext [e4]
  · idx_vars j
    pointwise
/-- Window 5 holds the weight's rows from 256 on. -/
theorem iblk5 (c : Dev nD) (t : Fin cfg0.N) : iblk m c 5 t
    = (fun j => (m ((c : Thread nD τ).loc main_arg4) : FVec Ideal S1024x1024 .f32) (ix2 ⟨256 + (j 0).val, by idx_bounds j; omega⟩ (j 1)) : FVec Ideal S256x1024 .bf16) := by
  funext j
  show V m c main_v2 ((win0_5.blk t).view.emb j) = _
  rw [V2]
  refine (congrArg (extractStridedSlice S256x1024 ![256, 0] (truncf (F := Ideal) .bf16 (m ((c : Thread nD τ).loc main_arg4) : FVec Ideal S1024x1024 .f32) bitsLt_bf16_f32)
    slices_S1024x1024_S256x1024_256_0) (a₂ := j) ?_).trans ?_
  · blk_ext [e5]
  · idx_vars j
    pointwise
/-- Window 6 holds the weight's rows from 512 on. -/
theorem iblk6 (c : Dev nD) (t : Fin cfg0.N) : iblk m c 6 t
    = (fun j => (m ((c : Thread nD τ).loc main_arg4) : FVec Ideal S1024x1024 .f32) (ix2 ⟨512 + (j 0).val, by idx_bounds j; omega⟩ (j 1)) : FVec Ideal S512x1024 .bf16) := by
  funext j
  show V m c main_v3 ((win0_6.blk t).view.emb j) = _
  rw [V3]
  refine (congrArg (extractStridedSlice S512x1024 ![512, 0] (truncf (F := Ideal) .bf16 (m ((c : Thread nD τ).loc main_arg4) : FVec Ideal S1024x1024 .f32) bitsLt_bf16_f32)
    slices_S1024x1024_S512x1024_512_0) (a₂ := j) ?_).trans ?_
  · blk_ext [e6]
  · idx_vars j
    pointwise

/-- What one block's body computes, from its seven operands. -/
theorem pay_apply (h : FVec Ideal S512x1024 .f32) (ya yb : FVec Ideal S512x256 .f32) (yc : FVec Ideal S512x512 .f32)
    (wa wb : FVec Ideal S256x1024 .bf16) (wc : FVec Ideal S512x1024 .bf16) (a : Fin 512) (b : Fin 1024) :
    k0_pay1 h ya wa yb wb yc wc (ix2 a b) = h (ix2 a b) + ((∑ k, ya (ix2 a k) * wa (ix2 k b) + ∑ k, yb (ix2 a k) * wb (ix2 k b))
      + ∑ k, yc (ix2 a k) * wc (ix2 k b)) := by
  pointwise [k0_pay1]
  simp only [add_assoc]

/-- The result array after the run is the stated function of the arguments. -/
theorem final7 (c : Dev nD) : (dats m 0 c).arrAt 7 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp
  rw [after0_7]
  frame_out
  rw [iblk0, iblk1, iblk2, iblk3, iblk4, iblk5, iblk6]
  idx_vars y
  rw [pay_apply]
  refine Eq.trans ?_ (congrArg (G _ _ _ _ _) (a₁ := ix2 (row t y0) y1) ?_)
  · pointwise [G]
  · blk_ext [e7, row]

end Cert.OutProjIdeal.Proj

end
-- ==== Proof.OutProjEq.lean ====
/- The output projection's claims: the reference's product with the concatenated operand is the sum of the kernel's three
   products. -/
module

public import proofs.«01_k».proof.Defs
public import proofs.«01_k».proof.Proof.OutProj
public import proofs.«01_k».proof.Proof.Gen.OutProj.Frame
public import Idealize.ShloMosaic.Lib.Quiescent

@[expose] public section

set_option maxRecDepth 16384

noncomputable section

namespace Cert.OutProjReferenceIdeal.Proj

open Cert.OutProjReferenceIdeal Cert.OutProjReferenceIdeal.Gen Cert.OutProjReferenceIdeal.Read
open Idealize.ShloMosaic Idealize.ShloMosaic.TcCoe Idealize.SL.Sem

/-- A sum over 1024 positions is the sum over the first 256, the next 256 and the last 512. -/
theorem sum_parts (f : Fin 1024 → EReal) : ∑ k, f k
    = (∑ k : Fin 256, f ⟨k.val, by omega⟩ + ∑ k : Fin 256, f ⟨256 + k.val, by omega⟩) + ∑ k : Fin 512, f ⟨512 + k.val, by omega⟩ := by
  refine (Fin.sum_univ_add (a := 512) (b := 512) f).trans (congrArg₂ _ ?_ rfl)
  exact Fin.sum_univ_add (a := 256) (b := 256) fun k => f (Fin.castAdd 512 k)

variable (h : FVec Ideal S32768x1024 .f32) (ya yb : FVec Ideal S32768x256 .f32) (yc : FVec Ideal S32768x512 .f32)
    (w : FVec Ideal S1024x1024 .f32)

/-- The joined operand's first 256 columns. -/
theorem cat_a (r : Fin 32768) (k : Fin 256) :
    val_main_v0 (F := Ideal) ya yb yc (ix2 r (⟨k.val, by omega⟩ : Fin 1024)) = ya (ix2 r k) := by
  have := k.isLt
  pointwise [val_main_v0]

/-- The joined operand's next 256 columns. -/
theorem cat_b (r : Fin 32768) (k : Fin 256) :
    val_main_v0 (F := Ideal) ya yb yc (ix2 r (⟨256 + k.val, by omega⟩ : Fin 1024)) = yb (ix2 r k) := by
  have := k.isLt
  pointwise [val_main_v0]

/-- The joined operand's last 512 columns. -/
theorem cat_c (r : Fin 32768) (k : Fin 512) :
    val_main_v0 (F := Ideal) ya yb yc (ix2 r (⟨512 + k.val, by omega⟩ : Fin 1024)) = yc (ix2 r k) := by
  have := k.isLt
  pointwise [val_main_v0]
  rw [dif_neg (by omega), dif_neg (by omega)]
  exact congrArg yc (congrArg (ix2 r) (Fin.ext (by show 512 + k.val - 256 - 256 = k.val; omega)))

/-- The reference's result is the sum of the three products added to the hidden state. -/
theorem ref_eq : val_main_v2 (F := Ideal) h ya yb yc w = Cert.OutProjIdeal.Proj.G h ya yb yc w := by
  funext i
  idx_vars i
  rw [val_main_v2_apply, val_main_v1_apply, sum_parts]
  refine congrArg₂ (· + ·) rfl (congrArg₂ (· + ·) (congrArg₂ (· + ·) ?_ ?_) ?_) <;>
    refine Finset.sum_congr rfl fun k _ => congrArg₂ (· * ·) ?_ (congrArg w ?_)
  · exact (congrArg _ (by idx_ext)).trans (cat_a ya yb yc i0 k)
  · idx_ext
  · exact (congrArg _ (by idx_ext)).trans (cat_b ya yb yc i0 k)
  · idx_ext
  · exact (congrArg _ (by idx_ext)).trans (cat_c ya yb yc i0 k)
  · idx_ext

end Cert.OutProjReferenceIdeal.Proj

namespace Cert.Proof.OutProj

open Idealize.ShloMosaic Idealize.SL.Sem

/-- The reference terminates, keeps its arguments and declares no semaphore. -/
theorem frame_ref : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

/-- The kernel and the reference compute the same array over the reals. -/
theorem algebraic : Cert.algebraic_OutProjIdeal_OutProjReferenceIdeal := by
  intro m ρ m' ρ' _ hag
  refine ⟨fun c => Cert.OutProjIdeal.Proj.G (m ((c.tc : Thread _ _).loc Cert.OutProjIdeal.main_arg0)) (m ((c.tc : Thread _ _).loc Cert.OutProjIdeal.main_arg1))
    (m ((c.tc : Thread _ _).loc Cert.OutProjIdeal.main_arg2)) (m ((c.tc : Thread _ _).loc Cert.OutProjIdeal.main_arg3))
    (m ((c.tc : Thread _ _).loc Cert.OutProjIdeal.main_arg4)), ?_, ?_⟩
  · exact (θ_run Cert.OutProjIdeal.defs _ _).mono (fun _ h c => ⟨(h c).1.trans (Cert.OutProjIdeal.Proj.final7 m c), (h c).2⟩)
      (Cert.OutProjIdeal.Value.run_blocks (F := Ideal) m ρ)
  · refine (θ_run Cert.OutProjReferenceIdeal.defs _ _).mono (fun _ h c => ⟨(h c).1.trans ?_, (h c).2⟩)
      (Cert.OutProjReferenceIdeal.Value.run (F := Ideal) m' ρ')
    refine (Cert.OutProjReferenceIdeal.Read.val_main_v2_eq _ _ _ _ _).trans ((Cert.OutProjReferenceIdeal.Proj.ref_eq _ _ _ _ _).trans ?_)
    rw [(hag c).1, (hag c).2.1, (hag c).2.2.1, (hag c).2.2.2.1, (hag c).2.2.2.2]

end Cert.Proof.OutProj

end
-- ==== Proof.Ple.lean ====
/- The gated embedding layer in its final form: what one block of 512 tokens computes and what the result array holds. -/
module

public import proofs.«01_k».proof.Proof.Gen.PleIdeal.Value
public import proofs.«01_k».proof.Proof.Rows
public import Idealize.ShloMosaic.Lib.Pointwise
public import Idealize.ShloMosaic.Lib.Pipeline.ValueKit
public import Idealize.ShloMosaic.Lib.ValueIdx

@[expose] public section

set_option maxRecDepth 16384

noncomputable section

namespace Cert.PleIdeal.Gate

open Cert.PleIdeal Cert.PleIdeal.Gen Cert.Rows Idealize.ShloMosaic Idealize.ShloMosaic.TcCoe Idealize.SL.Sem
open Idealize.ShloMosaic.Pipeline (Dat)

/-- The layer's result: every token's gated update, normalised once more. -/
def G (h : FVec Ideal S32768x1024 .f32) (p : FVec Ideal S2x32768x256 .f32) (g : FVec Ideal S1024 .f32)
    (wg : FVec Ideal S1024x1024 .f32) (wp : FVec Ideal S256x1024 .f32) (gf : FVec Ideal S1024 .f32) :
    FVec Ideal S32768x1024 .f32 := fun i =>
  rms (gated (fun k => h (ix2 (i 0) k)) (fun k => g (ix1 k)) (fun k j => wg (ix2 k j)) (fun k => p (ix3 1 (i 0) k))
    (fun k j => wp (ix2 k j))) (fun k => gf (ix1 k)) (i 1)

variable (m : (ℓ : Loc nD τ sig) → Buf (Elt Ideal) ℓ) (ρ : Dev nD → PrngReg)

/-- The first norm's scale as the launch finds it: one row. -/
theorem V0 (c : Dev nD) : V m c main_v0 = (shapeCast S1x1024 (m ((c : Thread nD τ).loc main_arg2) : FVec Ideal S1024 .f32)
    shapeCasts_S1024_S1x1024 : FVec Ideal S1x1024 .f32) := by
  unfold V; after_results <;> rfl
/-- The gate's weight as the launch finds it. -/
theorem V1 (c : Dev nD) : V m c main_v1 = (truncf (F := Ideal) .bf16 (m ((c : Thread nD τ).loc main_arg3) : FVec Ideal S1024x1024 .f32)
    bitsLt_bf16_f32 : FVec Ideal S1024x1024 .bf16) := by
  unfold V; after_results <;> rfl
/-- The embedding's weight as the launch finds it. -/
theorem V2 (c : Dev nD) : V m c main_v2 = (truncf (F := Ideal) .bf16 (m ((c : Thread nD τ).loc main_arg4) : FVec Ideal S256x1024 .f32)
    bitsLt_bf16_f32 : FVec Ideal S256x1024 .bf16) := by
  unfold V; after_results <;> rfl
/-- The last norm's scale as the launch finds it: one row. -/
theorem V3 (c : Dev nD) : V m c main_v3 = (shapeCast S1x1024 (m ((c : Thread nD τ).loc main_arg5) : FVec Ideal S1024 .f32)
    shapeCasts_S1024_S1x1024 : FVec Ideal S1x1024 .f32) := by
  unfold V; after_results <;> rfl

theorem e0 : ∀ t : Fin cfg0.N, win0_0.index t = ![t.val, 0] := (by decide +kernel : ∀ t : Fin grid0.N, _)
theorem e1 : ∀ t : Fin cfg0.N, win0_1.index t = ![1, t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)

/-- Token `a` of block `t`, among all tokens. -/
def row (t : Fin cfg0.N) (a : Fin 512) : Fin 32768 := ⟨t.val * 512 + a.val, by have := t.isLt; have : cfg0.N = 64 := N_0; omega⟩

/-- Block `t` of the hidden state holds the rows of its tokens. -/
theorem iblk0 (c : Dev nD) (t : Fin cfg0.N) : iblk m c 0 t
    = (fun j => (m ((c : Thread nD τ).loc main_arg0) : FVec Ideal S32768x1024 .f32) (ix2 (row t (j 0)) (j 1)) : FVec Ideal S512x1024 .f32) := by
  funext j
  show V m c main_arg0 ((win0_0.blk t).view.emb j) = _
  rw [V_main_arg0]
  refine congrArg (m ((c : Thread nD τ).loc main_arg0)) ?_
  blk_ext [e0, row]
/-- Block `t` of the embeddings holds the second layer's rows of its tokens. -/
theorem iblk1 (c : Dev nD) (t : Fin cfg0.N) : iblk m c 1 t
    = (fun j => (m ((c : Thread nD τ).loc main_arg1) : FVec Ideal S2x32768x256 .f32) (ix3 1 (row t (j 1)) (j 2)) : FVec Ideal S1x512x256 .f32) := by
  funext j
  show V m c main_arg1 ((win0_1.blk t).view.emb j) = _
  rw [V_main_arg1]
  refine congrArg (m ((c : Thread nD τ).loc main_arg1)) ?_
  idx_vars j
  blk_ext [e1, row]
/-- Window 2 holds the first norm's scale. -/
theorem iblk2 (c : Dev nD) (t : Fin cfg0.N) : iblk m c 2 t
    = (fun j => (m ((c : Thread nD τ).loc main_arg2) : FVec Ideal S1024 .f32) (ix1 (j 1)) : FVec Ideal S1x1024 .f32) := by
  funext j
  show V m c main_v0 ((win0_2.blk t).view.emb j) = _
  rw [V0]
  refine (congrArg (shapeCast S1x1024 (m ((c : Thread nD τ).loc main_arg2) : FVec Ideal S1024 .f32) shapeCasts_S1024_S1x1024) (a₂ := j) ?_).trans ?_
  · blk_ext [e2]
  · idx_vars j
    pointwise
/-- Window 3 holds the gate's weight. -/
theorem iblk3 (c : Dev nD) (t : Fin cfg0.N) : iblk m c 3 t
    = (fun j => (m ((c : Thread nD τ).loc main_arg3) : FVec Ideal S1024x1024 .f32) j : FVec Ideal S1024x1024 .bf16) := by
  funext j
  show V m c main_v1 ((win0_3.blk t).view.emb j) = _
  rw [V1]
  refine (congrArg (truncf (F := Ideal) .bf16 (m ((c : Thread nD τ).loc main_arg3) : FVec Ideal S1024x1024 .f32) bitsLt_bf16_f32) (a₂ := j) ?_).trans ?_
  · blk_ext [e3]
  · pointwise
/-- Window 4 holds the embedding's weight. -/
theorem iblk4 (c : Dev nD) (t : Fin cfg0.N) : iblk m c 4 t
    = (fun j => (m ((c : Thread nD τ).loc main_arg4) : FVec Ideal S256x1024 .f32) j : FVec Ideal S256x1024 .bf16) := by
  funext j
  show V m c main_v2 ((win0_4.blk t).view.emb j) = _
  rw [V2]
  refine (congrArg (truncf (F := Ideal) .bf16 (m ((c : Thread nD τ).loc main_arg4) : FVec Ideal S256x1024 .f32) bitsLt_bf16_f32) (a₂ := j) ?_).trans ?_
  · blk_ext [e4]
  · pointwise
/-- Window 5 holds the last norm's scale. -/
theorem iblk5 (c : Dev nD) (t : Fin cfg0.N) : iblk m c 5 t
    = (fun j => (m ((c : Thread nD τ).loc main_arg5) : FVec Ideal S1024 .f32) (ix1 (j 1)) : FVec Ideal S1x1024 .f32) := by
  funext j
  show V m c main_v3 ((win0_5.blk t).view.emb j) = _
  rw [V3]
  refine (congrArg (shapeCast S1x1024 (m ((c : Thread nD τ).loc main_arg5) : FVec Ideal S1024 .f32) shapeCasts_S1024_S1x1024) (a₂ := j) ?_).trans ?_
  · blk_ext [e5]
  · idx_vars j
    pointwise

/-- A block's gated update at a token and a column. -/
theorem pay2_apply (h : FVec Ideal S512x1024 .f32) (g : FVec Ideal S1x1024 .f32) (wg : FVec Ideal S1024x1024 .bf16)
    (p : FVec Ideal S1x512x256 .f32) (wp : FVec Ideal S256x1024 .bf16) (a : Fin 512) (b : Fin 1024) :
    k0_pay2 (F := Ideal) h g wg p wp (ix2 a b) = gated (fun k => h (ix2 a k)) (fun k => g (ix2 0 k)) (fun k j => wg (ix2 k j))
      (fun k => p (ix3 0 a k)) (fun k j => wp (ix2 k j)) b := by
  pointwise [k0_pay2, gated, rms, sigmoid]
  rfl

/-- What one block's body stores, at a token and a column. -/
theorem pay1_apply (h : FVec Ideal S512x1024 .f32) (g : FVec Ideal S1x1024 .f32) (wg : FVec Ideal S1024x1024 .bf16)
    (p : FVec Ideal S1x512x256 .f32) (wp : FVec Ideal S256x1024 .bf16) (gf : FVec Ideal S1x1024 .f32) (a : Fin 512) (b : Fin 1024) :
    k0_pay1 (F := Ideal) (k0_pay2 (F := Ideal) h g wg p wp) (k0_pay3 (F := Ideal) gf) (k0_pay4 (F := Ideal) h g wg p wp) (ix2 a b)
      = rms (gated (fun k => h (ix2 a k)) (fun k => g (ix2 0 k)) (fun k j => wg (ix2 k j))
          (fun k => p (ix3 0 a k)) (fun k j => wp (ix2 k j))) (fun k => gf (ix2 0 k)) b := by
  rw [← (funext fun b => pay2_apply h g wg p wp a b : (fun b => k0_pay2 (F := Ideal) h g wg p wp (ix2 a b)) = _)]
  unfold k0_pay4
  generalize k0_pay2 (F := Ideal) h g wg p wp = y
  pointwise [k0_pay1, k0_pay3, rms]

/-- The result array after the run is the stated function of the arguments. -/
theorem final6 (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  rw [iblk0, iblk1, iblk2, iblk3, iblk4, iblk5]
  idx_vars y
  refine (pay1_apply _ _ _ _ _ _ _ _).trans ?_
  refine Eq.trans ?_ (congrArg (G _ _ _ _ _ _) (a₁ := ix2 (row t y0) y1) ?_)
  · rfl
  · blk_ext [e6, row]

end Cert.PleIdeal.Gate

end
-- ==== Proof.PleEq.lean ====
/- The gated embedding layer's claims: the reference computes the same function of the arguments. -/
module

public import proofs.«01_k».proof.Defs
public import proofs.«01_k».proof.Proof.Ple
public import proofs.«01_k».proof.Proof.Gen.Ple.Frame
public import proofs.«01_k».proof.Proof.Gen.PleReferenceIdeal.Run
public import proofs.«01_k».proof.Proof.Gen.PleReferenceIdeal.Read
public import Idealize.ShloMosaic.Lib.Quiescent

@[expose] public section

set_option maxRecDepth 16384

noncomputable section

namespace Cert.PleReferenceIdeal.Gate

open Cert.PleReferenceIdeal Cert.PleReferenceIdeal.Gen Cert.PleReferenceIdeal.Read Cert.Rows
open Idealize.ShloMosaic Idealize.ShloMosaic.TcCoe Idealize.SL.Sem

variable (x0 : FVec Ideal S32768x1024 .f32) (x1 : FVec Ideal S2x32768x256 .f32) (x2 : FVec Ideal S1024 .f32)
    (x3 : FVec Ideal S1024x1024 .f32) (x4 : FVec Ideal S256x1024 .f32) (x5 : FVec Ideal S1024 .f32)

/-- The reference's first norm. -/
theorem norm_apply (a : Fin 32768) (b : Fin 1024) :
    val_main_v12 (F := Ideal) x0 x2 (ix2 a b) = rms (fun k => x0 (ix2 a k)) (fun k => x2 (ix1 k)) b := by
  simp only [val_main_v12, val_main_v9, val_main_v8, val_main_v7, val_main_v6, val_main_v5, val_main_v4, val_main_v3,
    val_main_v2, val_main_v1, val_main_v0, val_main_cst, val_main_cst_0, val_main_cst_1, val_main_v10, val_main_v11]
  pointwise [rms]

/-- The reference's gated update. -/
theorem gated_apply (a : Fin 32768) (b : Fin 1024) :
    val_main_v24 (F := Ideal) x0 x1 x2 x3 x4 (ix2 a b) = gated (fun k => x0 (ix2 a k)) (fun k => x2 (ix1 k))
      (fun k j => x3 (ix2 k j)) (fun k => x1 (ix3 1 a k)) (fun k j => x4 (ix2 k j)) b := by
  unfold gated
  simp only [← norm_apply]
  simp only [val_main_v24, val_main_v23, val_main_v19, val_main_v17, val_main_v18, val_main_v22, val_main_v20, val_main_v21,
    val_main_v14, val_main_v15, val_main_v16, val_main_v13, val_main_cst_2, val_main_cst_3]
  generalize val_main_v12 (F := Ideal) x0 x2 = y
  pointwise [sigmoid]

/-- The reference's result is the layer's function of the arguments. -/
theorem ref_eq : val_main_v37 (F := Ideal) x0 x1 x2 x3 x4 x5 = Cert.PleIdeal.Gate.G x0 x1 x2 x3 x4 x5 := by
  funext i
  idx_vars i
  show _ = rms (gated (fun k => x0 (ix2 i0 k)) (fun k => x2 (ix1 k))
      (fun k j => x3 (ix2 k j)) (fun k => x1 (ix3 1 i0 k)) (fun k j => x4 (ix2 k j))) (fun k => x5 (ix1 k)) i1
  rw [← (funext fun b => gated_apply x0 x1 x2 x3 x4 i0 b : (fun b => val_main_v24 (F := Ideal) x0 x1 x2 x3 x4 (ix2 i0 b)) = _)]
  simp only [val_main_v37, val_main_v36, val_main_v35, val_main_v34, val_main_v33, val_main_v32, val_main_v31, val_main_v30,
    val_main_v29, val_main_v28, val_main_v27, val_main_v26, val_main_v25, val_main_cst_4, val_main_cst_5, val_main_cst_6]
  generalize val_main_v24 (F := Ideal) x0 x1 x2 x3 x4 = y
  pointwise [rms]

end Cert.PleReferenceIdeal.Gate

namespace Cert.Proof.Ple

open Idealize.ShloMosaic Idealize.SL.Sem

/-- The reference terminates, keeps its arguments and declares no semaphore. -/
theorem frame_ref : Cert.quiescent_PleReferenceIdeal := fun m ρ _ =>
  (θ_run Cert.PleReferenceIdeal.defs _ _).mono (fun r h => ⟨fun c => (h c).2, sem_eq_zero_of_no_sems (by decide) r.2⟩)
    (Cert.PleReferenceIdeal.Value.run (F := Ideal) m ρ)

/-- The kernel and the reference compute the same array over the reals. -/
theorem algebraic : Cert.algebraic_PleIdeal_PleReferenceIdeal := by
  intro m ρ m' ρ' _ hag
  refine ⟨fun c => Cert.PleIdeal.Gate.G (m ((c.tc : Thread _ _).loc Cert.PleIdeal.main_arg0)) (m ((c.tc : Thread _ _).loc Cert.PleIdeal.main_arg1))
    (m ((c.tc : Thread _ _).loc Cert.PleIdeal.main_arg2)) (m ((c.tc : Thread _ _).loc Cert.PleIdeal.main_arg3))
    (m ((c.tc : Thread _ _).loc Cert.PleIdeal.main_arg4)) (m ((c.tc : Thread _ _).loc Cert.PleIdeal.main_arg5)), ?_, ?_⟩
  · exact (θ_run Cert.PleIdeal.defs _ _).mono (fun _ h c => ⟨(h c).1.trans (Cert.PleIdeal.Gate.final6 m c), (h c).2⟩)
      (Cert.PleIdeal.Value.run_blocks (F := Ideal) m ρ)
  · refine (θ_run Cert.PleReferenceIdeal.defs _ _).mono (fun _ h c => ⟨(h c).1.trans ?_, (h c).2⟩)
      (Cert.PleReferenceIdeal.Value.run (F := Ideal) m' ρ')
    refine (Cert.PleReferenceIdeal.Read.val_main_v37_eq m' c).trans ((Cert.PleReferenceIdeal.Gate.ref_eq _ _ _ _ _ _).trans ?_)
    rw [(hag c).1, (hag c).2.1, (hag c).2.2.1, (hag c).2.2.2.1, (hag c).2.2.2.2.1, (hag c).2.2.2.2.2]

end Cert.Proof.Ple

end
-- ==== Proof.Mix.lean ====
/- The gated mixing of chunks of 128 tokens, stated over the extended reals. -/
module

public import proofs.«01_k».proof.Proof.Lru

@[expose] public section

noncomputable section

namespace Cert.Mix

open Idealize.ShloMosaic

/-- The mean of a row of 256 channels. -/
def mean (x : Fin 256 → EReal) : EReal := Ideal.div (∑ k, x k) (Ideal.ofBits .f32 0x43800000#32)

/-- A row of 256 channels centred, scaled to unit variance, then scaled by `g` and shifted by `b`. -/
def layerNorm (x g b : Fin 256 → EReal) (j : Fin 256) : EReal :=
  (x j - mean x) * Ideal.rsqrt (mean (fun k => (x k - mean x) * (x k - mean x)) + Ideal.ofBits .f32 0x358637BD#32) * g j + b j

/-- The causal mixing weight of position `t` for position `s`. -/
def causal (w : Fin 128 → Fin 128 → EReal) (t s : Fin 128) : EReal := if s ≤ t then w t s else 0

/-- One chunk's result at position `t` and channel `j`: `u` and `v` are the chunk's two halves of the projection, a head
    is 64 channels, `bs` is the bias of a position and a channel. -/
def chunk (u v : Fin 128 → Fin 256 → EReal) (g b : Fin 256 → EReal) (w : Fin 4 → Fin 128 → Fin 128 → EReal)
    (bs : Fin 128 → Fin 256 → EReal) (t : Fin 128) (j : Fin 256) : EReal :=
  Lru.gelu (u t j) * (bs t j
    + ∑ s, causal (w ⟨j.val / 64, by omega⟩) t s * layerNorm (fun k => Lru.gelu (v s k)) g b j)

theorem chunk_congr {u u' v v' : Fin 128 → Fin 256 → EReal} (g b : Fin 256 → EReal) (w : Fin 4 → Fin 128 → Fin 128 → EReal)
    (bs : Fin 128 → Fin 256 → EReal) {t t' : Fin 128} (j : Fin 256) (hu : ∀ s k, u s k = u' s k) (hv : ∀ s k, v s k = v' s k)
    (ht : t = t') : chunk u v g b w bs t j = chunk u' v' g b w bs t' j := by
  rw [show u = u' from funext fun s => funext (hu s), show v = v' from funext fun s => funext (hv s), ht]

end Cert.Mix

end
-- ==== Proof.GmlpPay.lean ====
/- What one chunk of 128 tokens of the gated mixing computes, entry by entry. -/
module

public import proofs.«01_k».proof.Proof.Gen.GmlpIdeal.Value
public import proofs.«01_k».proof.Proof.Mix
public import Idealize.ShloMosaic.Lib.Pointwise
public import Idealize.ShloMosaic.Lib.Pipeline.ValueKit
public import Idealize.ShloMosaic.Lib.ValueIdx

@[expose] public section

set_option maxRecDepth 16384

noncomputable section

namespace Cert.GmlpIdeal.Pay

open Cert.GmlpIdeal Cert.GmlpIdeal.Gen Cert.Mix Idealize.ShloMosaic Idealize.ShloMosaic.TcCoe Idealize.SL.Sem

/-- The kernel's error unit of the first half. -/
theorem geluU (x : FVec Ideal S128x256 .f32) (a : Fin 128) (j : Fin 256) :
    k0_pay8 (F := Ideal) x (ix2 a j) = Lru.gelu (x (ix2 a j)) := by
  pointwise [k0_pay8, Lru.gelu]

/-- The kernel's error unit of the second half. -/
theorem geluV (x : FVec Ideal S128x256 .f32) (a : Fin 128) (j : Fin 256) :
    k0_pay9 (F := Ideal) x (ix2 a j) = Lru.gelu (x (ix2 a j)) := by
  pointwise [k0_pay9, Lru.gelu]

/-- The normalised second half. -/
theorem norm (x : FVec Ideal S128x256 .f32) (g b : FVec Ideal S1x256 .f32) (a : Fin 128) (j : Fin 256) :
    k0_pay12 (F := Ideal) (k0_pay9 x) (k0_pay10 x) k0_pay11 g b (ix2 a j)
      = layerNorm (fun k => Lru.gelu (x (ix2 a k))) (fun k => g (ix2 0 k)) (fun k => b (ix2 0 k)) j := by
  rw [← (funext fun k => geluV x a k : (fun k => k0_pay9 (F := Ideal) x (ix2 a k)) = _)]
  unfold k0_pay10
  generalize k0_pay9 (F := Ideal) x = y
  pointwise [k0_pay12, k0_pay11, layerNorm, mean]

theorem sge_iff : ∀ t s : Fin 128, IntOp.cmpi .sge (BitVec.ofNat 32 t.val) (BitVec.ofNat 32 s.val) = 1#1 ↔ s ≤ t := by
  decide +kernel

/-- A head's mixing weights, the later positions' cleared. -/
theorem mask (w : FVec Ideal S1x128x128 .f32) (t s : Fin 128) :
    k0_pay3 (F := Ideal) w (ix2 t s) = causal (fun t s => w (ix3 0 t s)) t s := by
  have h := sge_iff t s
  pointwise [k0_pay3, causal]
  exact if_congr h rfl rfl

theorem head_word : ∀ j : Fin 256, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) =
    BitVec.ofNat 32 (j.val / 64) := by decide +kernel

/-- A channel's head. -/
theorem head (a : Fin 128) (j : Fin 256) : k0_pay2 (ix2 a j) = BitVec.ofNat 32 (j.val / 64) := by
  have h := head_word j
  pointwise [k0_pay2]
  exact h

/-- What the body stores for one chunk: its two halves `u` and `v`, the norm's scale and shift, the four heads' weights and
    the bias. -/
def stored (u v : FVec Ideal S128x256 .f32) (g b : FVec Ideal S1x256 .f32) (w0 w1 w2 w3 : FVec Ideal S1x128x128 .f32)
    (bs : FVec Ideal S128x256 .f32) : FVec Ideal S128x256 .f32 :=
  k0_pay14 k0_pay2
    (k0_pay7 (iota Kind.tc S128x128 32 [0] iota_S128x128_d0_w32) (iota Kind.tc S128x128 32 [1] iota_S128x128_d1_w32) w3)
    (k0_pay8 u) (k0_pay12 (k0_pay9 v) (k0_pay10 v) k0_pay11 g b)
    (k0_pay13 k0_pay2 (k0_pay3 w0) (k0_pay4 w1) (k0_pay6 k0_pay5 w2) (k0_pay9 v) (k0_pay10 v) k0_pay11 g b bs)

/-- The four heads' products, each kept on its own channels. -/
theorem pick (f : Fin 4 → EReal) (x : EReal) (j : Fin 256) :
    (((x + (if (IntOp.cmpi .eq (BitVec.ofNat 32 (j.val / 64)) 0#32) = 1#1 then f 0 else 0))
      + (if (IntOp.cmpi .eq (BitVec.ofNat 32 (j.val / 64)) 1#32) = 1#1 then f 1 else 0))
      + (if (IntOp.cmpi .eq (BitVec.ofNat 32 (j.val / 64)) 2#32) = 1#1 then f 2 else 0))
      + (if (IntOp.cmpi .eq (BitVec.ofNat 32 (j.val / 64)) 3#32) = 1#1 then f 3 else 0) = x + f ⟨j.val / 64, by omega⟩ := by
  generalize hq : (⟨j.val / 64, by omega⟩ : Fin 4) = q
  have hv : j.val / 64 = q.val := by rw [← hq]
  rw [hv]
  have h : ∀ q k : Fin 4, IntOp.cmpi .eq (BitVec.ofNat 32 q.val) (BitVec.ofNat 32 k.val) = 1#1 ↔ q = k := by decide +kernel
  have h0 := if_congr (h q 0) (rfl : f 0 = f 0) (rfl : (0 : EReal) = 0)
  have h1 := if_congr (h q 1) (rfl : f 1 = f 1) (rfl : (0 : EReal) = 0)
  have h2 := if_congr (h q 2) (rfl : f 2 = f 2) (rfl : (0 : EReal) = 0)
  have h3 := if_congr (h q 3) (rfl : f 3 = f 3) (rfl : (0 : EReal) = 0)
  refine (congrArg₂ (· + ·) (congrArg₂ (· + ·) (congrArg₂ (· + ·) (congrArg (x + ·) h0) h1) h2) h3).trans ?_
  fin_cases q <;> simp

/-- The stored chunk over any head words, weights and normalised half. -/
theorem mixed (w0 w1 w2 w3 : FVec Ideal S128x128 .bf16) (u y : FVec Ideal S128x256 .f32) (s n : FVec Ideal S128x1 .f32)
    (g b : FVec Ideal S1x256 .f32) (bs : FVec Ideal S128x256 .f32) (a : Fin 128) (j : Fin 256) :
    k0_pay14 (F := Ideal) k0_pay2 w3 u (k0_pay12 y s n g b) (k0_pay13 k0_pay2 w0 w1 w2 y s n g b bs) (ix2 a j)
      = u (ix2 a j) * (bs (ix2 a j) + ∑ k, (![w0, w1, w2, w3] ⟨j.val / 64, by omega⟩) (ix2 a k) * k0_pay12 (F := Ideal) y s n g b (ix2 k j)) := by
  have hh := head a j
  unfold k0_pay13
  generalize k0_pay2 = hd at hh ⊢
  generalize k0_pay12 (F := Ideal) y s n g b = z
  pointwise [k0_pay14]
  rw [hh]
  exact congrArg (u (ix2 a j) * ·) (pick (fun h => ∑ k, (![w0, w1, w2, w3] h) (ix2 a k) * z (ix2 k j)) (bs (ix2 a j)) j)

/-- The stored chunk, entry by entry. -/
theorem stored_apply (u v : FVec Ideal S128x256 .f32) (g b : FVec Ideal S1x256 .f32) (w0 w1 w2 w3 : FVec Ideal S1x128x128 .f32)
    (bs : FVec Ideal S128x256 .f32) (W : Fin 4 → Fin 128 → Fin 128 → EReal) (h0 : ∀ t s, w0 (ix3 0 t s) = W 0 t s)
    (h1 : ∀ t s, w1 (ix3 0 t s) = W 1 t s) (h2 : ∀ t s, w2 (ix3 0 t s) = W 2 t s) (h3 : ∀ t s, w3 (ix3 0 t s) = W 3 t s)
    (a : Fin 128) (j : Fin 256) :
    stored u v g b w0 w1 w2 w3 bs (ix2 a j) = chunk (fun s k => u (ix2 s k)) (fun s k => v (ix2 s k)) (fun k => g (ix2 0 k))
      (fun k => b (ix2 0 k)) W (fun t k => bs (ix2 t k)) a j := by
  refine (mixed _ _ _ _ _ _ _ _ _ _ _ a j).trans ?_
  rw [geluU]
  refine congrArg (fun z => Lru.gelu (u (ix2 a j)) * (bs (ix2 a j) + z)) (Finset.sum_congr rfl fun k _ => ?_)
  rw [norm]
  refine congrArg (· * _) ?_
  generalize (⟨j.val / 64, by omega⟩ : Fin 4) = q
  fin_cases q
  · exact (mask w0 a k).trans (congrArg (fun f => causal f a k) (funext fun t => funext fun s => h0 t s))
  · exact (mask w1 a k).trans (congrArg (fun f => causal f a k) (funext fun t => funext fun s => h1 t s))
  · exact (mask w2 a k).trans (congrArg (fun f => causal f a k) (funext fun t => funext fun s => h2 t s))
  · exact (mask w3 a k).trans (congrArg (fun f => causal f a k) (funext fun t => funext fun s => h3 t s))

/-- What the body leaves for a block of 512 tokens, four chunks of 128. -/
def blockOut (x : FVec Ideal S512x512 .f32) (g b : FVec Ideal S1x256 .f32) (w : FVec Ideal S4x128x128 .f32)
    (bs : FVec Ideal S128x256 .f32) : FVec Ideal S512x256 .f32 := fun y =>
  chunk (fun s k => x (ix2 (⟨128 * ((y 0).val / 128) + s.val, by have : (y 0).val < 512 := (y 0).isLt; omega⟩ : Fin 512) (⟨k.val, by omega⟩ : Fin 512)))
    (fun s k => x (ix2 (⟨128 * ((y 0).val / 128) + s.val, by have : (y 0).val < 512 := (y 0).isLt; omega⟩ : Fin 512) (⟨256 + k.val, by omega⟩ : Fin 512)))
    (fun k => g (ix2 0 k)) (fun k => b (ix2 0 k)) (fun h t s => w (ix3 h t s)) (fun t k => bs (ix2 t k))
    ⟨(y 0).val % 128, by omega⟩ (y 1)

/-- A stored chunk is its part of the block. -/
theorem piece (x : FVec Ideal S512x512 .f32) (g b : FVec Ideal S1x256 .f32) (w : FVec Ideal S4x128x128 .f32)
    (bs : FVec Ideal S128x256 .f32) (u v : FVec Ideal S128x256 .f32) (w0 w1 w2 w3 : FVec Ideal S1x128x128 .f32)
    (h0 : ∀ t s, w0 (ix3 0 t s) = w (ix3 0 t s)) (h1 : ∀ t s, w1 (ix3 0 t s) = w (ix3 1 t s))
    (h2 : ∀ t s, w2 (ix3 0 t s) = w (ix3 2 t s)) (h3 : ∀ t s, w3 (ix3 0 t s) = w (ix3 3 t s)) (q : Fin 4)
    (hu : ∀ (s : Fin 128) (k : Fin 256), u (ix2 s k) = x (ix2 (⟨128 * q.val + s.val, by omega⟩ : Fin 512) (⟨k.val, by omega⟩ : Fin 512)))
    (hv : ∀ (s : Fin 128) (k : Fin 256), v (ix2 s k) = x (ix2 (⟨128 * q.val + s.val, by omega⟩ : Fin 512) (⟨256 + k.val, by omega⟩ : Fin 512)))
    (a : Fin 128) (j : Fin 256) (y : S512x256.Idx) (hy0 : (y 0).val = 128 * q.val + a.val) (hy1 : (y 1).val = j.val) :
    stored u v g b w0 w1 w2 w3 bs (ix2 a j) = blockOut x g b w bs y := by
  refine (stored_apply u v g b w0 w1 w2 w3 bs (fun h t s => w (ix3 h t s)) h0 h1 h2 h3 a j).trans ?_
  have hd : (y 0).val / 128 = q.val := by omega
  have hm : (⟨(y 0).val % 128, by omega⟩ : Fin 128) = a := Fin.ext (show (y 0).val % 128 = a.val by omega)
  have hj : y 1 = j := Fin.ext hy1
  unfold blockOut
  rw [hm, hj]
  simp only [hd, hu, hv]

end Cert.GmlpIdeal.Pay

end
-- ==== Proof.Gmlp.lean ====
/- The gated mixing in its final form: what one block of 512 tokens computes and what the result array holds. -/
module

public import proofs.«01_k».proof.Proof.GmlpPay
public import Idealize.ShloMosaic.Lib.Pipeline.ReadBack

@[expose] public section

set_option maxRecDepth 16384

noncomputable section

namespace Cert.GmlpIdeal.Mixing

open Cert.GmlpIdeal Cert.GmlpIdeal.Gen Cert.GmlpIdeal.Pay Cert.Mix Idealize.ShloMosaic Idealize.ShloMosaic.TcCoe Idealize.SL.Sem
open Idealize.ShloMosaic.Pipeline (Dat)

/-- The layer's result: every token's channel, mixed within its chunk of 128 tokens. -/
def G (p : FVec Ideal S32768x3328 .f32) (g b : FVec Ideal S256 .f32) (w : FVec Ideal S4x128x128 .f32) (bs : FVec Ideal S4x128 .f32) :
    FVec Ideal S32768x256 .f32 := fun i =>
  chunk (fun s k => p (ix2 (⟨128 * ((i 0).val / 128) + s.val, by have : (i 0).val < 32768 := (i 0).isLt; omega⟩ : Fin 32768) (⟨k.val, by omega⟩ : Fin 3328)))
    (fun s k => p (ix2 (⟨128 * ((i 0).val / 128) + s.val, by have : (i 0).val < 32768 := (i 0).isLt; omega⟩ : Fin 32768) (⟨256 + k.val, by omega⟩ : Fin 3328)))
    (fun k => g (ix1 k)) (fun k => b (ix1 k)) (fun h t s => w (ix3 h t s))
    (fun t k => bs (ix2 (⟨k.val / 64, by omega⟩ : Fin 4) t)) ⟨(i 0).val % 128, by omega⟩ (i 1)

variable (m : (ℓ : Loc nD τ sig) → Buf (Elt Ideal) ℓ) (ρ : Dev nD → PrngReg)

/-- The bias as the launch finds it: a column per channel. -/
theorem V2 (c : Dev nD) : V m c main_v2 = (shapeCast S128x256 (broadcastInDim S128x4x64 ![0, 1] bcast_S128x4_S128x4x64_0_1
    (transpose S128x4 [1, 0] (m ((c : Thread nD τ).loc main_arg4) : FVec Ideal S4x128 .f32) transposes_S4x128_S128x4_1_0))
    shapeCasts_S128x4x64_S128x256 : FVec Ideal S128x256 .f32) := by
  unfold V; after_results <;> rfl
/-- The norm's scale as the launch finds it: one row. -/
theorem V3 (c : Dev nD) : V m c main_v3 = (shapeCast S1x256 (m ((c : Thread nD τ).loc main_arg1) : FVec Ideal S256 .f32)
    shapeCasts_S256_S1x256 : FVec Ideal S1x256 .f32) := by
  unfold V; after_results <;> rfl
/-- The norm's shift as the launch finds it: one row. -/
theorem V4 (c : Dev nD) : V m c main_v4 = (shapeCast S1x256 (m ((c : Thread nD τ).loc main_arg2) : FVec Ideal S256 .f32)
    shapeCasts_S256_S1x256 : FVec Ideal S1x256 .f32) := by
  unfold V; after_results <;> rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)

/-- Token `a` of block `t`, among all tokens. -/
def row (t : Fin cfg0.N) (a : Fin 512) : Fin 32768 := ⟨t.val * 512 + a.val, by have := t.isLt; have : cfg0.N = 64 := N_0; omega⟩

/-- Block `t` of the projection holds the first 512 columns of its tokens. -/
theorem iblk0 (c : Dev nD) (t : Fin cfg0.N) : X0_0 m c t
    = (fun j => (m ((c : Thread nD τ).loc main_arg0) : FVec Ideal S32768x3328 .f32) (ix2 (row t (j 0)) (⟨(j 1).val, by have : (j 1).val < 512 := (j 1).isLt; omega⟩ : Fin 3328)) : FVec Ideal S512x512 .f32) := by
  funext j
  unfold X0_0 Pipeline.Window.fill
  rw [dif_pos (moved0_0 t j)]
  show V m c main_arg0 ((win0_0.blk t).view.emb _) = _
  rw [V_main_arg0]
  refine congrArg (m ((c : Thread nD τ).loc main_arg0)) ?_
  blk_ext [e0, row]
/-- Window 1 holds the norm's scale. -/
theorem iblk1 (c : Dev nD) (t : Fin cfg0.N) : iblk m c 1 t
    = (fun j => (m ((c : Thread nD τ).loc main_arg1) : FVec Ideal S256 .f32) (ix1 (j 1)) : FVec Ideal S1x256 .f32) := by
  funext j
  show V m c main_v3 ((win0_1.blk t).view.emb j) = _
  rw [V3]
  refine (congrArg (shapeCast S1x256 (m ((c : Thread nD τ).loc main_arg1) : FVec Ideal S256 .f32) shapeCasts_S256_S1x256) (a₂ := j) ?_).trans ?_
  · blk_ext [e1]
  · idx_vars j
    pointwise
/-- Window 2 holds the norm's shift. -/
theorem iblk2 (c : Dev nD) (t : Fin cfg0.N) : iblk m c 2 t
    = (fun j => (m ((c : Thread nD τ).loc main_arg2) : FVec Ideal S256 .f32) (ix1 (j 1)) : FVec Ideal S1x256 .f32) := by
  funext j
  show V m c main_v4 ((win0_2.blk t).view.emb j) = _
  rw [V4]
  refine (congrArg (shapeCast S1x256 (m ((c : Thread nD τ).loc main_arg2) : FVec Ideal S256 .f32) shapeCasts_S256_S1x256) (a₂ := j) ?_).trans ?_
  · blk_ext [e2]
  · idx_vars j
    pointwise
/-- Window 3 holds the mixing weights. -/
theorem iblk3 (c : Dev nD) (t : Fin cfg0.N) : iblk m c 3 t = (m ((c : Thread nD τ).loc main_arg3) : FVec Ideal S4x128x128 .f32) := by
  funext j
  show V m c main_arg3 ((win0_3.blk t).view.emb j) = _
  rw [V_main_arg3]
  refine congrArg (m ((c : Thread nD τ).loc main_arg3)) ?_
  blk_ext [e3]
/-- Window 4 holds the bias. -/
theorem iblk4 (c : Dev nD) (t : Fin cfg0.N) : iblk m c 4 t
    = (fun j => (m ((c : Thread nD τ).loc main_arg4) : FVec Ideal S4x128 .f32) (ix2 (⟨(j 1).val / 64, by have : (j 1).val < 256 := (j 1).isLt; omega⟩ : Fin 4) (j 0)) : FVec Ideal S128x256 .f32) := by
  funext j
  show V m c main_v2 ((win0_4.blk t).view.emb j) = _
  rw [V2]
  refine (congrArg (shapeCast S128x256 (broadcastInDim S128x4x64 ![0, 1] bcast_S128x4_S128x4x64_0_1
    (transpose S128x4 [1, 0] (m ((c : Thread nD τ).loc main_arg4) : FVec Ideal S4x128 .f32) transposes_S4x128_S128x4_1_0))
    shapeCasts_S128x4x64_S128x256) (a₂ := j) ?_).trans ?_
  · blk_ext [e4]
  · idx_vars j
    pointwise

/-- What a block's body leaves. -/
theorem block (c : Dev nD) (t : Fin cfg0.N) : outsAt0 m c t
    = blockOut (X0_0 m c t) (iblk m c 1 t) (iblk m c 2 t) (iblk m c 3 t) (iblk m c 4 t) := by
  unfold outsAt0
  frame_open
  simp (disch := decide) only [↓ View.readCov_skip, ↓ View.readCov_cons_toLoadRect, ↓ View.readCov_fill]
  frame_out
  generalize X0_0 m c t = x
  generalize (iblk m c 1 t : FVec Ideal S1x256 .f32) = g
  generalize (iblk m c 2 t : FVec Ideal S1x256 .f32) = b
  generalize (iblk m c 3 t : FVec Ideal S4x128x128 .f32) = w
  generalize (iblk m c 4 t : FVec Ideal S128x256 .f32) = bs
  funext y
  refine View.canon_apply_of_pieces (Val := Elt Ideal) (S := S512x256) (e := .f32) (blockOut x g b w bs) _ ?_ y
    (View.cover_of_tiled _ ![128, 256] (by rfl) y)
  intro p hp
  simp only [List.mem_cons, List.not_mem_nil, or_false] at hp
  rcases hp with rfl | rfl | rfl | rfl <;> intro z <;> idx_vars z
  · refine piece x g b w bs (View.ld x (Rect.unit ![384, 0] ![128, 256] inb_S512x512_S128x256_384_0))
      (View.ld x (Rect.unit ![384, 256] ![128, 256] inb_S512x512_S128x256_384_256)) _ _ _ _ ?_ ?_ ?_ ?_ 3 ?_ ?_ z0 z1 _
      (show 384 + 1 * z0.val = 128 * 3 + z0.val by omega) (show 0 + 1 * z1.val = z1.val by omega) <;>
      (intro s k; pointwise)
  · refine piece x g b w bs (View.ld x (Rect.unit ![256, 0] ![128, 256] inb_S512x512_S128x256_256_0))
      (View.ld x (Rect.unit ![256, 256] ![128, 256] inb_S512x512_S128x256_256_256)) _ _ _ _ ?_ ?_ ?_ ?_ 2 ?_ ?_ z0 z1 _
      (show 256 + 1 * z0.val = 128 * 2 + z0.val by omega) (show 0 + 1 * z1.val = z1.val by omega) <;>
      (intro s k; pointwise)
  · refine piece x g b w bs (View.ld x (Rect.unit ![128, 0] ![128, 256] inb_S512x512_S128x256_128_0))
      (View.ld x (Rect.unit ![128, 256] ![128, 256] inb_S512x512_S128x256_128_256)) _ _ _ _ ?_ ?_ ?_ ?_ 1 ?_ ?_ z0 z1 _
      (show 128 + 1 * z0.val = 128 * 1 + z0.val by omega) (show 0 + 1 * z1.val = z1.val by omega) <;>
      (intro s k; pointwise)
  · refine piece x g b w bs (View.ld x (Rect.unit ![0, 0] ![128, 256] inb_S512x512_S128x256_0_0))
      (View.ld x (Rect.unit ![0, 256] ![128, 256] inb_S512x512_S128x256_0_256)) _ _ _ _ ?_ ?_ ?_ ?_ 0 ?_ ?_ z0 z1 _
      (show 0 + 1 * z0.val = 128 * 0 + z0.val by omega) (show 0 + 1 * z1.val = z1.val by omega) <;>
      (intro s k; pointwise)

/-- The result array after the run is the stated function of the arguments. -/
theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, block, iblk0, iblk1, iblk2, iblk3, iblk4]
  idx_vars y
  refine Eq.trans ?_ (congrArg (G _ _ _ _ _) (a₁ := ix2 (row t y0) y1) ?_)
  · exact chunk_congr _ _ _ _ y1
      (fun s k => congrArg (fun r : Fin 32768 => (m ((c : Thread nD τ).loc main_arg0) : FVec Ideal S32768x3328 .f32) (ix2 r (⟨k.val, by omega⟩ : Fin 3328)))
        (Fin.ext (show t.val * 512 + (128 * (y0.val / 128) + s.val) = 128 * ((t.val * 512 + y0.val) / 128) + s.val by omega)))
      (fun s k => congrArg (fun r : Fin 32768 => (m ((c : Thread nD τ).loc main_arg0) : FVec Ideal S32768x3328 .f32) (ix2 r (⟨256 + k.val, by omega⟩ : Fin 3328)))
        (Fin.ext (show t.val * 512 + (128 * (y0.val / 128) + s.val) = 128 * ((t.val * 512 + y0.val) / 128) + s.val by omega)))
      (Fin.ext (show y0.val % 128 = (t.val * 512 + y0.val) % 128 by omega))
  · blk_ext [e5, row]

end Cert.GmlpIdeal.Mixing

end
-- ==== Proof.GmlpEq.lean ====
/- The gated mixing's claims: the reference computes the same function of the arguments. -/
module

public import proofs.«01_k».proof.Defs
public import proofs.«01_k».proof.Proof.Gmlp
public import proofs.«01_k».proof.Proof.Gen.Gmlp.Frame
public import proofs.«01_k».proof.Proof.Gen.GmlpReferenceIdeal.Run
public import proofs.«01_k».proof.Proof.Gen.GmlpReferenceIdeal.Read
public import Idealize.ShloMosaic.Lib.Quiescent

@[expose] public section

set_option maxRecDepth 16384

noncomputable section

namespace Cert.GmlpReferenceIdeal.Mixing

open Cert.GmlpReferenceIdeal Cert.GmlpReferenceIdeal.Gen Cert.GmlpReferenceIdeal.Read Cert.Mix
open Idealize.ShloMosaic Idealize.ShloMosaic.TcCoe Idealize.SL.Sem

variable (x0 : FVec Ideal S32768x3328 .f32) (x1 x2 : FVec Ideal S256 .f32) (x3 : FVec Ideal S4x128x128 .f32) (x4 : FVec Ideal S4x128 .f32)

/-- The reference's error unit of the first half. -/
theorem geluU (a : Fin 32768) (j : Fin 256) :
    val_main_v13 (F := Ideal) x0 (ix2 a j) = Lru.gelu (x0 (ix2 a (⟨j.val, by omega⟩ : Fin 3328))) := by
  simp only [val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  pointwise [Lru.gelu]
  rw [mul_assoc (x0 _) (x0 _) (x0 _)]

/-- The reference's error unit of the second half. -/
theorem geluV (a : Fin 32768) (j : Fin 256) :
    val_main_v27 (F := Ideal) x0 (ix2 a j) = Lru.gelu (x0 (ix2 a (⟨256 + j.val, by omega⟩ : Fin 3328))) := by
  simp only [val_main_v27, val_main_v26, val_main_v25, val_main_v24, val_main_v23, val_main_v22, val_main_v21, val_main_v20, val_main_v19, val_main_v18, val_main_v17, val_main_v16, val_main_v15, val_main_v14, val_main_cst_3, val_main_cst_4, val_main_cst_5, val_main_cst_6]
  pointwise [Lru.gelu]
  rw [mul_assoc (x0 _) (x0 _) (x0 _)]

/-- The reference's normalised second half. -/
theorem norm (a : Fin 32768) (j : Fin 256) :
    val_main_v51 (F := Ideal) x0 x1 x2 (ix2 a j) = layerNorm (fun k => Lru.gelu (x0 (ix2 a (⟨256 + k.val, by omega⟩ : Fin 3328))))
      (fun k => x1 (ix1 k)) (fun k => x2 (ix1 k)) j := by
  rw [← (funext fun k => geluV x0 a k : (fun k => val_main_v27 (F := Ideal) x0 (ix2 a k)) = _)]
  simp only [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_7, val_main_cst_8, val_main_cst_9, val_main_cst_10, val_main_cst_11]
  generalize val_main_v27 (F := Ideal) x0 = y
  pointwise [layerNorm, mean]

theorem sge_iff : ∀ t s : Fin 128, IntOp.cmpi .sge (IntOp.addi (BitVec.ofNat 32 t.val) 0#32) (BitVec.ofNat 32 s.val) = 1#1 ↔ s ≤ t := by
  decide +kernel

/-- The reference's causal mixing weights. -/
theorem mask (h : Fin 4) (t s : Fin 128) :
    val_main_v57 (F := Ideal) x3 (ix3 h t s) = causal (fun t s => x3 (ix3 h t s)) t s := by
  have hh := sge_iff t s
  simp only [val_main_v57, val_main_v56, val_main_v55, val_main_v54, val_main_v53, val_main_cst_12, val_main_call0_v0, val_main_call0_c, val_main_call0_v1, val_main_call0_v2,
    val_main_call0_v3, val_main_call0_v4, val_main_call0_cst, val_main_call0_v5]
  pointwise [causal]
  exact if_congr hh rfl rfl

/-- The layer at a token and a channel. -/
theorem layer_apply (a : Fin 32768) (j : Fin 256) (q r : ℕ) (hq : a.val / 128 = q) (hr : a.val % 128 = r) (hr' : r < 128) :
    Cert.GmlpIdeal.Mixing.G x0 x1 x2 x3 x4 (ix2 a j)
      = chunk (fun s k => x0 (ix2 (⟨128 * q + s.val, by omega⟩ : Fin 32768) (⟨k.val, by omega⟩ : Fin 3328)))
        (fun s k => x0 (ix2 (⟨128 * q + s.val, by omega⟩ : Fin 32768) (⟨256 + k.val, by omega⟩ : Fin 3328)))
        (fun k => x1 (ix1 k)) (fun k => x2 (ix1 k)) (fun h t s => x3 (ix3 h t s))
        (fun t k => x4 (ix2 (⟨k.val / 64, by omega⟩ : Fin 4) t)) ⟨r, hr'⟩ j := by
  subst hq hr
  rfl

/-- The layer at a token and a channel, the sum in the reference's order. -/
theorem layer_sum (a : Fin 32768) (j : Fin 256) :
    Lru.gelu (x0 (ix2 a (⟨j.val, by omega⟩ : Fin 3328)))
        * ((∑ k : Fin 128, layerNorm (fun l => Lru.gelu (x0 (ix2 (⟨a.val / 128 * 128 + k.val, by omega⟩ : Fin 32768) (⟨256 + l.val, by omega⟩ : Fin 3328))))
              (fun l => x1 (ix1 l)) (fun l => x2 (ix1 l)) j
            * causal (fun t s => x3 (ix3 (⟨j.val / 64, by omega⟩ : Fin 4) t s)) (⟨a.val % 128, by omega⟩ : Fin 128) k)
          + x4 (ix2 (⟨j.val / 64, by omega⟩ : Fin 4) (⟨a.val % 128, by omega⟩ : Fin 128)))
      = Cert.GmlpIdeal.Mixing.G x0 x1 x2 x3 x4 (ix2 a j) := by
  rw [layer_apply x0 x1 x2 x3 x4 a j _ _ rfl rfl (Nat.mod_lt _ (by decide))]
  unfold chunk
  dsimp only
  have h0 : (⟨128 * (a.val / 128) + a.val % 128, by omega⟩ : Fin 32768) = a := Fin.ext (Nat.div_add_mod _ _)
  rw [h0, add_comm]
  refine congrArg (fun z => _ * (_ + z)) (Finset.sum_congr rfl fun k _ => ?_)
  rw [mul_comm]
  simp only [Nat.mul_comm (a.val / 128) 128]

/-- The reference's result is the layer's function of the arguments. -/
theorem ref_eq : val_main_v66 (F := Ideal) x0 x1 x2 x3 x4 = Cert.GmlpIdeal.Mixing.G x0 x1 x2 x3 x4 := by
  funext i
  idx_vars i
  refine Eq.trans ?_ (layer_sum x0 x1 x2 x3 x4 i0 i1)
  have hu := geluU x0
  have hn := norm x0 x1 x2
  have hm := mask x3
  simp only [val_main_v66, val_main_v65, val_main_v64, val_main_v63, val_main_v62, val_main_v61, val_main_v60, val_main_v59, val_main_v58, val_main_v52]
  simp only [← hu, ← hn, ← hm]
  generalize val_main_v13 (F := Ideal) x0 = u at hu ⊢
  generalize val_main_v51 (F := Ideal) x0 x1 x2 = z at hn ⊢
  generalize val_main_v57 (F := Ideal) x3 = w at hm ⊢
  pointwise

end Cert.GmlpReferenceIdeal.Mixing

namespace Cert.Proof.Gmlp

open Idealize.ShloMosaic Idealize.SL.Sem

/-- The reference terminates, keeps its arguments and declares no semaphore. -/
theorem frame_ref : Cert.quiescent_GmlpReferenceIdeal := fun m ρ _ =>
  (θ_run Cert.GmlpReferenceIdeal.defs _ _).mono (fun r h => ⟨fun c => (h c).2, sem_eq_zero_of_no_sems (by decide) r.2⟩)
    (Cert.GmlpReferenceIdeal.Value.run (F := Ideal) m ρ)

/-- The kernel and the reference compute the same array over the reals. -/
theorem algebraic : Cert.algebraic_GmlpIdeal_GmlpReferenceIdeal := by
  intro m ρ m' ρ' _ hag
  refine ⟨fun c => Cert.GmlpIdeal.Mixing.G (m ((c.tc : Thread _ _).loc Cert.GmlpIdeal.main_arg0)) (m ((c.tc : Thread _ _).loc Cert.GmlpIdeal.main_arg1))
    (m ((c.tc : Thread _ _).loc Cert.GmlpIdeal.main_arg2)) (m ((c.tc : Thread _ _).loc Cert.GmlpIdeal.main_arg3))
    (m ((c.tc : Thread _ _).loc Cert.GmlpIdeal.main_arg4)), ?_, ?_⟩
  · exact (θ_run Cert.GmlpIdeal.defs _ _).mono (fun _ h c => ⟨(h c).1.trans (Cert.GmlpIdeal.Mixing.final5 m c), (h c).2⟩)
      (Cert.GmlpIdeal.Value.run_blocks (F := Ideal) m ρ)
  · refine (θ_run Cert.GmlpReferenceIdeal.defs _ _).mono (fun _ h c => ⟨(h c).1.trans ?_, (h c).2⟩)
      (Cert.GmlpReferenceIdeal.Value.run (F := Ideal) m' ρ')
    refine (Cert.GmlpReferenceIdeal.Read.val_main_v66_eq m' c).trans ((Cert.GmlpReferenceIdeal.Mixing.ref_eq _ _ _ _ _).trans ?_)
    rw [(hag c).1, (hag c).2.1, (hag c).2.2.1, (hag c).2.2.2.1, (hag c).2.2.2.2]

end Cert.Proof.Gmlp

end
-- ==== Proof.RouteNet.lean ====
/-
  The sorting network of the routing kernel, over any type with a greater, a smaller and a rotation: sixteen values,
  each a row group, are sorted by a bitonic network, then merged three times with themselves rotated.
-/
module

public import Idealize.ShloMosaic.PureOps.Values

@[expose] public section

namespace Cert.Net

universe u

/-- Sixteen values. -/
structure Row (T : Type u) where
  (a0 a1 a2 a3 a4 a5 a6 a7 a8 a9 a10 a11 a12 a13 a14 a15 : T)

variable {T : Type u} (mx mn : T → T → T) (rl : Nat → T → T)

/-! A layer compares the positions `i` and `i xor j`, the greater going first where bit `k` of `i` is clear. -/

def lay2_1 (a : Row T) : Row T :=
  ⟨mx a.a0 a.a1, mn a.a0 a.a1, mn a.a2 a.a3, mx a.a2 a.a3, mx a.a4 a.a5, mn a.a4 a.a5, mn a.a6 a.a7, mx a.a6 a.a7,
   mx a.a8 a.a9, mn a.a8 a.a9, mn a.a10 a.a11, mx a.a10 a.a11, mx a.a12 a.a13, mn a.a12 a.a13, mn a.a14 a.a15, mx a.a14 a.a15⟩
def lay4_2 (a : Row T) : Row T :=
  ⟨mx a.a0 a.a2, mx a.a1 a.a3, mn a.a0 a.a2, mn a.a1 a.a3, mn a.a4 a.a6, mn a.a5 a.a7, mx a.a4 a.a6, mx a.a5 a.a7,
   mx a.a8 a.a10, mx a.a9 a.a11, mn a.a8 a.a10, mn a.a9 a.a11, mn a.a12 a.a14, mn a.a13 a.a15, mx a.a12 a.a14, mx a.a13 a.a15⟩
def lay4_1 (a : Row T) : Row T :=
  ⟨mx a.a0 a.a1, mn a.a0 a.a1, mx a.a2 a.a3, mn a.a2 a.a3, mn a.a4 a.a5, mx a.a4 a.a5, mn a.a6 a.a7, mx a.a6 a.a7,
   mx a.a8 a.a9, mn a.a8 a.a9, mx a.a10 a.a11, mn a.a10 a.a11, mn a.a12 a.a13, mx a.a12 a.a13, mn a.a14 a.a15, mx a.a14 a.a15⟩
def lay8_4 (a : Row T) : Row T :=
  ⟨mx a.a0 a.a4, mx a.a1 a.a5, mx a.a2 a.a6, mx a.a3 a.a7, mn a.a0 a.a4, mn a.a1 a.a5, mn a.a2 a.a6, mn a.a3 a.a7,
   mn a.a8 a.a12, mn a.a9 a.a13, mn a.a10 a.a14, mn a.a11 a.a15, mx a.a8 a.a12, mx a.a9 a.a13, mx a.a10 a.a14, mx a.a11 a.a15⟩
def lay8_2 (a : Row T) : Row T :=
  ⟨mx a.a0 a.a2, mx a.a1 a.a3, mn a.a0 a.a2, mn a.a1 a.a3, mx a.a4 a.a6, mx a.a5 a.a7, mn a.a4 a.a6, mn a.a5 a.a7,
   mn a.a8 a.a10, mn a.a9 a.a11, mx a.a8 a.a10, mx a.a9 a.a11, mn a.a12 a.a14, mn a.a13 a.a15, mx a.a12 a.a14, mx a.a13 a.a15⟩
def lay8_1 (a : Row T) : Row T :=
  ⟨mx a.a0 a.a1, mn a.a0 a.a1, mx a.a2 a.a3, mn a.a2 a.a3, mx a.a4 a.a5, mn a.a4 a.a5, mx a.a6 a.a7, mn a.a6 a.a7,
   mn a.a8 a.a9, mx a.a8 a.a9, mn a.a10 a.a11, mx a.a10 a.a11, mn a.a12 a.a13, mx a.a12 a.a13, mn a.a14 a.a15, mx a.a14 a.a15⟩
def lay16_8 (a : Row T) : Row T :=
  ⟨mx a.a0 a.a8, mx a.a1 a.a9, mx a.a2 a.a10, mx a.a3 a.a11, mx a.a4 a.a12, mx a.a5 a.a13, mx a.a6 a.a14, mx a.a7 a.a15,
   mn a.a0 a.a8, mn a.a1 a.a9, mn a.a2 a.a10, mn a.a3 a.a11, mn a.a4 a.a12, mn a.a5 a.a13, mn a.a6 a.a14, mn a.a7 a.a15⟩
def lay16_4 (a : Row T) : Row T :=
  ⟨mx a.a0 a.a4, mx a.a1 a.a5, mx a.a2 a.a6, mx a.a3 a.a7, mn a.a0 a.a4, mn a.a1 a.a5, mn a.a2 a.a6, mn a.a3 a.a7,
   mx a.a8 a.a12, mx a.a9 a.a13, mx a.a10 a.a14, mx a.a11 a.a15, mn a.a8 a.a12, mn a.a9 a.a13, mn a.a10 a.a14, mn a.a11 a.a15⟩
def lay16_2 (a : Row T) : Row T :=
  ⟨mx a.a0 a.a2, mx a.a1 a.a3, mn a.a0 a.a2, mn a.a1 a.a3, mx a.a4 a.a6, mx a.a5 a.a7, mn a.a4 a.a6, mn a.a5 a.a7,
   mx a.a8 a.a10, mx a.a9 a.a11, mn a.a8 a.a10, mn a.a9 a.a11, mx a.a12 a.a14, mx a.a13 a.a15, mn a.a12 a.a14, mn a.a13 a.a15⟩
def lay16_1 (a : Row T) : Row T :=
  ⟨mx a.a0 a.a1, mn a.a0 a.a1, mx a.a2 a.a3, mn a.a2 a.a3, mx a.a4 a.a5, mn a.a4 a.a5, mx a.a6 a.a7, mn a.a6 a.a7,
   mx a.a8 a.a9, mn a.a8 a.a9, mx a.a10 a.a11, mn a.a10 a.a11, mx a.a12 a.a13, mn a.a12 a.a13, mx a.a14 a.a15, mn a.a14 a.a15⟩

/-- A bitonic row sorted, the greatest first. -/
def merge (a : Row T) : Row T := lay16_1 mx mn (lay16_2 mx mn (lay16_4 mx mn (lay16_8 mx mn a)))

/-- Sixteen values sorted, the greatest first. -/
def sort (a : Row T) : Row T :=
  merge mx mn (lay8_1 mx mn (lay8_2 mx mn (lay8_4 mx mn (lay4_1 mx mn (lay4_2 mx mn (lay2_1 mx mn a))))))

/-- The greater of each value and of the rotated value at the mirrored place. -/
def mirror (s : Nat) (a : Row T) : Row T :=
  ⟨mx a.a0 (rl s a.a15), mx a.a1 (rl s a.a14), mx a.a2 (rl s a.a13), mx a.a3 (rl s a.a12), mx a.a4 (rl s a.a11), mx a.a5 (rl s a.a10), mx a.a6 (rl s a.a9), mx a.a7 (rl s a.a8),
   mx a.a8 (rl s a.a7), mx a.a9 (rl s a.a6), mx a.a10 (rl s a.a5), mx a.a11 (rl s a.a4), mx a.a12 (rl s a.a3), mx a.a13 (rl s a.a2), mx a.a14 (rl s a.a1), mx a.a15 (rl s a.a0)⟩

/-- The sixteen greatest over the eight rotations. -/
def top (a : Row T) : Row T :=
  merge mx mn (mirror mx rl 1 (merge mx mn (mirror mx rl 2 (merge mx mn (mirror mx rl 4 (sort mx mn a))))))

end Cert.Net
-- ==== Proof.RouteSort.lean ====
/-
  What the sorting network computes: at any threshold, its k-th output exceeds the threshold just when more than k of the
  128 inputs do. Over truth values the network is a counter, and a threshold turns greater into or and smaller into and.
-/
module

public import proofs.«01_k».proof.Proof.RouteNet
public import Idealize.ShloMosaic.Lib.Pointwise

@[expose] public section

set_option maxRecDepth 65536

namespace Cert.Net

universe u v

/-- A row's values under a function. -/
def Row.map {T : Type u} {U : Type v} (f : T → U) (a : Row T) : Row U :=
  ⟨f a.a0, f a.a1, f a.a2, f a.a3, f a.a4, f a.a5, f a.a6, f a.a7, f a.a8, f a.a9, f a.a10, f a.a11, f a.a12, f a.a13, f a.a14, f a.a15⟩

section Natural

variable {T : Type u} {U : Type v} {mx mn : T → T → T} {mx' mn' : U → U → U} {f : T → U}
    (hx : ∀ a b, f (mx a b) = mx' (f a) (f b)) (hn : ∀ a b, f (mn a b) = mn' (f a) (f b))
include hx hn

theorem lay2_1_map (a : Row T) : (lay2_1 mx mn a).map f = lay2_1 mx' mn' (a.map f) := by
  simp only [lay2_1, Row.map, hx, hn]
theorem lay4_2_map (a : Row T) : (lay4_2 mx mn a).map f = lay4_2 mx' mn' (a.map f) := by
  simp only [lay4_2, Row.map, hx, hn]
theorem lay4_1_map (a : Row T) : (lay4_1 mx mn a).map f = lay4_1 mx' mn' (a.map f) := by
  simp only [lay4_1, Row.map, hx, hn]
theorem lay8_4_map (a : Row T) : (lay8_4 mx mn a).map f = lay8_4 mx' mn' (a.map f) := by
  simp only [lay8_4, Row.map, hx, hn]
theorem lay8_2_map (a : Row T) : (lay8_2 mx mn a).map f = lay8_2 mx' mn' (a.map f) := by
  simp only [lay8_2, Row.map, hx, hn]
theorem lay8_1_map (a : Row T) : (lay8_1 mx mn a).map f = lay8_1 mx' mn' (a.map f) := by
  simp only [lay8_1, Row.map, hx, hn]
theorem lay16_8_map (a : Row T) : (lay16_8 mx mn a).map f = lay16_8 mx' mn' (a.map f) := by
  simp only [lay16_8, Row.map, hx, hn]
theorem lay16_4_map (a : Row T) : (lay16_4 mx mn a).map f = lay16_4 mx' mn' (a.map f) := by
  simp only [lay16_4, Row.map, hx, hn]
theorem lay16_2_map (a : Row T) : (lay16_2 mx mn a).map f = lay16_2 mx' mn' (a.map f) := by
  simp only [lay16_2, Row.map, hx, hn]
theorem lay16_1_map (a : Row T) : (lay16_1 mx mn a).map f = lay16_1 mx' mn' (a.map f) := by
  simp only [lay16_1, Row.map, hx, hn]
theorem merge_map (a : Row T) : (merge mx mn a).map f = merge mx' mn' (a.map f) := by
  simp only [merge, lay16_8_map hx hn, lay16_4_map hx hn, lay16_2_map hx hn, lay16_1_map hx hn]
theorem sort_map (a : Row T) : (sort mx mn a).map f = sort mx' mn' (a.map f) := by
  simp only [sort, merge_map hx hn, lay8_4_map hx hn, lay8_2_map hx hn, lay8_1_map hx hn, lay4_2_map hx hn, lay4_1_map hx hn, lay2_1_map hx hn]

end Natural

/-- Each value or its mirrored partner of another row. -/
def mir (x y : Row Bool) : Row Bool :=
  ⟨x.a0 || y.a15, x.a1 || y.a14, x.a2 || y.a13, x.a3 || y.a12, x.a4 || y.a11, x.a5 || y.a10, x.a6 || y.a9, x.a7 || y.a8, x.a8 || y.a7, x.a9 || y.a6, x.a10 || y.a5, x.a11 || y.a4, x.a12 || y.a3, x.a13 || y.a2, x.a14 || y.a1, x.a15 || y.a0⟩

/-- The row of `c` trues, first. -/
def srt (c : ℕ) : Row Bool :=
  ⟨decide (0 < c), decide (1 < c), decide (2 < c), decide (3 < c), decide (4 < c), decide (5 < c), decide (6 < c), decide (7 < c), decide (8 < c), decide (9 < c), decide (10 < c), decide (11 < c), decide (12 < c), decide (13 < c), decide (14 < c), decide (15 < c)⟩

/-- How many are true. -/
def cnt (x : Row Bool) : ℕ :=
  ((x.a0.toNat + x.a1.toNat + x.a2.toNat + x.a3.toNat) + (x.a4.toNat + x.a5.toNat + x.a6.toNat + x.a7.toNat))
    + ((x.a8.toNat + x.a9.toNat + x.a10.toNat + x.a11.toNat) + (x.a12.toNat + x.a13.toNat + x.a14.toNat + x.a15.toNat))

/-- Four groups of four, in turn descending and ascending. -/
def srt4 (c d e f : ℕ) : Row Bool :=
  ⟨decide (0 < c), decide (1 < c), decide (2 < c), decide (3 < c), decide (3 < d), decide (2 < d), decide (1 < d), decide (0 < d), decide (0 < e), decide (1 < e), decide (2 < e), decide (3 < e), decide (3 < f), decide (2 < f), decide (1 < f), decide (0 < f)⟩
/-- Two groups of eight, descending and ascending. -/
def srt8 (c d : ℕ) : Row Bool :=
  ⟨decide (0 < c), decide (1 < c), decide (2 < c), decide (3 < c), decide (4 < c), decide (5 < c), decide (6 < c), decide (7 < c), decide (7 < d), decide (6 < d), decide (5 < d), decide (4 < d), decide (3 < d), decide (2 < d), decide (1 < d), decide (0 < d)⟩

theorem row_ext {T : Type u} {a b : Row T} (h0 : a.a0 = b.a0) (h1 : a.a1 = b.a1) (h2 : a.a2 = b.a2) (h3 : a.a3 = b.a3) (h4 : a.a4 = b.a4) (h5 : a.a5 = b.a5) (h6 : a.a6 = b.a6) (h7 : a.a7 = b.a7) (h8 : a.a8 = b.a8) (h9 : a.a9 = b.a9) (h10 : a.a10 = b.a10) (h11 : a.a11 = b.a11) (h12 : a.a12 = b.a12) (h13 : a.a13 = b.a13) (h14 : a.a14 = b.a14) (h15 : a.a15 = b.a15) : a = b := by
  cases a; cases b; simp_all

theorem quad_desc : ∀ x y z w : Bool,
    let m := Bool.or; let n := Bool.and
    let p := m x y; let q := n x y; let r := n z w; let s := m z w
    m (m p r) (m q s) = decide (0 < x.toNat + y.toNat + z.toNat + w.toNat)
    ∧ n (m p r) (m q s) = decide (1 < x.toNat + y.toNat + z.toNat + w.toNat)
    ∧ m (n p r) (n q s) = decide (2 < x.toNat + y.toNat + z.toNat + w.toNat)
    ∧ n (n p r) (n q s) = decide (3 < x.toNat + y.toNat + z.toNat + w.toNat) := by decide
theorem quad_asc : ∀ x y z w : Bool,
    let m := Bool.or; let n := Bool.and
    let p := m x y; let q := n x y; let r := n z w; let s := m z w
    n (n p r) (n q s) = decide (3 < x.toNat + y.toNat + z.toNat + w.toNat)
    ∧ m (n p r) (n q s) = decide (2 < x.toNat + y.toNat + z.toNat + w.toNat)
    ∧ n (m p r) (m q s) = decide (1 < x.toNat + y.toNat + z.toNat + w.toNat)
    ∧ m (m p r) (m q s) = decide (0 < x.toNat + y.toNat + z.toNat + w.toNat) := by decide

theorem quads (x : Row Bool) : lay4_1 Bool.or Bool.and (lay4_2 Bool.or Bool.and (lay2_1 Bool.or Bool.and x))
    = srt4 (x.a0.toNat + x.a1.toNat + x.a2.toNat + x.a3.toNat) (x.a4.toNat + x.a5.toNat + x.a6.toNat + x.a7.toNat)
        (x.a8.toNat + x.a9.toNat + x.a10.toNat + x.a11.toNat) (x.a12.toNat + x.a13.toNat + x.a14.toNat + x.a15.toNat) := by
  have h0 := quad_desc x.a0 x.a1 x.a2 x.a3
  have h1 := quad_asc x.a4 x.a5 x.a6 x.a7
  have h2 := quad_desc x.a8 x.a9 x.a10 x.a11
  have h3 := quad_asc x.a12 x.a13 x.a14 x.a15
  exact row_ext h0.1 h0.2.1 h0.2.2.1 h0.2.2.2 h1.1 h1.2.1 h1.2.2.1 h1.2.2.2 h2.1 h2.2.1 h2.2.2.1 h2.2.2.2 h3.1 h3.2.1 h3.2.2.1 h3.2.2.2

deriving instance DecidableEq for Row

theorem eights0 : ∀ c d e f : Fin 5, lay8_1 Bool.or Bool.and (lay8_2 Bool.or Bool.and (lay8_4 Bool.or Bool.and (srt4 c d e f))) = srt8 (c + d) (e + f) := by decide +kernel
theorem eights {c d e f : ℕ} (hc : c ≤ 4) (hd : d ≤ 4) (he : e ≤ 4) (hf : f ≤ 4) :
    lay8_1 Bool.or Bool.and (lay8_2 Bool.or Bool.and (lay8_4 Bool.or Bool.and (srt4 c d e f))) = srt8 (c + d) (e + f) :=
  eights0 ⟨c, by omega⟩ ⟨d, by omega⟩ ⟨e, by omega⟩ ⟨f, by omega⟩
theorem sixteens0 : ∀ c d : Fin 9, merge Bool.or Bool.and (srt8 c d) = srt (c + d) := by decide +kernel
theorem mirrored0 : ∀ c d : Fin 17, merge Bool.or Bool.and (mir (srt c) (srt d)) = srt (c + d) := by decide +kernel

theorem srt_min (c : ℕ) : srt (min 16 c) = srt c := by
  unfold srt
  congr 1 <;> exact decide_eq_decide.mpr (by omega)

theorem toNat4 (x y z w : Bool) : x.toNat + y.toNat + z.toNat + w.toNat ≤ 4 := by
  have := x.toNat_le; have := y.toNat_le; have := z.toNat_le; have := w.toNat_le; omega

/-- The network over truth values counts. -/
theorem sort_bool (x : Row Bool) : sort Bool.or Bool.and x = srt (cnt x) := by
  have h1 := toNat4 x.a0 x.a1 x.a2 x.a3
  have h2 := toNat4 x.a4 x.a5 x.a6 x.a7
  have h3 := toNat4 x.a8 x.a9 x.a10 x.a11
  have h4 := toNat4 x.a12 x.a13 x.a14 x.a15
  unfold sort
  rw [quads, eights h1 h2 h3 h4]
  exact sixteens0 ⟨_, by omega⟩ ⟨_, by omega⟩

theorem mirrored (c d : ℕ) : merge Bool.or Bool.and (mir (srt c) (srt d)) = srt (c + d) := by
  rw [← srt_min c, ← srt_min d, mirrored0 ⟨min 16 c, by omega⟩ ⟨min 16 d, by omega⟩]
  show srt (min 16 c + min 16 d) = _
  rw [← srt_min, ← srt_min (c + d)]
  congr 1; omega

/-! ## The network on columns -/

variable {T : Type u} {mx mn : T → T → T} {rl : ℕ → T → T} {f : Fin 8 → T → Bool} {ro : ℕ → Fin 8 → Fin 8}
    (hx : ∀ b x y, f b (mx x y) = Bool.or (f b x) (f b y)) (hn : ∀ b x y, f b (mn x y) = Bool.and (f b x) (f b y))
    (hr : ∀ s, s = 1 ∨ s = 2 ∨ s = 4 → ∀ b x, f b (rl s x) = f (ro s b) x)
include hx hn hr

theorem mirror_map (s : ℕ) (hs : s = 1 ∨ s = 2 ∨ s = 4) (b : Fin 8) (a : Row T) :
    (mirror mx rl s a).map (f b) = mir (a.map (f b)) (a.map (f (ro s b))) := by
  simp only [mirror, mir, Row.map, hx, hr s hs]

/-- At a place `b` the network's outputs count the trues over the eight places. -/
theorem top_bool (b : Fin 8) (a : Row T) : (top mx mn rl a).map (f b)
    = srt (((cnt (a.map (f b)) + cnt (a.map (f (ro 4 b)))) + (cnt (a.map (f (ro 2 b))) + cnt (a.map (f (ro 4 (ro 2 b))))))
      + ((cnt (a.map (f (ro 1 b))) + cnt (a.map (f (ro 4 (ro 1 b))))) + (cnt (a.map (f (ro 2 (ro 1 b)))) + cnt (a.map (f (ro 4 (ro 2 (ro 1 b))))))) ) := by
  have h0 (b : Fin 8) : (sort mx mn a).map (f b) = srt (cnt (a.map (f b))) := by
    rw [sort_map (hx b) (hn b), sort_bool]
  unfold top
  simp only [merge_map (hx _) (hn _), mirror_map hx hn hr 1 (by simp), mirror_map hx hn hr 2 (by simp), mirror_map hx hn hr 4 (by simp), h0, mirrored]

end Cert.Net
-- ==== Proof.RouteIdealFrame.lean ====
/-
  The frame of the routing program, by hand: the pipeline's proof data forget what the body leaves in the five
  output windows and keep both scratch buffers at some contents; each input window is left as it was found.
-/
module

public import proofs.«01_k».proof.Proof.Gen.RouteIdeal.Frame
public import proofs.«01_k».proof.Proof.Gen.RouteIdeal.Loops

@[expose] public section

set_option maxRecDepth 16384

noncomputable section

namespace Cert.RouteIdeal.Hand

open Cert.RouteIdeal Cert.RouteIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

/-- The resource monoid of the launch. -/
abbrev MR (F : FTy → Type) [FloatOps F] := MT nD τ sig Unit (Elt F) ℕ (UR sig nD τ) ℕ

variable (m : (ℓ : Loc nD τ sig) → Buf (Elt F) ℓ) (ρ : Dev nD → PrngReg)

/-- The condition of the body's one conditional, from the grid coordinates. -/
abbrev cond (i : grid0.Coords) : Prop :=
  (Scalar.cmpi .ne (Scalar.extui (Scalar.cmpi .eq (BitVec.ofNat 32 (i 0).val) 0#32)) 0#32) = 1#1

/-- The two scratch buffers, whole. -/
abbrev xnM : Memref sig .tc .vmem S2x512x1024 .bf16 := Memref.whole cc0_scratch0
abbrev qM : Memref sig .tc .vmem S2x8x512x256 .bf16 := Memref.whole cc0_scratch1

theorem PhiA_eq (c : Dev nD) :
    (Pipeline.ΦA spec0 c : sProp (MR F))
      = iprop(iprop((∃ d, owns (c : Thread nD τ) xnM fullShare d) ∗ (∃ d, owns (c : Thread nD τ) qM fullShare d)) ∗ (∃ r, prngReg c r)) := by
  unfold Pipeline.ΦA; rw [scopedRest0_eq]; simp only [xnM, qM, owns_whole]; try rfl

/-- The body on any staging buffers: from the inputs at their contents and everything else at any contents, it ends
    with the inputs as they were and everything else at some contents. -/
theorem run_any (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024x256 .bf16) (harg4 : arg4.IsWhole) (arg5 : Memref sig .tc .vmem S8x256x256 .bf16) (harg5 : arg5.IsWhole) (arg6 : Memref sig .tc .vmem S512x1024 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S8x128x512 .bf16) (harg9 : arg9.IsWhole) (arg10 : Memref sig .tc .vmem S8x128x512 .bf16) (harg10 : arg10.IsWhole) (arg11 : Memref sig .tc .vmem S2x512x1024 .bf16) (harg11 : arg11.IsWhole) (arg12 : Memref sig .tc .vmem S2x8x512x256 .bf16) (harg12 : arg12.IsWhole)
    (x0 x1 : Vec F S512x1024 .f32) (x2 : Vec F S1x1024 .f32) (x3 : Vec F S8x1024x256 .bf16) (x4 : Vec F S8x256x256 .bf16)
    (E : Set ℕ) (K : PUnit → sProp (MR F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)) -∗ K ⟨⟩))
      ⊢ wp Idealize.ShloMosaic.frame (wpE (defs₀ (F := F)) Variants.none c none) E (cc0_peer_route i arg1 harg1 arg2 harg2 arg3 harg3 arg4 harg4 arg5 harg5 arg6 harg6 arg7 harg7 arg8 harg8 arg9 harg9 arg10 harg10 arg11 harg11 arg12 harg12) K := by
  by_cases hc : cond i
  all_goals
    simp only [cc0_peer_route_eq_skeleton]; unfold cc0_peer_route_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%e0, %g0, -, HS0⟩, ⟨%e1, %g1, -, HS1⟩, Hk⟩
    sl_exec (disch := first | sl_exact hc)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

/-! ## The proof data and the body obligation -/

/-- The five outputs are forgotten. -/
def forgets (w : Fin 10) : Bool := match w with
  | ⟨5, _⟩ => true
  | ⟨6, _⟩ => true
  | ⟨7, _⟩ => true
  | ⟨8, _⟩ => true
  | ⟨9, _⟩ => true
  | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t := before0_0_of m _ (A_eq m c 0) (fun _ => rfl) t d
theorem before_1 (c : Dev nD) (t : Fin cfg0.N) (d) : (dats m 0 c).before 1 t d = iblk m c 1 t := before0_1_of m _ (A_eq m c 1) (fun _ => rfl) t d
theorem before_2 (c : Dev nD) (t : Fin cfg0.N) (d) : (dats m 0 c).before 2 t d = iblk m c 2 t := before0_2_of m _ (A_eq m c 2) (fun _ => rfl) t d
theorem before_3 (c : Dev nD) (t : Fin cfg0.N) (d) : (dats m 0 c).before 3 t d = iblk m c 3 t := before0_3_of m _ (A_eq m c 3) (fun _ => rfl) t d
theorem before_4 (c : Dev nD) (t : Fin cfg0.N) (d) : (dats m 0 c).before 4 t d = iblk m c 4 t := before0_4_of m _ (A_eq m c 4) (fun _ => rfl) t d

abbrev ms0 (t : Fin cfg0.N) := win0_0.stage (cfg0.slots t 0)
theorem hs0 (t : Fin cfg0.N) : (ms0 t).IsWhole := hstage0_0 ((cfg0.slots t 0).cast nbuf0_0)
abbrev ms1 (t : Fin cfg0.N) := win0_1.stage (cfg0.slots t 1)
theorem hs1 (t : Fin cfg0.N) : (ms1 t).IsWhole := hstage0_1 ((cfg0.slots t 1).cast nbuf0_1)
abbrev ms2 (t : Fin cfg0.N) := win0_2.stage (cfg0.slots t 2)
theorem hs2 (t : Fin cfg0.N) : (ms2 t).IsWhole := hstage0_2 ((cfg0.slots t 2).cast nbuf0_2)
abbrev ms3 (t : Fin cfg0.N) := win0_3.stage (cfg0.slots t 3)
theorem hs3 (t : Fin cfg0.N) : (ms3 t).IsWhole := hstage0_3 ((cfg0.slots t 3).cast nbuf0_3)
abbrev ms4 (t : Fin cfg0.N) := win0_4.stage (cfg0.slots t 4)
theorem hs4 (t : Fin cfg0.N) : (ms4 t).IsWhole := hstage0_4 ((cfg0.slots t 4).cast nbuf0_4)
abbrev ms5 (t : Fin cfg0.N) := win0_5.stage (cfg0.slots t 5)
theorem hs5 (t : Fin cfg0.N) : (ms5 t).IsWhole := hstage0_5 ((cfg0.slots t 5).cast nbuf0_5)
abbrev ms6 (t : Fin cfg0.N) := win0_6.stage (cfg0.slots t 6)
theorem hs6 (t : Fin cfg0.N) : (ms6 t).IsWhole := hstage0_6 ((cfg0.slots t 6).cast nbuf0_6)
abbrev ms7 (t : Fin cfg0.N) := win0_7.stage (cfg0.slots t 7)
theorem hs7 (t : Fin cfg0.N) : (ms7 t).IsWhole := hstage0_7 ((cfg0.slots t 7).cast nbuf0_7)
abbrev ms8 (t : Fin cfg0.N) := win0_8.stage (cfg0.slots t 8)
theorem hs8 (t : Fin cfg0.N) : (ms8 t).IsWhole := hstage0_8 ((cfg0.slots t 8).cast nbuf0_8)
abbrev ms9 (t : Fin cfg0.N) := win0_9.stage (cfg0.slots t 9)
theorem hs9 (t : Fin cfg0.N) : (ms9 t).IsWhole := hstage0_9 ((cfg0.slots t 9).cast nbuf0_9)

def bodyPre (c : Dev nD) (t : Fin cfg0.N) : sProp (MR F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare d)
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d))

def bodyPost (c : Dev nD) (t : Fin cfg0.N) : sProp (MR F) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ d, owns (c : Thread nD τ) (ms5 t) fullShare d)
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d))

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨HS0, HS1⟩, Hg⟩, HO, ⟨%d0, H0⟩, ⟨%d1, H1⟩, ⟨%d2, H2⟩, ⟨%d3, H3⟩, ⟨%d4, H4⟩, H5, H6, H7, H8, H9⟩
  iapply (run_any c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) xnM (Memref.isWhole_whole _) qM (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexact HS1
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

-- the launch theorem's implicit arguments are found by unifying its conclusion with this statement, which takes unfolding
-- plain definitions in a metavariable's type
set_option backward.isDefEq.respectTransparency.types false in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- Every fair execution of @main ends, and every final state has each argument array as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1.arr_in c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.RouteIdeal.Hand

end
-- ==== Proof.RouteTrip.lean ====
/-
  What a trip of the routing kernel's loop stores, as the sorting network's function of the scores.
-/
module

public import proofs.«01_k».proof.Proof.Gen.RouteIdeal.Frame
public import proofs.«01_k».proof.Proof.Gen.RouteIdeal.Loops
public import proofs.«01_k».proof.Proof.RouteNet

@[expose] public section

set_option maxRecDepth 65536

noncomputable section

namespace Cert.RouteIdeal.Hand

open Cert.RouteIdeal Cert.RouteIdeal.Gen
open Idealize.ShloMosaic Idealize.ShloMosaic.TcCoe Idealize.ShloMosaic.Tactic
open Idealize.SL Idealize.SL.RA Idealize.SL.BI

variable {F : FTy → Type} [FloatOps F]

theorem slices_row : ∀ n : Fin 16, S16x8x512.Slices ![n.val, 0, 0] S1x8x512 := by decide

/-- Row group `n` of the scores. -/
def row (s : FVec F S16x8x512 .f32) (n : Fin 16) : FVec F S8x512 .f32 :=
  shapeCast S8x512 (extractStridedSlice S1x8x512 ![n.val, 0, 0] s (slices_row n)) shapeCasts_S1x8x512_S8x512

/-- The sixteen row groups. -/
def rows (s : FVec F S16x8x512 .f32) : Net.Row (FVec F S8x512 .f32) :=
  ⟨row s 0, row s 1, row s 2, row s 3, row s 4, row s 5, row s 6, row s 7, row s 8, row s 9, row s 10, row s 11, row s 12, row s 13, row s 14, row s 15⟩

/-- The sixteen greatest scores of each column. -/
def tops (s : FVec F S16x8x512 .f32) : Net.Row (FVec F S8x512 .f32) :=
  Net.top maximumf minimumf (fun n v => dynamicRotate 0 (BitVec.ofNat 32 n) none v rotates_S8x512_d0) (rows s)

def wide (v : FVec F S8x512 .f32) : FVec F S16x8x512 .f32 :=
  broadcastTo S16x8x512 (shapeCast S1x8x512 v shapeCasts_S8x512_S1x8x512) broadcasts_S1x8x512_S16x8x512
def wide' (v : FVec F S8x512 .f32) : FVec F S16x8x512 .f32 :=
  broadcastTo S16x8x512 (shapeCast S1x8x512 (shapeCast S1x8x512 v shapeCasts_S8x512_S1x8x512) shapeCasts_S1x8x512_S1x8x512) broadcasts_S1x8x512_S16x8x512
def bit (b : IVec S16x8x512 1) (w : BitVec 32) : FVec F S16x8x512 .f32 :=
  select b (broadcast S16x8x512 (Scalar.ofBits .f32 w)) (broadcast S16x8x512 (Scalar.ofBits .f32 0x00000000#32))

def g1 (s : FVec F S16x8x512 .f32) (v : Net.Row (FVec F S8x512 .f32)) : IVec S16x8x512 1 := cmpf .ogt (wide v.a7) s
def g2 (s : FVec F S16x8x512 .f32) (v : Net.Row (FVec F S8x512 .f32)) : IVec S16x8x512 1 :=
  cmpf .ogt (select (g1 s v) (wide' v.a11) (wide' v.a3)) s
def g3 (s : FVec F S16x8x512 .f32) (v : Net.Row (FVec F S8x512 .f32)) : IVec S16x8x512 1 :=
  cmpf .ogt (select (g1 s v) (select (g2 s v) (wide' v.a13) (wide' v.a9)) (select (g2 s v) (wide' v.a5) (wide' v.a1))) s
def g4 (s : FVec F S16x8x512 .f32) (v : Net.Row (FVec F S8x512 .f32)) : IVec S16x8x512 1 :=
  cmpf .ogt (select (g1 s v)
    (select (g2 s v) (select (g3 s v) (wide' v.a14) (wide' v.a12)) (select (g3 s v) (wide' v.a10) (wide' v.a8)))
    (select (g2 s v) (select (g3 s v) (wide' v.a6) (wide' v.a4)) (select (g3 s v) (wide' v.a2) (wide' v.a0)))) s

/-- The rank of each score among the sixteen greatest. -/
def ranks (s : FVec F S16x8x512 .f32) (v : Net.Row (FVec F S8x512 .f32)) : FVec F S16x8x512 .f32 :=
  select (cmpf .ogt (wide v.a15) s) (broadcast S16x8x512 (Scalar.ofBits .f32 0x41800000#32))
    (addf (addf (bit (g1 s v) 0x41000000#32) (bit (g2 s v) 0x40800000#32))
      (addf (bit (g3 s v) 0x40000000#32) (bit (g4 s v) 0x3F800000#32)))

/-- What the loop stores of the scores: the ranks, and the exponentials of the scores less the greatest. -/
def r2Of (s : FVec F S16x8x512 .f32) : FVec F S16x8x512 .f32 := ranks s (tops s)
def e2Of (s : FVec F S16x8x512 .f32) : FVec F S16x8x512 .f32 := exp (subf s (wide (tops s).a0))

theorem L10_eq (𝒱 : Variants) (c : Dev nD) (bd : Option 𝒱.V) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024x256 .bf16) (harg4 : arg4.IsWhole) (arg5 : Memref sig .tc .vmem S8x256x256 .bf16) (harg5 : arg5.IsWhole) (arg6 : Memref sig .tc .vmem S512x1024 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S8x128x512 .bf16) (harg9 : arg9.IsWhole) (arg10 : Memref sig .tc .vmem S8x128x512 .bf16) (harg10 : arg10.IsWhole) (arg11 : Memref sig .tc .vmem S2x512x1024 .bf16) (harg11 : arg11.IsWhole) (arg12 : Memref sig .tc .vmem S2x8x512x256 .bf16) (harg12 : arg12.IsWhole) (v0 : BitVec 32) (v1 : BitVec 32) (v29 : IVec S8x512 32) (X_arg4 : BufTy.Contents (Elt F) arg4.view.ty) (X_arg5 : BufTy.Contents (Elt F) arg5.view.ty) (X_arg11 : BufTy.Contents (Elt F) arg11.view.ty) (k : Fin k0_t1_loop.trips) (f7) (f8) (f9) (f10) (f12) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 k).2.2.2.1 f7 f8 f9 f10 f12
      = [⟨Rect.unit (s := S8x128x512) (k0_off8 k) S1x128x512.size (k0_off8_inb k),
          k0_pay8 (e2Of (k0_pay21 (View.readAt (Elt F) arg5.view (Rect.unit (s := S8x256x256) (k0_off3 k) S1x256x256.size (k0_off3_inb k)).toLoadRect X_arg5 : Vec F S1x256x256 .bf16)
            (View.readAt (Elt F) arg12.view (Rect.unit (s := S2x8x512x256) (k0_off4 i k) S1x1x512x256.size (k0_off4_inb i k)).toLoadRect f12 : Vec F S1x1x512x256 .bf16)))⟩] := by
  unfold trip_k0_t1
  sl_kernel_rfl

theorem L9_eq (𝒱 : Variants) (c : Dev nD) (bd : Option 𝒱.V) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024x256 .bf16) (harg4 : arg4.IsWhole) (arg5 : Memref sig .tc .vmem S8x256x256 .bf16) (harg5 : arg5.IsWhole) (arg6 : Memref sig .tc .vmem S512x1024 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S8x128x512 .bf16) (harg9 : arg9.IsWhole) (arg10 : Memref sig .tc .vmem S8x128x512 .bf16) (harg10 : arg10.IsWhole) (arg11 : Memref sig .tc .vmem S2x512x1024 .bf16) (harg11 : arg11.IsWhole) (arg12 : Memref sig .tc .vmem S2x8x512x256 .bf16) (harg12 : arg12.IsWhole) (v0 : BitVec 32) (v1 : BitVec 32) (v29 : IVec S8x512 32) (X_arg4 : BufTy.Contents (Elt F) arg4.view.ty) (X_arg5 : BufTy.Contents (Elt F) arg5.view.ty) (X_arg11 : BufTy.Contents (Elt F) arg11.view.ty) (k : Fin k0_t1_loop.trips) (f7) (f8) (f9) (f10) (f12) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 k).2.2.1 f7 f8 f9 f10 f12
      = [⟨Rect.unit (s := S8x128x512) (k0_off8 k) S1x128x512.size (k0_off8_inb k),
          k0_pay7 (r2Of (k0_pay21 (View.readAt (Elt F) arg5.view (Rect.unit (s := S8x256x256) (k0_off3 k) S1x256x256.size (k0_off3_inb k)).toLoadRect X_arg5 : Vec F S1x256x256 .bf16)
            (View.readAt (Elt F) arg12.view (Rect.unit (s := S2x8x512x256) (k0_off4 i k) S1x1x512x256.size (k0_off4_inb i k)).toLoadRect f12 : Vec F S1x1x512x256 .bf16)))⟩] := by
  unfold trip_k0_t1
  sl_kernel_rfl

end Cert.RouteIdeal.Hand

end
-- ==== Proof.RouteLoop.lean ====
/-
  What the routing kernel's loop leaves in its buffers: in each head's rows the stored function of that head's scores;
  the scratch's current slot untouched and its other slot holding the next block's queries.
-/
module

public import proofs.«01_k».proof.Proof.RouteTrip
public import Idealize.ShloMosaic.Lib.WritesUnit
public import Idealize.ShloMosaic.Lib.Pointwise

@[expose] public section

set_option maxRecDepth 65536

noncomputable section

namespace Cert.RouteIdeal.Hand

open Cert.RouteIdeal Cert.RouteIdeal.Gen
open Idealize.ShloMosaic Idealize.ShloMosaic.TcCoe Idealize.ShloMosaic.Tactic
open Idealize.SL Idealize.SL.RA Idealize.SL.BI

variable {F : FTy → Type} [FloatOps F]

theorem L12_eq (𝒱 : Variants) (c : Dev nD) (bd : Option 𝒱.V) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024x256 .bf16) (harg4 : arg4.IsWhole) (arg5 : Memref sig .tc .vmem S8x256x256 .bf16) (harg5 : arg5.IsWhole) (arg6 : Memref sig .tc .vmem S512x1024 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S8x128x512 .bf16) (harg9 : arg9.IsWhole) (arg10 : Memref sig .tc .vmem S8x128x512 .bf16) (harg10 : arg10.IsWhole) (arg11 : Memref sig .tc .vmem S2x512x1024 .bf16) (harg11 : arg11.IsWhole) (arg12 : Memref sig .tc .vmem S2x8x512x256 .bf16) (harg12 : arg12.IsWhole) (v0 : BitVec 32) (v1 : BitVec 32) (v29 : IVec S8x512 32) (X_arg4 : BufTy.Contents (Elt F) arg4.view.ty) (X_arg5 : BufTy.Contents (Elt F) arg5.view.ty) (X_arg11 : BufTy.Contents (Elt F) arg11.view.ty) (k : Fin k0_t1_loop.trips) (f7) (f8) (f9) (f10) (f12) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 k).2.2.2.2.val f7 f8 f9 f10 f12
      = [⟨Rect.unit (s := S2x8x512x256) (k0_off7 i k) S1x1x512x256.size (k0_off7_inb i k),
          k0_pay19 (View.readAt (Elt F) arg11.view (Rect.unit (s := S2x512x1024) (k0_off5 i) S1x512x1024.size (k0_off5_inb i)).toLoadRect X_arg11 : Vec F S1x512x1024 .bf16)
            (View.readAt (Elt F) arg4.view (Rect.unit (s := S8x1024x256) (k0_off6 k) S1x1024x256.size (k0_off6_inb k)).toLoadRect X_arg4 : Vec F S1x1024x256 .bf16)⟩] := by
  unfold trip_k0_t1
  sl_kernel_rfl

theorem trips_eq : k0_t1_loop.trips = 8 := by decide +kernel

/-- A trip's head. -/
def hd (k : Fin k0_t1_loop.trips) : Fin 8 := ⟨k.val, lt_of_lt_of_eq k.isLt trips_eq⟩

/-- The heads' blocks of the keys, of the weights, and the scratch's other slot. -/
def keyAt (x : Vec F S8x256x256 .bf16) (h : Fin 8) : Vec F S1x256x256 .bf16 := fun y => x (ix3 h (y 1) (y 2))
def wqAt (x : Vec F S8x1024x256 .bf16) (h : Fin 8) : Vec F S1x1024x256 .bf16 := fun y => x (ix3 h (y 1) (y 2))
def slotAt (x : Vec F S2x512x1024 .bf16) (s : Fin 2) : Vec F S1x512x1024 .bf16 := fun y => x (ix3 s (y 1) (y 2))
def qAt (x : Vec F S2x8x512x256 .bf16) (s : Fin 2) (h : Fin 8) : Vec F S1x1x512x256 .bf16 := fun y => x (ix4 s h (y 2) (y 3))

/-- The state before trip `k`, read at the buffers. -/
structure LoopAt (s s' : Fin 2) (x4 : Vec F S8x1024x256 .bf16) (x5 : Vec F S8x256x256 .bf16) (x11 : Vec F S2x512x1024 .bf16)
    (g12 : Vec F S2x8x512x256 .bf16) (k : ℕ) (y9 y10 : Vec F S8x128x512 .bf16) (y12 : Vec F S2x8x512x256 .bf16) : Prop where
  cur : ∀ h r e, y12 (ix4 s h r e) = g12 (ix4 s h r e)
  nxt : ∀ h : Fin 8, h.val < k → ∀ r e, y12 (ix4 s' h r e) = k0_pay19 (slotAt x11 s') (wqAt x4 h) (ix4 0 0 r e)
  rnk : ∀ h : Fin 8, h.val < k → ∀ n r, y9 (ix3 h n r) = k0_pay7 (r2Of (k0_pay21 (keyAt x5 h) (qAt g12 s h))) (ix3 0 n r)
  exq : ∀ h : Fin 8, h.val < k → ∀ n r, y10 (ix3 h n r) = k0_pay8 (e2Of (k0_pay21 (keyAt x5 h) (qAt g12 s h))) (ix3 0 n r)

set_option maxHeartbeats 1000000 in
theorem loop_at (𝒱 : Variants) (c : Dev nD) (bd : Option 𝒱.V) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024x256 .bf16) (harg4 : arg4.IsWhole) (arg5 : Memref sig .tc .vmem S8x256x256 .bf16) (harg5 : arg5.IsWhole) (arg6 : Memref sig .tc .vmem S512x1024 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S8x128x512 .bf16) (harg9 : arg9.IsWhole) (arg10 : Memref sig .tc .vmem S8x128x512 .bf16) (harg10 : arg10.IsWhole) (arg11 : Memref sig .tc .vmem S2x512x1024 .bf16) (harg11 : arg11.IsWhole) (arg12 : Memref sig .tc .vmem S2x8x512x256 .bf16) (harg12 : arg12.IsWhole) (v0 : BitVec 32) (v1 : BitVec 32) (v29 : IVec S8x512 32) (X_arg4 : BufTy.Contents (Elt F) arg4.view.ty) (X_arg5 : BufTy.Contents (Elt F) arg5.view.ty) (X_arg11 : BufTy.Contents (Elt F) arg11.view.ty) (G7 : BufTy.Contents (Elt F) arg7.view.ty) (G8 : BufTy.Contents (Elt F) arg8.view.ty) (G9 : BufTy.Contents (Elt F) arg9.view.ty) (G10 : BufTy.Contents (Elt F) arg10.view.ty) (G12 : BufTy.Contents (Elt F) arg12.view.ty)
    (s s' : Fin 2) (hs : s.val = (i 0).val % 2) (hs' : s'.val = 1 - (i 0).val % 2) (k : ℕ) (hk : k ≤ 8) :
    LoopAt s s' (arg4.view.read (Elt F) X_arg4) (arg5.view.read (Elt F) X_arg5) (arg11.view.read (Elt F) X_arg11) (arg12.view.read (Elt F) G12) k
      (arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 k).2.2.1))
      (arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 k).2.2.2.1))
      (arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 k).2.2.2.2)) := by
  induction k with
  | zero => exact ⟨fun _ _ _ => rfl, fun _ h => absurd h (Nat.not_lt_zero _), fun _ h => absurd h (Nat.not_lt_zero _), fun _ h => absurd h (Nat.not_lt_zero _)⟩
  | succ k ih =>
    have H := ih (by omega)
    have hk' : k < k0_t1_loop.trips := lt_of_lt_of_eq (show k < 8 by omega) trips_eq.symm
    have E := pb_k0_t1_succ (F := F) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 ⟨k, hk'⟩
    rw [show k + 1 = (⟨k, hk'⟩ : Fin k0_t1_loop.trips).val + 1 from rfl, E]
    revert H
    clear E
    generalize pb_k0_t1 (F := F) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 (⟨k, hk'⟩ : Fin k0_t1_loop.trips).val = pb
    intro H
    obtain ⟨p7, p8, p9, p10, p12⟩ := pb
    dsimp only at H ⊢
    rw [L9_eq, L10_eq, L12_eq]
    simp only [List.cons_append, List.nil_append]
    have o4 := k0_off4_eq i ⟨k, hk'⟩
    have o7 := k0_off7_eq i ⟨k, hk'⟩
    have o8 := k0_off8_eq ⟨k, hk'⟩
    have key : (View.readAt (Elt F) arg5.view (Rect.unit (s := S8x256x256) (k0_off3 ⟨k, hk'⟩) S1x256x256.size (k0_off3_inb ⟨k, hk'⟩)).toLoadRect X_arg5 : Vec F S1x256x256 .bf16)
        = keyAt (arg5.view.read (Elt F) X_arg5) ⟨k, by omega⟩ := by
      funext y
      refine congrArg (arg5.view.read (Elt F) X_arg5) (funext fun a => Fin.ext ?_)
      have o3 := k0_off3_eq ⟨k, hk'⟩
      match a with
      | 0 => refine Eq.trans (congrArg (· + 1 * (y 0).val) (congrFun o3 0)) ?_; show k + 1 * (y 0).val = k; have : (y 0).val < 1 := (y 0).isLt; omega
      | 1 => refine Eq.trans (congrArg (· + 1 * (y 1).val) (congrFun o3 1)) ?_; exact (Nat.zero_add _).trans (Nat.one_mul _)
      | 2 => refine Eq.trans (congrArg (· + 1 * (y 2).val) (congrFun o3 2)) ?_; exact (Nat.zero_add _).trans (Nat.one_mul _)
    have wq : (View.readAt (Elt F) arg4.view (Rect.unit (s := S8x1024x256) (k0_off6 ⟨k, hk'⟩) S1x1024x256.size (k0_off6_inb ⟨k, hk'⟩)).toLoadRect X_arg4 : Vec F S1x1024x256 .bf16)
        = wqAt (arg4.view.read (Elt F) X_arg4) ⟨k, by omega⟩ := by
      funext y
      refine congrArg (arg4.view.read (Elt F) X_arg4) (funext fun a => Fin.ext ?_)
      have o3 := k0_off6_eq ⟨k, hk'⟩
      match a with
      | 0 => refine Eq.trans (congrArg (· + 1 * (y 0).val) (congrFun o3 0)) ?_; show k + 1 * (y 0).val = k; have : (y 0).val < 1 := (y 0).isLt; omega
      | 1 => refine Eq.trans (congrArg (· + 1 * (y 1).val) (congrFun o3 1)) ?_; exact (Nat.zero_add _).trans (Nat.one_mul _)
      | 2 => refine Eq.trans (congrArg (· + 1 * (y 2).val) (congrFun o3 2)) ?_; exact (Nat.zero_add _).trans (Nat.one_mul _)
    have slt : (View.readAt (Elt F) arg11.view (Rect.unit (s := S2x512x1024) (k0_off5 i) S1x512x1024.size (k0_off5_inb i)).toLoadRect X_arg11 : Vec F S1x512x1024 .bf16)
        = slotAt (arg11.view.read (Elt F) X_arg11) s' := by
      funext y
      refine congrArg (arg11.view.read (Elt F) X_arg11) (funext fun a => Fin.ext ?_)
      have o3 := k0_off5_eq i
      match a with
      | 0 => refine Eq.trans (congrArg (· + 1 * (y 0).val) (congrFun o3 0)) ?_; show 1 - (i 0).val % 2 + 1 * (y 0).val = s'.val; have : (y 0).val < 1 := (y 0).isLt; omega
      | 1 => refine Eq.trans (congrArg (· + 1 * (y 1).val) (congrFun o3 1)) ?_; exact (Nat.zero_add _).trans (Nat.one_mul _)
      | 2 => refine Eq.trans (congrArg (· + 1 * (y 2).val) (congrFun o3 2)) ?_; exact (Nat.zero_add _).trans (Nat.one_mul _)
    have qry : (View.readAt (Elt F) arg12.view (Rect.unit (s := S2x8x512x256) (k0_off4 i ⟨k, hk'⟩) S1x1x512x256.size (k0_off4_inb i ⟨k, hk'⟩)).toLoadRect (arg12.view.writes (Elt F) G12 p12) : Vec F S1x1x512x256 .bf16)
        = qAt (arg12.view.read (Elt F) G12) s ⟨k, by omega⟩ := by
      funext y
      refine Eq.trans (congrArg (arg12.view.read (Elt F) (arg12.view.writes (Elt F) G12 p12)) (funext fun a => Fin.ext ?_)) (H.cur ⟨k, by omega⟩ (y 2) (y 3))
      match a with
      | 0 => refine Eq.trans (congrArg (· + 1 * (y 0).val) (congrFun o4 0)) ?_; show (i 0).val % 2 + 1 * (y 0).val = s.val; have : (y 0).val < 1 := (y 0).isLt; omega
      | 1 => refine Eq.trans (congrArg (· + 1 * (y 1).val) (congrFun o4 1)) ?_; show k + 1 * (y 1).val = k; have : (y 1).val < 1 := (y 1).isLt; omega
      | 2 => refine Eq.trans (congrArg (· + 1 * (y 2).val) (congrFun o4 2)) ?_; exact (Nat.zero_add _).trans (Nat.one_mul _)
      | 3 => refine Eq.trans (congrArg (· + 1 * (y 3).val) (congrFun o4 3)) ?_; exact (Nat.zero_add _).trans (Nat.one_mul _)
    rw [key, wq, slt, qry]
    refine ⟨fun h r e => ?_, fun h hh r e => ?_, fun h hh n r => ?_, fun h hh n r => ?_⟩
    · refine (View.read_writes_cons_unit_of_not_mem _ _ _ _ _ _ o7 0 ?_).trans (H.cur h r e)
      show s.val < 1 - (i 0).val % 2 ∨ 1 - (i 0).val % 2 + 1 ≤ s.val
      omega
    · by_cases e' : h.val = k
      · subst e'; simp only [Fin.eta]; generalize k0_pay19 (F := F) _ _ = w
        refine View.read_writes_cons_unit_of_mem arg12.view G12 (off := k0_off7 i ⟨h.val, hk'⟩) (off' := ![1 - (i 0).val % 2, h.val, 0, 0]) (size := S1x1x512x256.size) (k0_off7_inb i ⟨h.val, hk'⟩) w p12 (ix4 s' h r e) (ix4 0 0 r e) o7 ?_
        intro a
        match a with
        | 0 => show s'.val = 1 - (i 0).val % 2 + 0; omega
        | 1 => show h.val = h.val + 0; rfl
        | 2 => show r.val = 0 + r.val; omega
        | 3 => show e.val = 0 + e.val; omega
      · refine (View.read_writes_cons_unit_of_not_mem _ _ _ _ _ _ o7 1 ?_).trans (H.nxt h (by omega) r e)
        show h.val < k ∨ k + 1 ≤ h.val
        omega
    · by_cases e' : h.val = k
      · subst e'; simp only [Fin.eta]; generalize k0_pay7 (F := F) _ = w
        refine View.read_writes_cons_unit_of_mem arg9.view G9 (off := k0_off8 ⟨h.val, hk'⟩) (off' := ![h.val, 0, 0]) (size := S1x128x512.size) (k0_off8_inb ⟨h.val, hk'⟩) w p9 (ix3 h n r) (ix3 0 n r) o8 ?_
        intro a
        match a with
        | 0 => show h.val = h.val + 0; rfl
        | 1 => show n.val = 0 + n.val; omega
        | 2 => show r.val = 0 + r.val; omega
      · refine (View.read_writes_cons_unit_of_not_mem _ _ _ _ _ _ o8 0 ?_).trans (H.rnk h (by omega) n r)
        show h.val < k ∨ k + 1 ≤ h.val
        omega
    · by_cases e' : h.val = k
      · subst e'; simp only [Fin.eta]; generalize k0_pay8 (F := F) _ = w
        refine View.read_writes_cons_unit_of_mem arg10.view G10 (off := k0_off8 ⟨h.val, hk'⟩) (off' := ![h.val, 0, 0]) (size := S1x128x512.size) (k0_off8_inb ⟨h.val, hk'⟩) w p10 (ix3 h n r) (ix3 0 n r) o8 ?_
        intro a
        match a with
        | 0 => show h.val = h.val + 0; rfl
        | 1 => show n.val = 0 + n.val; omega
        | 2 => show r.val = 0 + r.val; omega
      · refine (View.read_writes_cons_unit_of_not_mem _ _ _ _ _ _ o8 0 ?_).trans (H.exq h (by omega) n r)
        show h.val < k ∨ k + 1 ≤ h.val
        omega

end Cert.RouteIdeal.Hand

end
-- ==== Proof.RouteVal.lean ====
/-
  The routing kernel's body at its values: from the scratch's current slot at a block's normed tokens and queries, it
  stores that block's results and leaves the next block's normed tokens and queries in the other slot.
-/
module

public import proofs.«01_k».proof.Proof.RouteIdealFrame
public import proofs.«01_k».proof.Proof.RouteLoop
public import proofs.«01_k».proof.Proof.Rows

@[expose] public section

set_option maxRecDepth 65536

noncomputable section

namespace Cert.RouteIdeal.Hand

open Cert.RouteIdeal Cert.RouteIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A block's normed tokens, and their queries. -/
def xnv (x : Vec Ideal S512x1024 .f32) (g : Vec Ideal S1x1024 .f32) : Fin 512 → Fin 1024 → EReal := fun r =>
  rms (fun k => x (ix2 r k)) (fun k => g (ix2 0 k))
def qv (X : Fin 512 → Fin 1024 → EReal) (w : Vec Ideal S8x1024x256 .bf16) : Fin 8 → Fin 512 → Fin 256 → EReal := fun h r e =>
  ∑ k, X r k * w (ix3 h k e)

/-- A slot of the scratch holds these. -/
structure CurAt (s : Fin 2) (X : Fin 512 → Fin 1024 → EReal) (Q : Fin 8 → Fin 512 → Fin 256 → EReal)
    (y11 : Vec Ideal S2x512x1024 .bf16) (y12 : Vec Ideal S2x8x512x256 .bf16) : Prop where
  x : ∀ r j, y11 (ix3 s r j) = X r j
  q : ∀ h r e, y12 (ix4 s h r e) = Q h r e

/-- The blocks stored from the tokens and from the queries. -/
def outX (X : Fin 512 → Fin 1024 → EReal) : Vec Ideal S512x1024 .bf16 := fun y => X (y 0) (y 1)
def qVec (Q : Fin 8 → Fin 512 → Fin 256 → EReal) (h : Fin 8) : Vec Ideal S1x1x512x256 .bf16 := fun y => Q h (y 2) (y 3)
def outR (x4 : Vec Ideal S8x256x256 .bf16) (Q : Fin 8 → Fin 512 → Fin 256 → EReal) : Vec Ideal S8x128x512 .bf16 := fun y =>
  k0_pay7 (F := Ideal) (r2Of (k0_pay21 (keyAt x4 (y 0)) (qVec Q (y 0)))) (ix3 0 (y 1) (y 2))
def outE (x4 : Vec Ideal S8x256x256 .bf16) (Q : Fin 8 → Fin 512 → Fin 256 → EReal) : Vec Ideal S8x128x512 .bf16 := fun y =>
  k0_pay8 (F := Ideal) (e2Of (k0_pay21 (keyAt x4 (y 0)) (qVec Q (y 0)))) (ix3 0 (y 1) (y 2))

theorem pay4_apply (x : Vec Ideal S512x1024 .f32) (g : Vec Ideal S1x1024 .f32) (r : Fin 512) (j : Fin 1024) :
    k0_pay4 (F := Ideal) x g (ix3 0 r j) = xnv x g r j := by
  pointwise [k0_pay4, xnv, rms]
theorem pay9_apply (x : Vec Ideal S512x1024 .f32) (g : Vec Ideal S1x1024 .f32) (r : Fin 512) (j : Fin 1024) :
    k0_pay9 (F := Ideal) x g (ix2 r j) = xnv x g r j := by
  pointwise [k0_pay9, xnv, rms]
theorem pay19_apply (x : Vec Ideal S1x512x1024 .bf16) (w : Vec Ideal S1x1024x256 .bf16) (r : Fin 512) (e : Fin 256) :
    k0_pay19 (F := Ideal) x w (ix4 0 0 r e) = ∑ k, x (ix3 0 r k) * w (ix3 0 k e) := by
  pointwise [k0_pay19]

theorem pay10_apply (x : Vec Ideal S512x1024 .f32) (g : Vec Ideal S1x1024 .f32) (r : Fin 512) (j : Fin 1024) :
    k0_pay10 (F := Ideal) x g (ix3 0 r j) = xnv x g r j := by
  refine Eq.trans ?_ (pay9_apply x g r j)
  unfold k0_pay10
  generalize k0_pay9 (F := Ideal) x g = y
  pointwise
theorem pay5_apply (v : Vec Ideal S1x512x1024 .bf16) (r : Fin 512) (j : Fin 1024) : k0_pay5 (F := Ideal) v (ix2 r j) = v (ix3 0 r j) := by
  pointwise [k0_pay5]

/-- Queries of a block's normed tokens, as the eight first stores form them. -/
def hq (y : FVec Ideal S512x1024 .bf16) (w : Vec Ideal S1x1024x256 .bf16) (r : Fin 512) (e : Fin 256) : EReal :=
  ∑ k, y (ix2 r k) * w (ix3 0 k e)
theorem pay11_apply (x : Vec Ideal S512x1024 .f32) (g : Vec Ideal S1x1024 .f32) (w : Vec Ideal S1x1024x256 .bf16) (r : Fin 512) (e : Fin 256) :
    k0_pay11 (F := Ideal) x g w (ix4 0 0 r e) = hq (k0_pay9 x g) w r e := by
  unfold k0_pay11
  generalize k0_pay9 (F := Ideal) x g = y
  pointwise [hq]
theorem pay13_apply (x : Vec Ideal S512x1024 .f32) (g : Vec Ideal S1x1024 .f32) (w : Vec Ideal S1x1024x256 .bf16) (r : Fin 512) (e : Fin 256) :
    k0_pay13 (F := Ideal) (k0_pay12 x g w) (ix4 0 0 r e) = hq (k0_pay9 x g) w r e := by
  unfold k0_pay12
  generalize k0_pay9 (F := Ideal) x g = y
  pointwise [k0_pay13, hq]
theorem pay14_apply (y : FVec Ideal S512x1024 .bf16) (w : Vec Ideal S1x1024x256 .bf16) (r : Fin 512) (e : Fin 256) :
    k0_pay14 (F := Ideal) y w (ix4 0 0 r e) = hq y w r e := by
  pointwise [k0_pay14, hq]
theorem pay15_apply (y : FVec Ideal S512x1024 .bf16) (w : Vec Ideal S1x1024x256 .bf16) (r : Fin 512) (e : Fin 256) :
    k0_pay15 (F := Ideal) y w (ix4 0 0 r e) = hq y w r e := by
  pointwise [k0_pay15, hq]
theorem pay16_apply (y : FVec Ideal S512x1024 .bf16) (w : Vec Ideal S1x1024x256 .bf16) (r : Fin 512) (e : Fin 256) :
    k0_pay16 (F := Ideal) y w (ix4 0 0 r e) = hq y w r e := by
  pointwise [k0_pay16, hq]
theorem pay1_apply (y : FVec Ideal S512x1024 .bf16) (w : Vec Ideal S1x1024x256 .bf16) (r : Fin 512) (e : Fin 256) :
    k0_pay1 (F := Ideal) (k0_pay17 y w) (ix4 0 0 r e) = hq y w r e := by
  pointwise [k0_pay1, k0_pay17, hq]
theorem pay2_apply (y : FVec Ideal S512x1024 .bf16) (w : Vec Ideal S1x1024x256 .bf16) (r : Fin 512) (e : Fin 256) :
    k0_pay2 (F := Ideal) y w (ix4 0 0 r e) = hq y w r e := by
  pointwise [k0_pay2, hq]
theorem pay3_apply (y : FVec Ideal S512x1024 .bf16) (w : Vec Ideal S1x1024x256 .bf16) (r : Fin 512) (e : Fin 256) :
    k0_pay3 (F := Ideal) y w (ix4 0 0 r e) = hq y w r e := by
  pointwise [k0_pay3, hq]

/-! ## Reads of whole buffers and of the weights' blocks -/

theorem rdx (a : Memref sig .tc .vmem S512x1024 .f32) (f : BufTy.Contents (Elt Ideal) a.view.ty) (inb) :
    (View.readAt (Elt Ideal) a.view (Rect.unit (s := S512x1024) ![0, 0] S512x1024.size inb).toLoadRect f : Vec Ideal S512x1024 .f32)
      = a.view.read (Elt Ideal) f := by
  funext y
  refine congrArg (a.view.read (Elt Ideal) f) (funext fun b => Fin.ext ?_)
  match b with
  | 0 => exact (Nat.zero_add _).trans (Nat.one_mul _)
  | 1 => exact (Nat.zero_add _).trans (Nat.one_mul _)
theorem rdg (a : Memref sig .tc .vmem S1x1024 .f32) (f : BufTy.Contents (Elt Ideal) a.view.ty) (inb) :
    (View.readAt (Elt Ideal) a.view (Rect.unit (s := S1x1024) ![0, 0] S1x1024.size inb).toLoadRect f : Vec Ideal S1x1024 .f32)
      = a.view.read (Elt Ideal) f := by
  funext y
  refine congrArg (a.view.read (Elt Ideal) f) (funext fun b => Fin.ext ?_)
  match b with
  | 0 => exact (Nat.zero_add _).trans (Nat.one_mul _)
  | 1 => exact (Nat.zero_add _).trans (Nat.one_mul _)
theorem rdw (a : Memref sig .tc .vmem S8x1024x256 .bf16) (f : BufTy.Contents (Elt Ideal) a.view.ty) (k : Fin 8) (off : Fin 3 → ℕ)
    (ho : off = ![k.val, 0, 0]) (inb) :
    (View.readAt (Elt Ideal) a.view (Rect.unit (s := S8x1024x256) off S1x1024x256.size inb).toLoadRect f : Vec Ideal S1x1024x256 .bf16)
      = wqAt (a.view.read (Elt Ideal) f) k := by
  subst ho
  funext y
  refine congrArg (a.view.read (Elt Ideal) f) (funext fun b => Fin.ext ?_)
  match b with
  | 0 => show k.val + 1 * (y 0).val = k.val; have : (y 0).val < 1 := (y 0).isLt; omega
  | 1 => exact (Nat.zero_add _).trans (Nat.one_mul _)
  | 2 => exact (Nat.zero_add _).trans (Nat.one_mul _)

/-! ## The scratch's tokens after the next block's are stored, and the block of tokens stored from it -/

theorem w11_ne (i : grid0.Coords) (a : Memref sig .tc .vmem S2x512x1024 .bf16) (g : BufTy.Contents (Elt Ideal) a.view.ty)
    (w : Vec Ideal S1x512x1024 .bf16) (L) (s : Fin 2) (hs : s.val = (i 0).val % 2) (r : Fin 512) (j : Fin 1024) :
    a.view.read (Elt Ideal) (a.view.writes (Elt Ideal) g (⟨Rect.unit (s := S2x512x1024) (k0_off1 i) S1x512x1024.size (k0_off1_inb i), w⟩ :: L)) (ix3 s r j)
      = a.view.read (Elt Ideal) (a.view.writes (Elt Ideal) g L) (ix3 s r j) := by
  refine View.read_writes_cons_unit_of_not_mem a.view g (off := k0_off1 i) (off' := ![1 - (i 0).val % 2, 0, 0]) (size := S1x512x1024.size) (k0_off1_inb i) w L (ix3 s r j) (k0_off1_eq i) 0 ?_
  show s.val < 1 - (i 0).val % 2 ∨ 1 - (i 0).val % 2 + 1 ≤ s.val
  omega
theorem w11_eq (i : grid0.Coords) (a : Memref sig .tc .vmem S2x512x1024 .bf16) (g : BufTy.Contents (Elt Ideal) a.view.ty)
    (w : Vec Ideal S1x512x1024 .bf16) (L) (s' : Fin 2) (hs : s'.val = 1 - (i 0).val % 2) (r : Fin 512) (j : Fin 1024) :
    a.view.read (Elt Ideal) (a.view.writes (Elt Ideal) g (⟨Rect.unit (s := S2x512x1024) (k0_off1 i) S1x512x1024.size (k0_off1_inb i), w⟩ :: L)) (ix3 s' r j)
      = w (ix3 0 r j) := by
  refine View.read_writes_cons_unit_of_mem a.view g (off := k0_off1 i) (off' := ![1 - (i 0).val % 2, 0, 0]) (size := S1x512x1024.size) (k0_off1_inb i) w L (ix3 s' r j) (ix3 0 r j) (k0_off1_eq i) ?_
  intro b
  match b with
  | 0 => show s'.val = 1 - (i 0).val % 2 + 0; omega
  | 1 => show r.val = 0 + r.val; omega
  | 2 => show j.val = 0 + j.val; omega
theorem w11_first (a : Memref sig .tc .vmem S2x512x1024 .bf16) (g : BufTy.Contents (Elt Ideal) a.view.ty) (inb)
    (w : Vec Ideal S1x512x1024 .bf16) (L) (r : Fin 512) (j : Fin 1024) :
    a.view.read (Elt Ideal) (a.view.writes (Elt Ideal) g (⟨Rect.unit (s := S2x512x1024) ![0, 0, 0] S1x512x1024.size inb, w⟩ :: L)) (ix3 0 r j)
      = w (ix3 0 r j) := by
  refine View.read_writes_cons_unit_of_mem a.view g (off := ![0, 0, 0]) (off' := ![0, 0, 0]) (size := S1x512x1024.size) inb w L (ix3 0 r j) (ix3 0 r j) rfl ?_
  intro b
  match b with
  | 0 => rfl
  | 1 => show r.val = 0 + r.val; omega
  | 2 => show j.val = 0 + j.val; omega

theorem out6 (i : grid0.Coords) (a6 : Memref sig .tc .vmem S512x1024 .bf16) (a : Memref sig .tc .vmem S2x512x1024 .bf16)
    (f : BufTy.Contents (Elt Ideal) a6.view.ty) (W : BufTy.Contents (Elt Ideal) a.view.ty) (inb)
    (s : Fin 2) (hs : s.val = (i 0).val % 2) (X : Fin 512 → Fin 1024 → EReal)
    (hC : ∀ r j, a.view.read (Elt Ideal) W (ix3 s r j) = X r j) :
    a6.view.read (Elt Ideal) (a6.view.writes (Elt Ideal) f [⟨Rect.unit (s := S512x1024) ![0, 0] S512x1024.size inb,
      k0_pay5 (F := Ideal) (View.readAt (Elt Ideal) a.view (Rect.unit (s := S2x512x1024) (k0_off2 i) S1x512x1024.size (k0_off2_inb i)).toLoadRect W)⟩]) = outX X := by
  funext y
  idx_vars y
  refine (View.read_writes_cons_unit_of_mem a6.view f (off := ![0, 0]) (off' := ![0, 0]) (size := S512x1024.size) inb _ [] (ix2 y0 y1) (ix2 y0 y1) rfl ?_).trans ?_
  · intro b
    match b with
    | 0 => show y0.val = 0 + y0.val; omega
    | 1 => show y1.val = 0 + y1.val; omega
  refine (pay5_apply _ y0 y1).trans ((congrArg (a.view.read (Elt Ideal) W) (funext fun b => Fin.ext ?_)).trans (hC y0 y1))
  have o := k0_off2_eq i
  match b with
  | 0 => refine Eq.trans (congrArg (· + 1 * 0) (congrFun o 0)) ?_; show (i 0).val % 2 + 1 * 0 = s.val; omega
  | 1 => refine Eq.trans (congrArg (· + 1 * y0.val) (congrFun o 1)) ?_; exact (Nat.zero_add _).trans (Nat.one_mul _)
  | 2 => refine Eq.trans (congrArg (· + 1 * y1.val) (congrFun o 2)) ?_; exact (Nat.zero_add _).trans (Nat.one_mul _)

/-! ## The scratch's queries after the eight first stores -/

theorem q_ne (a : Memref sig .tc .vmem S2x8x512x256 .bf16) (g : BufTy.Contents (Elt Ideal) a.view.ty) (j : Fin 8) (inb)
    (w : Vec Ideal S1x1x512x256 .bf16) (L) (h : Fin 8) (hn : h ≠ j) (r : Fin 512) (e : Fin 256) :
    a.view.read (Elt Ideal) (a.view.writes (Elt Ideal) g (⟨Rect.unit (s := S2x8x512x256) ![0, j.val, 0, 0] S1x1x512x256.size inb, w⟩ :: L)) (ix4 0 h r e)
      = a.view.read (Elt Ideal) (a.view.writes (Elt Ideal) g L) (ix4 0 h r e) := by
  refine View.read_writes_cons_unit_of_not_mem a.view g (off := ![0, j.val, 0, 0]) (off' := ![0, j.val, 0, 0]) (size := S1x1x512x256.size) inb w L (ix4 0 h r e) rfl 1 ?_
  show h.val < j.val ∨ j.val + 1 ≤ h.val
  have := Fin.val_ne_of_ne hn
  omega
theorem q_eq (a : Memref sig .tc .vmem S2x8x512x256 .bf16) (g : BufTy.Contents (Elt Ideal) a.view.ty) (j : Fin 8) (inb)
    (w : Vec Ideal S1x1x512x256 .bf16) (L) (r : Fin 512) (e : Fin 256) :
    a.view.read (Elt Ideal) (a.view.writes (Elt Ideal) g (⟨Rect.unit (s := S2x8x512x256) ![0, j.val, 0, 0] S1x1x512x256.size inb, w⟩ :: L)) (ix4 0 j r e)
      = w (ix4 0 0 r e) := by
  refine View.read_writes_cons_unit_of_mem a.view g (off := ![0, j.val, 0, 0]) (off' := ![0, j.val, 0, 0]) (size := S1x1x512x256.size) inb w L (ix4 0 j r e) (ix4 0 0 r e) rfl ?_
  intro b
  match b with
  | 0 => rfl
  | 1 => show j.val = j.val + 0; rfl
  | 2 => show r.val = 0 + r.val; omega
  | 3 => show e.val = 0 + e.val; omega

/-- Eight stores, one per head, leave each head's rows. -/
theorem read_heads (a : Memref sig .tc .vmem S2x8x512x256 .bf16) (g : BufTy.Contents (Elt Ideal) a.view.ty) (b0) (b1) (b2) (b3) (b4) (b5) (b6) (b7)
    (p0 p1 p2 p3 p4 p5 p6 p7 : Vec Ideal S1x1x512x256 .bf16) (P : Fin 8 → Fin 512 → Fin 256 → EReal)
    (h0 : ∀ r e, p0 (ix4 0 0 r e) = P 0 r e) (h1 : ∀ r e, p1 (ix4 0 0 r e) = P 1 r e) (h2 : ∀ r e, p2 (ix4 0 0 r e) = P 2 r e) (h3 : ∀ r e, p3 (ix4 0 0 r e) = P 3 r e) (h4 : ∀ r e, p4 (ix4 0 0 r e) = P 4 r e) (h5 : ∀ r e, p5 (ix4 0 0 r e) = P 5 r e) (h6 : ∀ r e, p6 (ix4 0 0 r e) = P 6 r e) (h7 : ∀ r e, p7 (ix4 0 0 r e) = P 7 r e)
    (h : Fin 8) (r : Fin 512) (e : Fin 256) :
    a.view.read (Elt Ideal) (a.view.writes (Elt Ideal) g [⟨Rect.unit (s := S2x8x512x256) ![0, 7, 0, 0] S1x1x512x256.size b7, p7⟩, ⟨Rect.unit (s := S2x8x512x256) ![0, 6, 0, 0] S1x1x512x256.size b6, p6⟩, ⟨Rect.unit (s := S2x8x512x256) ![0, 5, 0, 0] S1x1x512x256.size b5, p5⟩, ⟨Rect.unit (s := S2x8x512x256) ![0, 4, 0, 0] S1x1x512x256.size b4, p4⟩, ⟨Rect.unit (s := S2x8x512x256) ![0, 3, 0, 0] S1x1x512x256.size b3, p3⟩, ⟨Rect.unit (s := S2x8x512x256) ![0, 2, 0, 0] S1x1x512x256.size b2, p2⟩, ⟨Rect.unit (s := S2x8x512x256) ![0, 1, 0, 0] S1x1x512x256.size b1, p1⟩, ⟨Rect.unit (s := S2x8x512x256) ![0, 0, 0, 0] S1x1x512x256.size b0, p0⟩]) (ix4 0 h r e) = P h r e := by
  match h with
  | 0 => exact (q_ne a g 7 b7 p7 _ 0 (by decide) r e).trans ((q_ne a g 6 b6 p6 _ 0 (by decide) r e).trans ((q_ne a g 5 b5 p5 _ 0 (by decide) r e).trans ((q_ne a g 4 b4 p4 _ 0 (by decide) r e).trans ((q_ne a g 3 b3 p3 _ 0 (by decide) r e).trans ((q_ne a g 2 b2 p2 _ 0 (by decide) r e).trans ((q_ne a g 1 b1 p1 _ 0 (by decide) r e).trans ((q_eq a g 0 b0 p0 _ r e).trans (h0 r e))))))))
  | 1 => exact (q_ne a g 7 b7 p7 _ 1 (by decide) r e).trans ((q_ne a g 6 b6 p6 _ 1 (by decide) r e).trans ((q_ne a g 5 b5 p5 _ 1 (by decide) r e).trans ((q_ne a g 4 b4 p4 _ 1 (by decide) r e).trans ((q_ne a g 3 b3 p3 _ 1 (by decide) r e).trans ((q_ne a g 2 b2 p2 _ 1 (by decide) r e).trans ((q_eq a g 1 b1 p1 _ r e).trans (h1 r e)))))))
  | 2 => exact (q_ne a g 7 b7 p7 _ 2 (by decide) r e).trans ((q_ne a g 6 b6 p6 _ 2 (by decide) r e).trans ((q_ne a g 5 b5 p5 _ 2 (by decide) r e).trans ((q_ne a g 4 b4 p4 _ 2 (by decide) r e).trans ((q_ne a g 3 b3 p3 _ 2 (by decide) r e).trans ((q_eq a g 2 b2 p2 _ r e).trans (h2 r e))))))
  | 3 => exact (q_ne a g 7 b7 p7 _ 3 (by decide) r e).trans ((q_ne a g 6 b6 p6 _ 3 (by decide) r e).trans ((q_ne a g 5 b5 p5 _ 3 (by decide) r e).trans ((q_ne a g 4 b4 p4 _ 3 (by decide) r e).trans ((q_eq a g 3 b3 p3 _ r e).trans (h3 r e)))))
  | 4 => exact (q_ne a g 7 b7 p7 _ 4 (by decide) r e).trans ((q_ne a g 6 b6 p6 _ 4 (by decide) r e).trans ((q_ne a g 5 b5 p5 _ 4 (by decide) r e).trans ((q_eq a g 4 b4 p4 _ r e).trans (h4 r e))))
  | 5 => exact (q_ne a g 7 b7 p7 _ 5 (by decide) r e).trans ((q_ne a g 6 b6 p6 _ 5 (by decide) r e).trans ((q_eq a g 5 b5 p5 _ r e).trans (h5 r e)))
  | 6 => exact (q_ne a g 7 b7 p7 _ 6 (by decide) r e).trans ((q_eq a g 6 b6 p6 _ r e).trans (h6 r e))
  | 7 => exact (q_eq a g 7 b7 p7 _ r e).trans (h7 r e)

/-- What the whole loop leaves, from the scratch's slots. -/
theorem outs (𝒱 : Variants) (c : Dev nD) (bd : Option 𝒱.V) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024x256 .bf16) (harg4 : arg4.IsWhole) (arg5 : Memref sig .tc .vmem S8x256x256 .bf16) (harg5 : arg5.IsWhole) (arg6 : Memref sig .tc .vmem S512x1024 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S8x128x512 .bf16) (harg9 : arg9.IsWhole) (arg10 : Memref sig .tc .vmem S8x128x512 .bf16) (harg10 : arg10.IsWhole) (arg11 : Memref sig .tc .vmem S2x512x1024 .bf16) (harg11 : arg11.IsWhole) (arg12 : Memref sig .tc .vmem S2x8x512x256 .bf16) (harg12 : arg12.IsWhole) (v0 : BitVec 32) (v1 : BitVec 32) (v29 : IVec S8x512 32) (X_arg4 : BufTy.Contents (Elt Ideal) arg4.view.ty) (X_arg5 : BufTy.Contents (Elt Ideal) arg5.view.ty) (X_arg11 : BufTy.Contents (Elt Ideal) arg11.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) (G12 : BufTy.Contents (Elt Ideal) arg12.view.ty)
    (s s' : Fin 2) (hs : s.val = (i 0).val % 2) (hs' : s'.val = 1 - (i 0).val % 2)
    (Q : Fin 8 → Fin 512 → Fin 256 → EReal) (Y : Fin 512 → Fin 1024 → EReal)
    (hQ : ∀ h r e, arg12.view.read (Elt Ideal) G12 (ix4 s h r e) = Q h r e)
    (hY : ∀ r j, arg11.view.read (Elt Ideal) X_arg11 (ix3 s' r j) = Y r j) :
    arg9.view.read (Elt Ideal) (arg9.view.writes (Elt Ideal) G9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 (Scf.trips k0_t1_loop.lb k0_t1_loop.ub k0_t1_loop.st)).2.2.1) = outR (arg5.view.read (Elt Ideal) X_arg5) Q
    ∧ arg10.view.read (Elt Ideal) (arg10.view.writes (Elt Ideal) G10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 (Scf.trips k0_t1_loop.lb k0_t1_loop.ub k0_t1_loop.st)).2.2.2.1) = outE (arg5.view.read (Elt Ideal) X_arg5) Q
    ∧ CurAt s' Y (qv Y (arg4.view.read (Elt Ideal) X_arg4)) (arg11.view.read (Elt Ideal) X_arg11)
        (arg12.view.read (Elt Ideal) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 (Scf.trips k0_t1_loop.lb k0_t1_loop.ub k0_t1_loop.st)).2.2.2.2)) := by
  have H := loop_at (F := Ideal) 𝒱 c bd i arg1 harg1 arg2 harg2 arg3 harg3 arg4 harg4 arg5 harg5 arg6 harg6 arg7 harg7 arg8 harg8 arg9 harg9 arg10 harg10 arg11 harg11 arg12 harg12 v0 v1 v29 X_arg4 X_arg5 X_arg11 G7 G8 G9 G10 G12 s s' hs hs' 8 le_rfl
  have e8 : (8 : ℕ) = Scf.trips k0_t1_loop.lb k0_t1_loop.ub k0_t1_loop.st := trips_eq.symm
  rw [e8] at H
  have hq (h : Fin 8) : qAt (arg12.view.read (Elt Ideal) G12) s h = qVec Q h := funext fun y => hQ h (y 2) (y 3)
  refine ⟨funext fun y => ?_, funext fun y => ?_, ⟨hY, fun h r e => ?_⟩⟩
  · idx_vars y
    have := H.rnk y0 (lt_of_lt_of_eq y0.isLt e8) y1 y2
    rw [hq] at this
    exact this
  · idx_vars y
    have := H.exq y0 (lt_of_lt_of_eq y0.isLt e8) y1 y2
    rw [hq] at this
    exact this
  · refine (H.nxt h (lt_of_lt_of_eq h.isLt e8) r e).trans ((pay19_apply _ _ r e).trans ?_)
    exact Finset.sum_congr rfl fun k _ => congrArg₂ (· * ·) (hY r k) rfl

theorem hq_eq (a1 : Memref sig .tc .vmem S512x1024 .f32) (a3 : Memref sig .tc .vmem S1x1024 .f32) (a4 : Memref sig .tc .vmem S8x1024x256 .bf16)
    (f0 : BufTy.Contents (Elt Ideal) a1.view.ty) (f2 : BufTy.Contents (Elt Ideal) a3.view.ty) (f3 : BufTy.Contents (Elt Ideal) a4.view.ty)
    (k : Fin 8) (b1 b3 b4) (r : Fin 512) (e : Fin 256) :
    hq (k0_pay9 (F := Ideal) (View.readAt (Elt Ideal) a1.view (Rect.unit (s := S512x1024) ![0, 0] S512x1024.size b1).toLoadRect f0)
        (View.readAt (Elt Ideal) a3.view (Rect.unit (s := S1x1024) ![0, 0] S1x1024.size b3).toLoadRect f2))
      (View.readAt (Elt Ideal) a4.view (Rect.unit (s := S8x1024x256) ![k.val, 0, 0] S1x1024x256.size b4).toLoadRect f3) r e
      = qv (xnv (a1.view.read (Elt Ideal) f0) (a3.view.read (Elt Ideal) f2)) (a4.view.read (Elt Ideal) f3) k r e := by
  rw [rdx, rdg, rdw a4 f3 k _ rfl]
  exact Finset.sum_congr rfl fun j _ => congrArg₂ (· * ·) (pay9_apply _ _ r j) rfl

theorem run_val  (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024x256 .bf16) (harg4 : arg4.IsWhole) (arg5 : Memref sig .tc .vmem S8x256x256 .bf16) (harg5 : arg5.IsWhole) (arg6 : Memref sig .tc .vmem S512x1024 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S8x128x512 .bf16) (harg9 : arg9.IsWhole) (arg10 : Memref sig .tc .vmem S8x128x512 .bf16) (harg10 : arg10.IsWhole) (arg11 : Memref sig .tc .vmem S2x512x1024 .bf16) (harg11 : arg11.IsWhole) (arg12 : Memref sig .tc .vmem S2x8x512x256 .bf16) (harg12 : arg12.IsWhole)
    (x0 x1 : Vec Ideal S512x1024 .f32) (x2 : Vec Ideal S1x1024 .f32) (x3 : Vec Ideal S8x1024x256 .bf16) (x4 : Vec Ideal S8x256x256 .bf16)
    (e0 : Vec Ideal S2x512x1024 .bf16) (e1 : Vec Ideal S2x8x512x256 .bf16)
    (s s' : Fin 2) (hs : s.val = (i 0).val % 2) (hs' : s'.val = 1 - (i 0).val % 2)
    (X : Fin 512 → Fin 1024 → EReal) (Q : Fin 8 → Fin 512 → Fin 256 → EReal)
    (hcur : ¬cond i → CurAt s X Q e0 e1)
    (hnew : cond i → s = 0 ∧ X = xnv x0 x2 ∧ Q = qv (xnv x0 x2) x3)
    (E : Set ℕ) (K : PUnit → sProp (MR Ideal)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare e0 ∗ owns (c : Thread nD τ) arg12 fullShare e1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (outX X) ∗ (∃ d, owns (c : Thread nD τ) arg7 fullShare d) ∗ (∃ d, owns (c : Thread nD τ) arg8 fullShare d) ∗ owns (c : Thread nD τ) arg9 fullShare (outR x4 Q) ∗ owns (c : Thread nD τ) arg10 fullShare (outE x4 Q)
        ∗ (∃ d d', iprop(⌜CurAt s' (xnv x1 x2) (qv (xnv x1 x2) x3) d d'⌝ ∗ owns (c : Thread nD τ) arg11 fullShare d ∗ owns (c : Thread nD τ) arg12 fullShare d'))) -∗ K ⟨⟩))
      ⊢ wp Idealize.ShloMosaic.frame (wpE (defs₀ (F := Ideal)) Variants.none c none) E (cc0_peer_route i arg1 harg1 arg2 harg2 arg3 harg3 arg4 harg4 arg5 harg5 arg6 harg6 arg7 harg7 arg8 harg8 arg9 harg9 arg10 harg10 arg11 harg11 arg12 harg12) K := by
  by_cases hc : cond i
  · obtain ⟨rfl, rfl, rfl⟩ := hnew hc
    simp only [cc0_peer_route_eq_skeleton]; unfold cc0_peer_route_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%g0, %hg0, HS0⟩, ⟨%g1, %hg1, HS1⟩, Hk⟩
    subst hf0 hf1 hf2 hf3 hf4 hg0 hg1
    sl_exec (disch := first | sl_exact hc)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro
      unfold run_val.sl.H5_1 run_val.sl.HS0_2
      exact out6 i arg6 arg11 _ _ _ 0 hs _ (fun r j => (w11_ne i arg11 g0 _ _ 0 hs r j).trans ((w11_first arg11 g0 _ _ _ r j).trans ((pay10_apply _ _ r j).trans (congrFun (congrFun (congrArg₂ xnv (rdx _ _ _) (rdg _ _ _)) r) j))))
    isplitl [H6]
    · iexists _, _; isplitr; swap; · iexact H6
      ipureintro; rfl
    isplitl [H7]
    · iexists _, _; isplitr; swap; · iexact H7
      ipureintro; rfl
    isplitl [H8]
    · iexists _; isplitr; swap; · iexact H8
      ipureintro
      unfold run_val.sl.HS0_2 run_val.sl.r_1 run_val.sl.r_2 run_val.sl.r
      exact (outs _ _ _ _ _ _ _ _ _ _ _ _ _ _ _ _ _ _ _ _ _ _ _ _ _ _ _ _ _ _ _ _ _ _ _ _ _ _ _ 0 s' hs hs' (qv (xnv (arg1.view.read (Elt Ideal) f0) (arg3.view.read (Elt Ideal) f2)) (arg4.view.read (Elt Ideal) f3)) (xnv (arg2.view.read (Elt Ideal) f1) (arg3.view.read (Elt Ideal) f2)) (fun h r e => read_heads arg12 g1 _ _ _ _ _ _ _ _ _ _ _ _ _ _ _ _ _ (fun r e => (pay11_apply _ _ _ r e).trans (hq_eq arg1 arg3 arg4 f0 f2 f3 0 _ _ _ r e)) (fun r e => (pay13_apply _ _ _ r e).trans (hq_eq arg1 arg3 arg4 f0 f2 f3 1 _ _ _ r e)) (fun r e => (pay14_apply _ _ r e).trans (hq_eq arg1 arg3 arg4 f0 f2 f3 2 _ _ _ r e)) (fun r e => (pay15_apply _ _ r e).trans (hq_eq arg1 arg3 arg4 f0 f2 f3 3 _ _ _ r e)) (fun r e => (pay16_apply _ _ r e).trans (hq_eq arg1 arg3 arg4 f0 f2 f3 4 _ _ _ r e)) (fun r e => (pay1_apply _ _ r e).trans (hq_eq arg1 arg3 arg4 f0 f2 f3 5 _ _ _ r e)) (fun r e => (pay2_apply _ _ r e).trans (hq_eq arg1 arg3 arg4 f0 f2 f3 6 _ _ _ r e)) (fun r e => (pay3_apply _ _ r e).trans (hq_eq arg1 arg3 arg4 f0 f2 f3 7 _ _ _ r e)) h r e) (fun r j => (w11_eq i arg11 g0 _ _ s' hs' r j).trans ((pay4_apply _ _ r j).trans (congrFun (congrFun (congrArg₂ xnv (rdx _ _ _) (rdg _ _ _)) r) j)))).1
    isplitl [H9]
    · iexists _; isplitr; swap; · iexact H9
      ipureintro
      unfold run_val.sl.HS0_2 run_val.sl.r_1 run_val.sl.r_2 run_val.sl.r
      exact (outs _ _ _ _ _ _ _ _ _ _ _ _ _ _ _ _ _ _ _ _ _ _ _ _ _ _ _ _ _ _ _ _ _ _ _ _ _ _ _ 0 s' hs hs' (qv (xnv (arg1.view.read (Elt Ideal) f0) (arg3.view.read (Elt Ideal) f2)) (arg4.view.read (Elt Ideal) f3)) (xnv (arg2.view.read (Elt Ideal) f1) (arg3.view.read (Elt Ideal) f2)) (fun h r e => read_heads arg12 g1 _ _ _ _ _ _ _ _ _ _ _ _ _ _ _ _ _ (fun r e => (pay11_apply _ _ _ r e).trans (hq_eq arg1 arg3 arg4 f0 f2 f3 0 _ _ _ r e)) (fun r e => (pay13_apply _ _ _ r e).trans (hq_eq arg1 arg3 arg4 f0 f2 f3 1 _ _ _ r e)) (fun r e => (pay14_apply _ _ r e).trans (hq_eq arg1 arg3 arg4 f0 f2 f3 2 _ _ _ r e)) (fun r e => (pay15_apply _ _ r e).trans (hq_eq arg1 arg3 arg4 f0 f2 f3 3 _ _ _ r e)) (fun r e => (pay16_apply _ _ r e).trans (hq_eq arg1 arg3 arg4 f0 f2 f3 4 _ _ _ r e)) (fun r e => (pay1_apply _ _ r e).trans (hq_eq arg1 arg3 arg4 f0 f2 f3 5 _ _ _ r e)) (fun r e => (pay2_apply _ _ r e).trans (hq_eq arg1 arg3 arg4 f0 f2 f3 6 _ _ _ r e)) (fun r e => (pay3_apply _ _ r e).trans (hq_eq arg1 arg3 arg4 f0 f2 f3 7 _ _ _ r e)) h r e) (fun r j => (w11_eq i arg11 g0 _ _ s' hs' r j).trans ((pay4_apply _ _ r j).trans (congrFun (congrFun (congrArg₂ xnv (rdx _ _ _) (rdg _ _ _)) r) j)))).2.1
    iexists _, _
    isplitr; swap
    · isplitl [HS0]
      · iexists _; isplitr; swap; · iexact HS0
        ipureintro; rfl
      · iexists _; isplitr; swap; · iexact HS1
        ipureintro; rfl
    ipureintro
    unfold run_val.sl.HS0_2 run_val.sl.r_1 run_val.sl.r_2 run_val.sl.r
    rw [View.writes_append]
    exact (outs _ _ _ _ _ _ _ _ _ _ _ _ _ _ _ _ _ _ _ _ _ _ _ _ _ _ _ _ _ _ _ _ _ _ _ _ _ _ _ 0 s' hs hs' (qv (xnv (arg1.view.read (Elt Ideal) f0) (arg3.view.read (Elt Ideal) f2)) (arg4.view.read (Elt Ideal) f3)) (xnv (arg2.view.read (Elt Ideal) f1) (arg3.view.read (Elt Ideal) f2)) (fun h r e => read_heads arg12 g1 _ _ _ _ _ _ _ _ _ _ _ _ _ _ _ _ _ (fun r e => (pay11_apply _ _ _ r e).trans (hq_eq arg1 arg3 arg4 f0 f2 f3 0 _ _ _ r e)) (fun r e => (pay13_apply _ _ _ r e).trans (hq_eq arg1 arg3 arg4 f0 f2 f3 1 _ _ _ r e)) (fun r e => (pay14_apply _ _ r e).trans (hq_eq arg1 arg3 arg4 f0 f2 f3 2 _ _ _ r e)) (fun r e => (pay15_apply _ _ r e).trans (hq_eq arg1 arg3 arg4 f0 f2 f3 3 _ _ _ r e)) (fun r e => (pay16_apply _ _ r e).trans (hq_eq arg1 arg3 arg4 f0 f2 f3 4 _ _ _ r e)) (fun r e => (pay1_apply _ _ r e).trans (hq_eq arg1 arg3 arg4 f0 f2 f3 5 _ _ _ r e)) (fun r e => (pay2_apply _ _ r e).trans (hq_eq arg1 arg3 arg4 f0 f2 f3 6 _ _ _ r e)) (fun r e => (pay3_apply _ _ r e).trans (hq_eq arg1 arg3 arg4 f0 f2 f3 7 _ _ _ r e)) h r e) (fun r j => (w11_eq i arg11 g0 _ _ s' hs' r j).trans ((pay4_apply _ _ r j).trans (congrFun (congrFun (congrArg₂ xnv (rdx _ _ _) (rdg _ _ _)) r) j)))).2.2
  · simp only [cc0_peer_route_eq_skeleton]; unfold cc0_peer_route_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%g0, %hg0, HS0⟩, ⟨%g1, %hg1, HS1⟩, Hk⟩
    subst hf0 hf1 hf2 hf3 hf4 hg0 hg1
    sl_exec (disch := first | sl_exact hc)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro
      unfold run_val.sl.H5_1_1 run_val.sl.HS0_1
      exact out6 i arg6 arg11 _ _ _ s hs _ (fun r j => (w11_ne i arg11 g0 _ _ s hs r j).trans ((hcur hc).x r j))
    isplitl [H6]
    · iexists _, _; isplitr; swap; · iexact H6
      ipureintro; rfl
    isplitl [H7]
    · iexists _, _; isplitr; swap; · iexact H7
      ipureintro; rfl
    isplitl [H8]
    · iexists _; isplitr; swap; · iexact H8
      ipureintro
      unfold run_val.sl.HS0_1
      exact (outs _ _ _ _ _ _ _ _ _ _ _ _ _ _ _ _ _ _ _ _ _ _ _ _ _ _ _ _ _ _ _ _ _ _ _ _ _ _ _ s s' hs hs' Q (xnv (arg2.view.read (Elt Ideal) f1) (arg3.view.read (Elt Ideal) f2)) (fun h r e => (hcur hc).q h r e) (fun r j => (w11_eq i arg11 g0 _ _ s' hs' r j).trans ((pay4_apply _ _ r j).trans (congrFun (congrFun (congrArg₂ xnv (rdx _ _ _) (rdg _ _ _)) r) j)))).1
    isplitl [H9]
    · iexists _; isplitr; swap; · iexact H9
      ipureintro
      unfold run_val.sl.HS0_1
      exact (outs _ _ _ _ _ _ _ _ _ _ _ _ _ _ _ _ _ _ _ _ _ _ _ _ _ _ _ _ _ _ _ _ _ _ _ _ _ _ _ s s' hs hs' Q (xnv (arg2.view.read (Elt Ideal) f1) (arg3.view.read (Elt Ideal) f2)) (fun h r e => (hcur hc).q h r e) (fun r j => (w11_eq i arg11 g0 _ _ s' hs' r j).trans ((pay4_apply _ _ r j).trans (congrFun (congrFun (congrArg₂ xnv (rdx _ _ _) (rdg _ _ _)) r) j)))).2.1
    iexists _, _
    isplitr; swap
    · isplitl [HS0]
      · iexists _; isplitr; swap; · iexact HS0
        ipureintro; rfl
      · iexists _; isplitr; swap; · iexact HS1
        ipureintro; rfl
    ipureintro
    unfold run_val.sl.HS0_1
    exact (outs _ _ _ _ _ _ _ _ _ _ _ _ _ _ _ _ _ _ _ _ _ _ _ _ _ _ _ _ _ _ _ _ _ _ _ _ _ _ _ s s' hs hs' Q (xnv (arg2.view.read (Elt Ideal) f1) (arg3.view.read (Elt Ideal) f2)) (fun h r e => (hcur hc).q h r e) (fun r j => (w11_eq i arg11 g0 _ _ s' hs' r j).trans ((pay4_apply _ _ r j).trans (congrFun (congrFun (congrArg₂ xnv (rdx _ _ _) (rdg _ _ _)) r) j)))).2.2

end Cert.RouteIdeal.Hand

end
-- ==== Proof.RouteSem.lean ====
/-
  What the routing kernel's loop stores of the scores: each score's rank is the number of greater scores, sixteen at
  most, and the exponentials are taken of the scores less the greatest.
-/
module

public import proofs.«01_k».proof.Proof.RouteSort
public import proofs.«01_k».proof.Proof.RouteVal
public import Idealize.ShloMosaic.Lib.KernelVsHost

@[expose] public section

set_option maxRecDepth 65536

noncomputable section

namespace Cert.RouteIdeal.Hand

open Cert.RouteIdeal Cert.RouteIdeal.Gen Cert.Rows
open Idealize.ShloMosaic Idealize.ShloMosaic.TcCoe Idealize.ShloMosaic.Tactic

/-- How many of a column's 128 scores exceed `t`. -/
def hits (s : FVec Ideal S16x8x512 .f32) (r : Fin 512) (t : EReal) : ℕ :=
  ∑ b : Fin 8, ∑ i : Fin 16, (decide (t < s (ix3 i b r))).toNat

theorem row_apply (s : FVec Ideal S16x8x512 .f32) (n : Fin 16) (b : Fin 8) (r : Fin 512) : row s n (ix2 b r) = s (ix3 n b r) := by
  unfold row
  pointwise

/-- The place `d` before `b` of the eight, around the end. -/
def back (d : ℕ) (b : Fin 8) : Fin 8 := ⟨(b.val + 8 - d % 8) % 8, Nat.mod_lt _ (by decide)⟩

theorem rot_apply (d : ℕ) (hd : d = 1 ∨ d = 2 ∨ d = 4) (v : FVec Ideal S8x512 .f32) (b : Fin 8) (r : Fin 512) :
    dynamicRotate 0 (BitVec.ofNat 32 d) none v rotates_S8x512_d0 (ix2 b r) = v (ix2 (back d b) r) :=
  dynamicRotate_apply 0 _ v _ _ _ (by
    intro a
    match a with
    | 0 => rcases hd with rfl | rfl | rfl <;> rfl
    | 1 => rfl)

theorem gather : ∀ (g : Fin 8 → ℕ) (b : Fin 8), ((g b + g (back 4 b)) + (g (back 2 b) + g (back 4 (back 2 b))))
      + ((g (back 1 b) + g (back 4 (back 1 b))) + (g (back 2 (back 1 b)) + g (back 4 (back 2 (back 1 b))))) = ∑ b, g b := by
  intro g b
  rw [Fin.sum_univ_eight]
  fin_cases b <;> simp [back] <;> omega

theorem cnt_rows (s : FVec Ideal S16x8x512 .f32) (r : Fin 512) (t : EReal) (b : Fin 8) :
    Net.cnt ((rows s).map fun v => decide (t < v (ix2 b r))) = ∑ i : Fin 16, (decide (t < s (ix3 i b r))).toNat := by
  simp only [Net.cnt, Net.Row.map, rows, row_apply]
  have h (g : Fin 16 → ℕ) : ((g 0 + g 1 + g 2 + g 3) + (g 4 + g 5 + g 6 + g 7)) + ((g 8 + g 9 + g 10 + g 11) + (g 12 + g 13 + g 14 + g 15)) = ∑ i, g i := by
    rw [Fin.sum_univ_succ]; simp only [Fin.sum_univ_succ, Fin.sum_univ_zero]
    show _ = g 0 + (g 1 + (g 2 + (g 3 + (g 4 + (g 5 + (g 6 + (g 7 + (g 8 + (g 9 + (g 10 + (g 11 + (g 12 + (g 13 + (g 14 + (g 15 + 0)))))))))))))))
    omega
  exact h fun i => (decide (t < s (ix3 i b r))).toNat

theorem tops_bool (s : FVec Ideal S16x8x512 .f32) (r : Fin 512) (t : EReal) (b : Fin 8) :
    (tops s).map (fun v => decide (t < v (ix2 b r))) = Net.srt (hits s r t) := by
  unfold tops
  refine (Net.top_bool (f := fun b (v : FVec Ideal S8x512 .f32) => decide (t < v (ix2 b r))) (ro := back) ?_ ?_ ?_ b (rows s)).trans ?_
  rotate_left 3
  · simp only [cnt_rows]
    exact congrArg Net.srt (gather (fun b => ∑ i : Fin 16, (decide (t < s (ix3 i b r))).toNat) b)
  · intro b x y
    show decide (t < max (x (ix2 b r)) (y (ix2 b r))) = _
    simp
  · intro b x y
    show decide (t < min (x (ix2 b r)) (y (ix2 b r))) = _
    simp
  · intro d hd b x
    simp only [rot_apply d hd]

theorem wide_apply (v : FVec Ideal S8x512 .f32) (a : Fin 16) (b : Fin 8) (r : Fin 512) : wide v (ix3 a b r) = v (ix2 b r) := by
  unfold wide
  pointwise
theorem wide'_apply (v : FVec Ideal S8x512 .f32) (a : Fin 16) (b : Fin 8) (r : Fin 512) : wide' v (ix3 a b r) = v (ix2 b r) := by
  unfold wide'
  pointwise

theorem exceeds (s : FVec Ideal S16x8x512 .f32) (b : Fin 8) (r : Fin 512) (t : EReal) :
    (t < (tops s).a0 (ix2 b r) ↔ 0 < hits s r t)
    ∧ (t < (tops s).a1 (ix2 b r) ↔ 1 < hits s r t)
    ∧ (t < (tops s).a2 (ix2 b r) ↔ 2 < hits s r t)
    ∧ (t < (tops s).a3 (ix2 b r) ↔ 3 < hits s r t)
    ∧ (t < (tops s).a4 (ix2 b r) ↔ 4 < hits s r t)
    ∧ (t < (tops s).a5 (ix2 b r) ↔ 5 < hits s r t)
    ∧ (t < (tops s).a6 (ix2 b r) ↔ 6 < hits s r t)
    ∧ (t < (tops s).a7 (ix2 b r) ↔ 7 < hits s r t)
    ∧ (t < (tops s).a8 (ix2 b r) ↔ 8 < hits s r t)
    ∧ (t < (tops s).a9 (ix2 b r) ↔ 9 < hits s r t)
    ∧ (t < (tops s).a10 (ix2 b r) ↔ 10 < hits s r t)
    ∧ (t < (tops s).a11 (ix2 b r) ↔ 11 < hits s r t)
    ∧ (t < (tops s).a12 (ix2 b r) ↔ 12 < hits s r t)
    ∧ (t < (tops s).a13 (ix2 b r) ↔ 13 < hits s r t)
    ∧ (t < (tops s).a14 (ix2 b r) ↔ 14 < hits s r t)
    ∧ (t < (tops s).a15 (ix2 b r) ↔ 15 < hits s r t) := by
  have h := tops_bool s r t b
  revert h
  generalize tops s = v
  generalize hits s r t = C
  intro h
  exact ⟨decide_eq_decide.mp (congrArg Net.Row.a0 h), decide_eq_decide.mp (congrArg Net.Row.a1 h), decide_eq_decide.mp (congrArg Net.Row.a2 h), decide_eq_decide.mp (congrArg Net.Row.a3 h), decide_eq_decide.mp (congrArg Net.Row.a4 h), decide_eq_decide.mp (congrArg Net.Row.a5 h), decide_eq_decide.mp (congrArg Net.Row.a6 h), decide_eq_decide.mp (congrArg Net.Row.a7 h), decide_eq_decide.mp (congrArg Net.Row.a8 h), decide_eq_decide.mp (congrArg Net.Row.a9 h), decide_eq_decide.mp (congrArg Net.Row.a10 h), decide_eq_decide.mp (congrArg Net.Row.a11 h), decide_eq_decide.mp (congrArg Net.Row.a12 h), decide_eq_decide.mp (congrArg Net.Row.a13 h), decide_eq_decide.mp (congrArg Net.Row.a14 h), decide_eq_decide.mp (congrArg Net.Row.a15 h)⟩

theorem w1 : Ideal.ofBits .f32 0x3F800000#32 = ((1 : ℕ) : EReal) := by
  rw [← EReal.coe_coe_eq_natCast]
  simp [Ideal.ofBits, Ideal.ieee, -EReal.coe_mul]; norm_num
theorem w2 : Ideal.ofBits .f32 0x40000000#32 = ((2 : ℕ) : EReal) := by
  rw [← EReal.coe_coe_eq_natCast]
  simp [Ideal.ofBits, Ideal.ieee, -EReal.coe_mul]; norm_num
theorem w4 : Ideal.ofBits .f32 0x40800000#32 = ((4 : ℕ) : EReal) := by
  rw [← EReal.coe_coe_eq_natCast]
  simp [Ideal.ofBits, Ideal.ieee, -EReal.coe_mul]; norm_num
theorem w8 : Ideal.ofBits .f32 0x41000000#32 = ((8 : ℕ) : EReal) := by
  rw [← EReal.coe_coe_eq_natCast]
  simp [Ideal.ofBits, Ideal.ieee, -EReal.coe_mul]; norm_num
theorem w16 : Ideal.ofBits .f32 0x41800000#32 = ((16 : ℕ) : EReal) := by
  rw [← EReal.coe_coe_eq_natCast]
  simp [Ideal.ofBits, Ideal.ieee, -EReal.coe_mul]; norm_num

theorem ranks_apply (s : FVec Ideal S16x8x512 .f32) (a : Fin 16) (b : Fin 8) (r : Fin 512) :
    r2Of s (ix3 a b r) = ((min (hits s r (s (ix3 a b r))) 16 : ℕ) : EReal) := by
  unfold r2Of
  pointwise [ranks, bit, g1, g2, g3, g4, wide_apply, wide'_apply]
  obtain ⟨h0, h1, h2, h3, h4, h5, h6, h7, h8, h9, h10, h11, h12, h13, h14, h15⟩ := exceeds s b r (s (ix3 a b r))
  simp only [apply_ite (fun z : EReal => s (ix3 a b r) < z), h0, h1, h2, h3, h4, h5, h6, h7, h8, h9, h10, h11, h12, h13, h14, h15, w2, w4, w8, w16]
  generalize hits s r (s (ix3 a b r)) = C
  rcases Nat.lt_or_ge C 16 with h | h
  · interval_cases C <;> norm_num only [if_true, if_false, add_zero, zero_add] <;> norm_cast
  · simp only [Nat.min_eq_right h, show 15 < C from h, if_true]

end Cert.RouteIdeal.Hand

end
-- ==== Proof.RouteScore.lean ====
/-
  The routing call's results as functions of the arguments, and the kernel's stored values in those terms.
-/
module

public import proofs.«01_k».proof.Proof.RouteSem

@[expose] public section

set_option maxRecDepth 65536

noncomputable section

namespace Cert.Score

open Idealize.ShloMosaic

/-- A normed token's scores against the second half of a head's keys. -/
def score (x : Fin 1024 → EReal) (w : Fin 1024 → Fin 2048 → EReal) (key : Fin 128 → Fin 128 → EReal) (h : Fin 8) (n : Fin 128) : EReal :=
  ∑ k : Fin 128, key n k * ∑ j, x j * w j ⟨h.val * 256 + 128 + k.val, by omega⟩

/-- How many of the scores exceed one, sixteen at most. -/
def rankOf (s : Fin 128 → EReal) (n : Fin 128) : EReal := ((min (∑ m, (decide (s n < s m)).toNat) 16 : ℕ) : EReal)

/-- The exponential of a score less the greatest. -/
def expOf (s : Fin 128 → EReal) (n : Fin 128) : EReal := Ideal.exp (s n - Finset.univ.fold max ⊥ s)

end Cert.Score

namespace Cert.RouteIdeal.Hand

open Cert.RouteIdeal Cert.RouteIdeal.Gen Cert.Rows Cert.Score
open Idealize.ShloMosaic Idealize.ShloMosaic.TcCoe Idealize.ShloMosaic.Tactic

/-- A column of the scores in one run of 128. -/
def col (s : FVec Ideal S16x8x512 .f32) (r : Fin 512) (n : Fin 128) : EReal := s (ix3 ⟨n.val / 8, by omega⟩ ⟨n.val % 8, by omega⟩ r)

theorem col_apply (s : FVec Ideal S16x8x512 .f32) (r : Fin 512) (i : Fin 16) (b : Fin 8) :
    col s r ⟨b.val + 8 * i.val, by omega⟩ = s (ix3 i b r) := by
  unfold col
  congr 2
  · exact Fin.ext (by show (b.val + 8 * i.val) / 8 = i.val; omega)
  · exact Fin.ext (by show (b.val + 8 * i.val) % 8 = b.val; omega)

theorem hits_eq (s : FVec Ideal S16x8x512 .f32) (r : Fin 512) (t : EReal) : hits s r t = ∑ n, (decide (t < col s r n)).toNat := by
  unfold hits
  rw [Finset.sum_comm, ← Fintype.sum_prod_type', ← (finProdFinEquiv (m := 16) (n := 8)).sum_comp]
  refine Finset.sum_congr rfl fun p _ => ?_
  exact congrArg (fun z => (decide (t < z)).toNat) (col_apply s r p.1 p.2).symm

theorem greatest_eq (s : FVec Ideal S16x8x512 .f32) (b : Fin 8) (r : Fin 512) :
    (tops s).a0 (ix2 b r) = Finset.univ.fold max ⊥ (col s r) := by
  refine eq_of_forall_lt_iff fun t => ?_
  rw [(exceeds s b r t).1, hits_eq, Finset.lt_fold_max, Finset.sum_pos_iff]
  simp only [not_lt_bot, false_or, Finset.mem_univ, true_and]
  refine exists_congr fun n => ?_
  by_cases h : t < col s r n <;> simp [h]

theorem rank_apply (s : FVec Ideal S16x8x512 .f32) (n : Fin 128) (r : Fin 512) :
    k0_pay7 (F := Ideal) (r2Of s) (ix3 0 n r) = rankOf (col s r) n := by
  have h := ranks_apply s ⟨n.val / 8, by omega⟩ ⟨n.val % 8, by omega⟩ r
  rw [hits_eq] at h
  refine Eq.trans ?_ h
  generalize r2Of s = y
  pointwise [k0_pay7]

theorem exp_apply (s : FVec Ideal S16x8x512 .f32) (n : Fin 128) (r : Fin 512) :
    k0_pay8 (F := Ideal) (e2Of s) (ix3 0 n r) = expOf (col s r) n := by
  unfold expOf
  rw [← greatest_eq s ⟨n.val % 8, by omega⟩ r]
  unfold e2Of
  generalize (tops s).a0 = v
  pointwise [k0_pay8, wide_apply, col]

/-- The scores of a block: keys against queries over both halves. -/
theorem scores_apply (v : Vec Ideal S1x256x256 .bf16) (q : Vec Ideal S1x1x512x256 .bf16) (n : Fin 128) (r : Fin 512) :
    col (k0_pay21 (F := Ideal) v q) r n = ∑ e : Fin 256, v (ix3 0 ⟨128 + n.val, by omega⟩ e) * q (ix4 0 0 r e) := by
  pointwise [k0_pay21, k0_pay18, col]

end Cert.RouteIdeal.Hand

end
-- ==== Proof.RouteRun.lean ====
/-
  The routing kernel's run at its values: at every point the scratch's current slot holds that block's normed tokens and
  queries, so each block of the three results is the stated function of the arguments' blocks.
-/
module

public import proofs.«01_k».proof.Proof.RouteVal
public import Idealize.ShloMosaic.Lib.Pipeline.ValueKit
public import Idealize.ShloMosaic.Lib.ValueIdx

@[expose] public section

set_option maxRecDepth 16384

noncomputable section

namespace Cert.RouteIdeal.Run

open Cert.RouteIdeal Cert.RouteIdeal.Gen Cert.RouteIdeal.Hand Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ) (ρ : Dev nD → PrngReg)

theorem e0 : ∀ t : Fin cfg0.N, win0_0.index t = ![0, 0] := (by decide +kernel : ∀ t : Fin grid0.N, _)
theorem e1 : ∀ t : Fin cfg0.N, win0_1.index t = ![min (t.val + 1) 63, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![t.val, 0] := (by decide +kernel : ∀ t : Fin grid0.N, _)
theorem e8 : ∀ t : Fin cfg0.N, win0_8.index t = ![0, 0, t.val] := (by decide +kernel : ∀ t : Fin grid0.N, _)
theorem e9 : ∀ t : Fin cfg0.N, win0_9.index t = ![0, 0, t.val] := (by decide +kernel : ∀ t : Fin grid0.N, _)
theorem coord_eq : ∀ t : Fin cfg0.N, (grid0.coords t 0).val = t.val := (by decide +kernel : ∀ t : Fin grid0.N, _)
theorem cond_iff : ∀ t : Fin cfg0.N, cond (grid0.coords t) ↔ t.val = 0 := (by decide +kernel : ∀ t : Fin grid0.N, _)

/-- Token `a` of block `n` (of the last block from there on), among all tokens. -/
def row (n : ℕ) (a : Fin 512) : Fin 32768 := ⟨min n 63 * 512 + a.val, by omega⟩

/-- Block `n` of the hidden state, and the other operands as the launch finds them. -/
def hb (c : Dev nD) (n : ℕ) : Vec Ideal S512x1024 .f32 := fun y =>
  (m ((c : Thread nD τ).loc main_arg0) : FVec Ideal S32768x1024 .f32) (ix2 (row n (y 0)) (y 1))
def gv (c : Dev nD) : Vec Ideal S1x1024 .f32 := (V m c main_v11 : FVec Ideal S1x1024 .f32)
def wv (c : Dev nD) : Vec Ideal S8x1024x256 .bf16 := (V m c main_v14 : FVec Ideal S8x1024x256 .bf16)
def kv (c : Dev nD) : Vec Ideal S8x256x256 .bf16 := (V m c main_v10 : FVec Ideal S8x256x256 .bf16)

theorem iblk0 (c : Dev nD) (t : Fin cfg0.N) : iblk m c 0 t = hb m c 0 := by
  funext j
  show V m c main_arg0 ((win0_0.blk t).view.emb j) = _
  rw [V_main_arg0]
  refine congrArg (m ((c : Thread nD τ).loc main_arg0)) ?_
  blk_ext [e0, row]
theorem iblk1 (c : Dev nD) (t : Fin cfg0.N) : iblk m c 1 t = hb m c (t.val + 1) := by
  funext j
  show V m c main_arg0 ((win0_1.blk t).view.emb j) = _
  rw [V_main_arg0]
  refine congrArg (m ((c : Thread nD τ).loc main_arg0)) ?_
  blk_ext [e1, row]
theorem iblk2 (c : Dev nD) (t : Fin cfg0.N) : iblk m c 2 t = gv m c := by
  funext j
  show V m c main_v11 ((win0_2.blk t).view.emb j) = V m c main_v11 j
  refine congrArg (V m c main_v11) ?_
  blk_ext [e2]
theorem iblk3 (c : Dev nD) (t : Fin cfg0.N) : iblk m c 3 t = wv m c := by
  funext j
  show V m c main_v14 ((win0_3.blk t).view.emb j) = V m c main_v14 j
  refine congrArg (V m c main_v14) ?_
  blk_ext [e3]
theorem iblk4 (c : Dev nD) (t : Fin cfg0.N) : iblk m c 4 t = kv m c := by
  funext j
  show V m c main_v10 ((win0_4.blk t).view.emb j) = V m c main_v10 j
  refine congrArg (V m c main_v10) ?_
  blk_ext [e4]

/-- Block `n`'s normed tokens and queries. -/
def XN (c : Dev nD) (n : ℕ) : Fin 512 → Fin 1024 → EReal := xnv (hb m c n) (gv m c)
def QN (c : Dev nD) (n : ℕ) : Fin 8 → Fin 512 → Fin 256 → EReal := qv (XN m c n) (wv m c)

def slot (n : ℕ) : Fin 2 := ⟨n % 2, Nat.mod_lt _ (by decide)⟩

/-- The scratch before point `n`, once it is filled. -/
def Cur (c : Dev nD) (n : ℕ) : sProp (MR Ideal) :=
  iprop((∃ d d', iprop(⌜CurAt (slot n) (XN m c n) (QN m c n) d d'⌝ ∗ owns (c : Thread nD τ) xnM fullShare d ∗ owns (c : Thread nD τ) qM fullShare d')) ∗ (∃ r, prngReg c r))

theorem Cur_any (c : Dev nD) (n : ℕ) : Cur m c n ⊢ (Pipeline.ΦA spec0 c : sProp (MR Ideal)) := by
  unfold Cur
  rw [PhiA_eq]
  iintro ⟨⟨%d, %d', %_h, H0, H1⟩, Hg⟩
  isplitl [H0 H1]
  · isplitl [H0]
    · iexists _; iexact H0
    · iexists _; iexact H1
  iexact Hg

/-- Two outputs are forgotten. -/
def forgets (w : Fin 10) : Bool := match w with
  | ⟨6, _⟩ => true
  | ⟨7, _⟩ => true
  | _ => false

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outX (XN m c t.val)
    | ⟨6, _⟩ => Pipeline.Dat.unnamed (cfg := cfg0) 6 t
    | ⟨7, _⟩ => Pipeline.Dat.unnamed (cfg := cfg0) 7 t
    | ⟨8, _⟩ => outR (kv m c) (QN m c t.val)
    | ⟨9, _⟩ => outE (kv m c) (QN m c t.val)
  Φ k := if k.val = 0 then Pipeline.ΦA spec0 c else Cur m c k.val
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t := before0_0_of m _ (A_eq m c 0) (fun _ => rfl) t d
theorem before_1 (c : Dev nD) (t : Fin cfg0.N) (d) : (dats m 0 c).before 1 t d = iblk m c 1 t := before0_1_of m _ (A_eq m c 1) (fun _ => rfl) t d
theorem before_2 (c : Dev nD) (t : Fin cfg0.N) (d) : (dats m 0 c).before 2 t d = iblk m c 2 t := before0_2_of m _ (A_eq m c 2) (fun _ => rfl) t d
theorem before_3 (c : Dev nD) (t : Fin cfg0.N) (d) : (dats m 0 c).before 3 t d = iblk m c 3 t := before0_3_of m _ (A_eq m c 3) (fun _ => rfl) t d
theorem before_4 (c : Dev nD) (t : Fin cfg0.N) (d) : (dats m 0 c).before 4 t d = iblk m c 4 t := before0_4_of m _ (A_eq m c 4) (fun _ => rfl) t d

theorem phi_zero (c : Dev nD) (k : Fin (cfg0.N + 1)) (h : k.val = 0) : (dats m 0 c).Φ k = Pipeline.ΦA spec0 c := by
  dsimp only [dats]; exact if_pos h
theorem phi_pos (c : Dev nD) (k : Fin (cfg0.N + 1)) (h : k.val ≠ 0) : (dats m 0 c).Φ k = Cur m c k.val := by
  dsimp only [dats]; exact if_neg h

def bodyPre (c : Dev nD) (t : Fin cfg0.N) : sProp (MR Ideal) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d)
    ∗ (∃ d, owns (c : Thread nD τ) (ms7 t) fullShare d)
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp (MR Ideal) :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (outX (XN m c t.val))
    ∗ (∃ d, owns (c : Thread nD τ) (ms6 t) fullShare d)
    ∗ (∃ d, owns (c : Thread nD τ) (ms7 t) fullShare d)
    ∗ owns (c : Thread nD τ) (ms8 t) fullShare (outR (kv m c) (QN m c t.val))
    ∗ owns (c : Thread nD τ) (ms9 t) fullShare (outE (kv m c) (QN m c t.val)))

theorem sound_body (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = Cur m c (t.val + 1) from phi_pos m c t.succ (Nat.succ_ne_zero t.val),
    show (dats m 0 c).owesAt () t.succ = (dats m 0 c).owesAt () t.castSucc from rfl]
  have hs : (slot t.val).val = (grid0.coords t 0).val % 2 := by rw [coord_eq]; rfl
  have hs' : (slot (t.val + 1)).val = 1 - (grid0.coords t 0).val % 2 := by rw [coord_eq]; show (t.val + 1) % 2 = _; omega
  have hnew : cond (grid0.coords t) → slot t.val = 0 ∧ XN m c t.val = xnv (iblk m c 0 t) (iblk m c 2 t)
      ∧ QN m c t.val = qv (xnv (iblk m c 0 t) (iblk m c 2 t)) (iblk m c 3 t) := fun h => by
    rw [iblk0, iblk2, iblk3, (cond_iff t).mp h]
    exact ⟨rfl, rfl, rfl⟩
  have hX : XN m c (t.val + 1) = xnv (iblk m c 1 t) (iblk m c 2 t) := by rw [iblk1, iblk2]; rfl
  have hQ : QN m c (t.val + 1) = qv (XN m c (t.val + 1)) (iblk m c 3 t) := by rw [iblk3]; rfl
  by_cases h0 : t.val = 0
  · rw [show (dats m 0 c).Φ t.castSucc = Pipeline.ΦA spec0 c from phi_zero m c t.castSucc h0, PhiA_eq]
    unfold Cur
    iintro ⟨⟨⟨⟨%d, HS0⟩, ⟨%d', HS1⟩⟩, Hg⟩, HO, ⟨%d0, H0⟩, ⟨%d1, H1⟩, ⟨%d2, H2⟩, ⟨%d3, H3⟩, ⟨%d4, H4⟩, ⟨%d5, H5⟩, H6, H7, ⟨%d8, H8⟩, ⟨%d9, H9⟩⟩
    have hcur : ¬cond (grid0.coords t) → CurAt (slot t.val) (XN m c t.val) (QN m c t.val) d d' := fun h => absurd ((cond_iff t).mpr h0) h
    iapply (run_val c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) xnM (Memref.isWhole_whole _) qM (Memref.isWhole_whole _) (iblk m c 0 t) (iblk m c 1 t) (iblk m c 2 t) (iblk m c 3 t) (iblk m c 4 t)
      d d' (slot t.val) (slot (t.val + 1)) hs hs' (XN m c t.val) (QN m c t.val) hcur hnew Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    isplitl [H9]; · iexists _; iexact H9
    isplitl [HS0]; · iexact HS0
    isplitl [HS1]; · iexact HS1
    rw [← hX, ← hQ, iblk4]
    iintro ⟨H0, H1, H2, H3, H4, H5, H6, H7, H8, H9, HC⟩
    isplitl [HC Hg]
    · isplitl [HC]; · iexact HC
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).Φ t.castSucc = Cur m c t.val from phi_pos m c t.castSucc h0]
    unfold Cur
    iintro ⟨⟨⟨%d, %d', %hcur0, HS0, HS1⟩, Hg⟩, HO, ⟨%d0, H0⟩, ⟨%d1, H1⟩, ⟨%d2, H2⟩, ⟨%d3, H3⟩, ⟨%d4, H4⟩, ⟨%d5, H5⟩, H6, H7, ⟨%d8, H8⟩, ⟨%d9, H9⟩⟩
    have hcur : ¬cond (grid0.coords t) → CurAt (slot t.val) (XN m c t.val) (QN m c t.val) d d' := fun _ => hcur0
    iapply (run_val c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) xnM (Memref.isWhole_whole _) qM (Memref.isWhole_whole _) (iblk m c 0 t) (iblk m c 1 t) (iblk m c 2 t) (iblk m c 3 t) (iblk m c 4 t)
      d d' (slot t.val) (slot (t.val + 1)) hs hs' (XN m c t.val) (QN m c t.val) hcur hnew Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    isplitl [H9]; · iexists _; iexact H9
    isplitl [HS0]; · iexact HS0
    isplitl [HS1]; · iexact HS1
    rw [← hX, ← hQ, iblk4]
    iintro ⟨H0, H1, H2, H3, H4, H5, H6, H7, H8, H9, HC⟩
    isplitl [HC Hg]
    · isplitl [HC]; · iexact HC
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

set_option maxHeartbeats 4000000 in
theorem body_obligation (c : Dev nD) :
    BodyObligation (dats m 0 c) (defs₀ (F := Ideal)) Variants.none () Set.univ forgets := fun t => by
  rw [bigSep_W0, bigSep_W0, defs₀_row]
  exact triple_restated (sound_body m c t) rfl .rfl fun _ => .rfl

theorem hin (c : Dev nD) : (Pipeline.ΦA spec0 c : sProp (MR Ideal)) ⊢ (dats m 0 c).Φ 0 := by
  rw [phi_zero m c 0 rfl]
theorem hout (c : Dev nD) : (dats m 0 c).Φ (Fin.last cfg0.N) ⊢ (Pipeline.ΦA spec0 c : sProp (MR Ideal)) := by
  rw [phi_pos m c (Fin.last cfg0.N) (fun h => by have h2 : cfg0.N = 0 := h; exact absurd (h2.symm.trans (N_0 : cfg0.N = 64)) (by decide))]
  exact Cur_any m c _

-- the launch theorem's implicit arguments are found by unifying its conclusion with this statement, which takes unfolding
-- plain definitions in a metavariable's type
set_option backward.isDefEq.respectTransparency.types false in
theorem run_main :
    θ_run defs (onTc (τ := τ) (main (F := Ideal))) (s₀ m ρ)
      (fun r => Pipeline.RDat.FramePost (cfgs 0) (fun c => (dats m 0 c).toRForget forgets) (V m) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hin := hin m) (hout := hout m)

/-- The run ends with the three results at what the blocks leave and each argument as launched. -/
theorem run : θ_run defs (onTc (τ := τ) (main (F := Ideal))) ⟨m, fun _ => 0, ρ⟩ (fun r => ∀ c : Dev nD,
      r.2.mem ((c.tc : Thread nD τ).loc main_v15_0) = (dats m 0 c).arrAt 5 cfg0.N
      ∧ r.2.mem ((c.tc : Thread nD τ).loc main_v15_3) = (dats m 0 c).arrAt 8 cfg0.N
      ∧ r.2.mem ((c.tc : Thread nD τ).loc main_v15_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (Dat.toRForget_arrAt_iff (w := 5) (fgt := forgets) (dat := dats m 0 c) rfl cfg0.N _).mp ((h.1 c).1 5),
      (Dat.toRForget_arrAt_iff (w := 8) (fgt := forgets) (dat := dats m 0 c) rfl cfg0.N _).mp ((h.1 c).1 8),
      (Dat.toRForget_arrAt_iff (w := 9) (fgt := forgets) (dat := dats m 0 c) rfl cfg0.N _).mp ((h.1 c).1 9),
      (h.1.arr_in c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.RouteIdeal.Run

end
-- ==== Proof.RouteFin.lean ====
/-
  The routing kernel's three result arrays as functions of the arguments.
-/
module

public import proofs.«01_k».proof.Proof.RouteScore
public import proofs.«01_k».proof.Proof.RouteRun

@[expose] public section

set_option maxRecDepth 16384

noncomputable section

namespace Cert.RouteIdeal.Run

open Cert.RouteIdeal Cert.RouteIdeal.Gen Cert.RouteIdeal.Hand Cert.Rows Cert.Score
open Idealize.ShloMosaic Idealize.ShloMosaic.TcCoe Idealize.SL.Sem
open Idealize.ShloMosaic.Pipeline (Dat)

/-- The normed tokens, a token's scores for a head, and the results. -/
def XR (x0 : FVec Ideal S32768x1024 .f32) (x1 : FVec Ideal S1024 .f32) (t : Fin 32768) : Fin 1024 → EReal :=
  rms (fun k => x0 (ix2 t k)) (fun k => x1 (ix1 k))
def SR (x0 : FVec Ideal S32768x1024 .f32) (x1 : FVec Ideal S1024 .f32) (x2 : FVec Ideal S1024x2048 .f32) (x3 : FVec Ideal S8x2x128x128 .f32)
    (h : Fin 8) (t : Fin 32768) : Fin 128 → EReal :=
  score (XR x0 x1 t) (fun j e => x2 (ix2 j e)) (fun n k => x3 (ix4 h 1 n k)) h
def GX (x0 : FVec Ideal S32768x1024 .f32) (x1 : FVec Ideal S1024 .f32) : FVec Ideal S32768x1024 .bf16 := fun i => XR x0 x1 (i 0) (i 1)
def GR (x0 : FVec Ideal S32768x1024 .f32) (x1 : FVec Ideal S1024 .f32) (x2 : FVec Ideal S1024x2048 .f32) (x3 : FVec Ideal S8x2x128x128 .f32) :
    FVec Ideal S8x128x32768 .bf16 := fun i => rankOf (SR x0 x1 x2 x3 (i 0) (i 2)) (i 1)
def GE (x0 : FVec Ideal S32768x1024 .f32) (x1 : FVec Ideal S1024 .f32) (x2 : FVec Ideal S1024x2048 .f32) (x3 : FVec Ideal S8x2x128x128 .f32) :
    FVec Ideal S8x128x32768 .bf16 := fun i => expOf (SR x0 x1 x2 x3 (i 0) (i 2)) (i 1)

variable (m : (ℓ : Loc nD τ sig) → Buf (Elt Ideal) ℓ) (ρ : Dev nD → PrngReg)

/-- The norm's scale as the launch finds it: one row. -/
theorem V11 (c : Dev nD) : V m c main_v11 = (shapeCast S1x1024 (m ((c : Thread nD τ).loc main_arg1) : FVec Ideal S1024 .f32)
    shapeCasts_S1024_S1x1024 : FVec Ideal S1x1024 .f32) := by
  unfold V; after_results <;> rfl
theorem gv_apply (c : Dev nD) (k : Fin 1024) : gv m c (ix2 0 k) = (m ((c : Thread nD τ).loc main_arg1) : FVec Ideal S1024 .f32) (ix1 k) := by
  unfold gv
  rw [V11]
  pointwise

/-- The queries' weights as the launch finds them: head by head. -/
theorem V14 (c : Dev nD) : V m c main_v14 = (transpose S8x1024x256 [1, 0, 2]
    (shapeCast S1024x8x256 (truncf (F := Ideal) .bf16 (m ((c : Thread nD τ).loc main_arg2) : FVec Ideal S1024x2048 .f32) bitsLt_bf16_f32)
      shapeCasts_S1024x2048_S1024x8x256) transposes_S1024x8x256_S8x1024x256_1_0_2 : FVec Ideal S8x1024x256 .bf16) := by
  unfold V; after_results <;> rfl
theorem wv_apply (c : Dev nD) (h : Fin 8) (k : Fin 1024) (e : Fin 256) : wv m c (ix3 h k e)
    = (m ((c : Thread nD τ).loc main_arg2) : FVec Ideal S1024x2048 .f32) (ix2 k ⟨h.val * 256 + e.val, by omega⟩) := by
  unfold wv
  rw [V14]
  pointwise

/-- A half of the keys as the launch finds them, and the zeros beside it. -/
def half (x : FVec Ideal S8x2x128x128 .f32) : FVec Ideal S8x128x128 .f32 :=
  shapeCast S8x128x128 (extractStridedSlice S8x1x128x128 ![0, 1, 0, 0] x slices_S8x2x128x128_S8x1x128x128_0_1_0_0) shapeCasts_S8x1x128x128_S8x128x128
def half' (x : FVec Ideal S8x2x128x128 .f32) : FVec Ideal S8x128x128 .f32 :=
  shapeCast S8x128x128 (extractStridedSlice S8x1x128x128 ![0, 0, 0, 0] x slices_S8x2x128x128_S8x1x128x128_0_0_0_0) shapeCasts_S8x1x128x128_S8x128x128
def none' : FVec Ideal S8x128x128 .f32 := broadcastInDim S8x128x128 ![] bcast_S_S8x128x128 (constant S_ .f32 0x00000000#32)
def pair (a b : FVec Ideal S8x128x128 .f32) : FVec Ideal S8x128x256 .f32 :=
  concatenate S8x128x256 2 [⟨S8x128x128, a⟩, ⟨S8x128x128, b⟩] concatenates_S8x128x128_S8x128x128_S8x128x256_d2
def stack (a b : FVec Ideal S8x128x256 .f32) : FVec Ideal S8x256x256 .bf16 :=
  truncf (F := Ideal) .bf16 (concatenate S8x256x256 1 [⟨S8x128x256, a⟩, ⟨S8x128x256, b⟩] concatenates_S8x128x256_S8x128x256_S8x256x256_d1) bitsLt_bf16_f32

theorem V10 (c : Dev nD) : V m c main_v10 = stack (pair (half' (m ((c : Thread nD τ).loc main_arg3))) none')
    (pair none' (half (m ((c : Thread nD τ).loc main_arg3)))) := by
  unfold V stack pair half half' none'; after_results <;> rfl

theorem half_apply (x : FVec Ideal S8x2x128x128 .f32) (h : Fin 8) (n k : Fin 128) : half x (ix3 h n k) = x (ix4 h 1 n k) := by
  pointwise [half]
theorem none_apply (h : Fin 8) (n k : Fin 128) : none' (ix3 h n k) = 0 := by
  pointwise [none']
theorem pair_lo (a b : FVec Ideal S8x128x128 .f32) (h : Fin 8) (n k : Fin 128) : pair a b (ix3 h n ⟨k.val, by omega⟩) = a (ix3 h n k) := by
  pointwise [pair]
theorem pair_hi (a b : FVec Ideal S8x128x128 .f32) (h : Fin 8) (n k : Fin 128) : pair a b (ix3 h n ⟨128 + k.val, by omega⟩) = b (ix3 h n k) := by
  pointwise [pair]
theorem stack_hi (a b : FVec Ideal S8x128x256 .f32) (h : Fin 8) (n : Fin 128) (e : Fin 256) :
    stack a b (ix3 h ⟨128 + n.val, by omega⟩ e) = b (ix3 h n e) := by
  pointwise [stack]

abbrev a0 (c : Dev nD) : FVec Ideal S32768x1024 .f32 := m ((c : Thread nD τ).loc main_arg0)
abbrev a1 (c : Dev nD) : FVec Ideal S1024 .f32 := m ((c : Thread nD τ).loc main_arg1)
abbrev a2 (c : Dev nD) : FVec Ideal S1024x2048 .f32 := m ((c : Thread nD τ).loc main_arg2)
abbrev a3 (c : Dev nD) : FVec Ideal S8x2x128x128 .f32 := m ((c : Thread nD τ).loc main_arg3)

/-- A block's normed tokens are its rows'. -/
theorem XN_eq (c : Dev nD) (n : ℕ) (r : Fin 512) : XN m c n r = XR (a0 m c) (a1 m c) (row n r) := by
  unfold XN xnv XR
  congr 1
  exact funext fun k => gv_apply m c k

/-- A block's scores for a head are its tokens': the zeros beside the keys add nothing. -/
theorem col_eq (c : Dev nD) (n : ℕ) (h : Fin 8) (r : Fin 512) :
    col (k0_pay21 (F := Ideal) (keyAt (kv m c) h) (qVec (QN m c n) h)) r = SR (a0 m c) (a1 m c) (a2 m c) (a3 m c) h (row n r) := by
  funext p
  rw [scores_apply]
  have hk (e : Fin 256) : keyAt (kv m c) h (ix3 0 ⟨128 + p.val, by omega⟩ e) = pair none' (half (a3 m c)) (ix3 h p e) := by
    show (V m c main_v10 : FVec Ideal S8x256x256 .bf16) (ix3 h ⟨128 + p.val, _⟩ e) = _
    rw [V10, stack_hi]
  have hq (e : Fin 256) : qVec (QN m c n) h (ix4 0 0 r e)
      = ∑ j, XR (a0 m c) (a1 m c) (row n r) j * a2 m c (ix2 j ⟨h.val * 256 + e.val, by omega⟩) := by
    show ∑ k, XN m c n r k * wv m c (ix3 h k e) = _
    rw [XN_eq]
    exact Finset.sum_congr rfl fun k _ => congrArg (_ * ·) (wv_apply m c h k e)
  simp only [hk, hq]
  refine (Fin.sum_univ_add (a := 128) (b := 128) _).trans ?_
  have h0 : ∑ i : Fin 128, pair none' (half (a3 m c)) (ix3 h p (Fin.castAdd 128 i))
      * ∑ j, XR (a0 m c) (a1 m c) (row n r) j * a2 m c (ix2 j ⟨h.val * 256 + (Fin.castAdd 128 i).val, by omega⟩) = 0 :=
    Finset.sum_eq_zero fun i _ => by
      rw [show pair none' (half (a3 m c)) (ix3 h p (Fin.castAdd 128 i)) = 0 from (pair_lo _ _ h p i).trans (none_apply h p i), zero_mul]
  refine (congrArg (· + _) h0).trans ((zero_add _).trans ?_)
  unfold SR score
  refine Finset.sum_congr rfl fun i _ => ?_
  rw [show pair none' (half (a3 m c)) (ix3 h p (Fin.natAdd 128 i)) = a3 m c (ix4 h 1 p i) from (pair_hi _ _ h p i).trans (half_apply _ h p i)]
  refine congrArg (_ * ·) (Finset.sum_congr rfl fun j _ => ?_)
  refine congrArg (fun e => _ * a2 m c (ix2 j e)) (Fin.ext ?_)
  exact (Nat.add_assoc _ _ _).symm

theorem after_5 (c : Dev nD) (t : Fin cfg0.N) : (dats m 0 c).after 5 t = outX (XN m c t.val) := by dsimp only [dats]
theorem after_8 (c : Dev nD) (t : Fin cfg0.N) : (dats m 0 c).after 8 t = outR (kv m c) (QN m c t.val) := by dsimp only [dats]
theorem after_9 (c : Dev nD) (t : Fin cfg0.N) : (dats m 0 c).after 9 t = outE (kv m c) (QN m c t.val) := by dsimp only [dats]

theorem row_val (t : Fin cfg0.N) (r : Fin 512) : (row t.val r).val = t.val * 512 + r.val := by
  have : t.val < 64 := t.isLt.trans_eq N_0
  show min t.val 63 * 512 + r.val = _
  rw [Nat.min_eq_left (by omega)]

/-- The result arrays after the run are the stated functions of the arguments. -/
theorem final5 (c : Dev nD) : (dats m 0 c).arrAt 5 cfg0.N = GX (a0 m c) (a1 m c) := by
  refine (dats m 0 c).arrAt_eq_of_covers 5 _ (by decide +kernel) fun t hf y => ?_
  blk_simp
  rw [after_5]
  idx_vars y
  show XN m c t.val y0 y1 = _
  rw [XN_eq]
  refine Eq.trans ?_ (congrArg (GX _ _) (a₁ := ix2 (row t.val y0) y1) ?_)
  · rfl
  · blk_ext [e5, row_val]

theorem final8 (c : Dev nD) : (dats m 0 c).arrAt 8 cfg0.N = GR (a0 m c) (a1 m c) (a2 m c) (a3 m c) := by
  refine (dats m 0 c).arrAt_eq_of_covers 8 _ (by decide +kernel) fun t hf y => ?_
  blk_simp
  rw [after_8]
  idx_vars y
  refine (rank_apply _ y1 y2).trans ?_
  show rankOf (col (k0_pay21 (F := Ideal) (keyAt (kv m c) y0) (qVec (QN m c t.val) y0)) y2) y1 = _
  rw [col_eq]
  refine Eq.trans ?_ (congrArg (GR _ _ _ _) (a₁ := ix3 y0 y1 (row t.val y2)) ?_)
  · rfl
  · blk_ext [e8, row_val]

theorem final9 (c : Dev nD) : (dats m 0 c).arrAt 9 cfg0.N = GE (a0 m c) (a1 m c) (a2 m c) (a3 m c) := by
  refine (dats m 0 c).arrAt_eq_of_covers 9 _ (by decide +kernel) fun t hf y => ?_
  blk_simp
  rw [after_9]
  idx_vars y
  refine (exp_apply _ y1 y2).trans ?_
  show expOf (col (k0_pay21 (F := Ideal) (keyAt (kv m c) y0) (qVec (QN m c t.val) y0)) y2) y1 = _
  rw [col_eq]
  refine Eq.trans ?_ (congrArg (GE _ _ _ _) (a₁ := ix3 y0 y1 (row t.val y2)) ?_)
  · rfl
  · blk_ext [e9, row_val]

end Cert.RouteIdeal.Run

end
-- ==== Proof.RouteRef.lean ====
/- The routing call's reference at its values. -/
module

public import proofs.«01_k».proof.Proof.RouteScore
public import proofs.«01_k».proof.Proof.Gen.RouteReferenceIdeal.Run
public import proofs.«01_k».proof.Proof.Gen.RouteReferenceIdeal.Read

@[expose] public section

set_option maxRecDepth 16384

noncomputable section

namespace Cert.RouteReferenceIdeal.Net

open Cert.RouteReferenceIdeal Cert.RouteReferenceIdeal.Gen Cert.RouteReferenceIdeal.Read Cert.Rows Cert.Score
open Idealize.ShloMosaic Idealize.ShloMosaic.TcCoe Idealize.SL.Sem

variable (x0 : FVec Ideal S32768x1024 .f32) (x1 : FVec Ideal S1024 .f32) (x2 : FVec Ideal S1024x2048 .f32) (x3 : FVec Ideal S8x2x128x128 .f32)

theorem norm_apply (a : Fin 32768) (b : Fin 1024) :
    val_main_v12 (F := Ideal) x0 x1 (ix2 a b) = rms (fun k => x0 (ix2 a k)) (fun k => x1 (ix1 k)) b := by
  simp only [val_main_v12, val_main_v9, val_main_v8, val_main_v7, val_main_v6, val_main_v5, val_main_v4, val_main_v3,
    val_main_v2, val_main_v1, val_main_v0, val_main_cst, val_main_cst_0, val_main_cst_1, val_main_v10, val_main_v11]
  pointwise [rms]

/-- The reference's scores, head by head. -/
theorem score_apply (h : Fin 8) (n : Fin 128) (t : Fin 32768) :
    val_main_v19 (F := Ideal) x0 x1 x2 x3 (ix3 h n t)
      = score (rms (fun k => x0 (ix2 t k)) (fun k => x1 (ix1 k))) (fun j e => x2 (ix2 j e)) (fun n k => x3 (ix4 h 1 n k)) h n := by
  rw [← (funext fun b => norm_apply x0 x1 t b : (fun b => val_main_v12 (F := Ideal) x0 x1 (ix2 t b)) = _)]
  simp only [val_main_v19, val_main_v18, val_main_v17, val_main_v16, val_main_v15, val_main_v14, val_main_v13]
  generalize val_main_v12 (F := Ideal) x0 x1 = y
  pointwise [score]

theorem norm_result (a : Fin 32768) (b : Fin 1024) :
    val_main_v35 (F := Ideal) x0 x1 (ix2 a b) = rms (fun k => x0 (ix2 a k)) (fun k => x1 (ix1 k)) b := by
  refine Eq.trans ?_ (norm_apply x0 x1 a b)
  unfold val_main_v35
  generalize val_main_v12 (F := Ideal) x0 x1 = y
  pointwise

theorem lowest : Ideal.ofBits .f32 0xFF800000#32 = ⊥ := by
  simp [Ideal.ofBits, Ideal.ieee]

/-- A count of truths, at most sixteen. -/
theorem count_eq (p : Fin 128 → Bool) : min (∑ m, if p m then (1 : EReal) else 0) (Ideal.ofBits .f32 0x41800000#32)
    = ((min (∑ m, (p m).toNat) 16 : ℕ) : EReal) := by
  rw [Cert.RouteIdeal.Hand.w16, (show Monotone ((↑) : ℕ → EReal) from fun a b h => EReal.natCast_le_iff.mpr h).map_min, Nat.cast_sum]
  congr 1
  refine Finset.sum_congr rfl fun m _ => ?_
  cases p m <;> simp

theorem rank_result (h : Fin 8) (n : Fin 128) (t : Fin 32768) :
    val_main_v36 (F := Ideal) x0 x1 x2 x3 (ix3 h n t) = rankOf (fun n => val_main_v19 (F := Ideal) x0 x1 x2 x3 (ix3 h n t)) n := by
  simp only [val_main_v36, val_main_v29, val_main_v28, val_main_v27, val_main_v26, val_main_v25, val_main_v24, val_main_v23, val_main_v22,
    val_main_v21, val_main_v20, val_main_call0_v0, val_main_call0_v1, val_main_cst_2, val_main_cst_3, val_main_cst_4, val_main_cst_5, id]
  generalize val_main_v19 (F := Ideal) x0 x1 x2 x3 = y
  refine Eq.trans ?_ (count_eq fun m => decide (y (ix3 h n t) < y (ix3 h m t)))
  simp only [decide_eq_true_eq]
  pointwise
theorem exp_result (h : Fin 8) (n : Fin 128) (t : Fin 32768) :
    val_main_v37 (F := Ideal) x0 x1 x2 x3 (ix3 h n t) = expOf (fun n => val_main_v19 (F := Ideal) x0 x1 x2 x3 (ix3 h n t)) n := by
  simp only [val_main_v37, val_main_v34, val_main_v33, val_main_v32, val_main_v31, val_main_v30, val_main_cst_6]
  generalize val_main_v19 (F := Ideal) x0 x1 x2 x3 = y
  unfold expOf
  rw [← lowest]
  pointwise

end Cert.RouteReferenceIdeal.Net

end
-- ==== Proof.RouteEq.lean ====
/- The routing call's claims: the reference computes the same functions of the arguments. -/
module

public import proofs.«01_k».proof.Defs
public import proofs.«01_k».proof.Proof.RouteFin
public import proofs.«01_k».proof.Proof.RouteRef
public import proofs.«01_k».proof.Proof.RouteFrame
public import Idealize.ShloMosaic.Lib.Quiescent

@[expose] public section

set_option maxRecDepth 16384

noncomputable section

namespace Cert.RouteReferenceIdeal.Net

open Cert.RouteReferenceIdeal Cert.RouteReferenceIdeal.Gen Cert.RouteReferenceIdeal.Read Cert.Rows Cert.Score
open Idealize.ShloMosaic Idealize.ShloMosaic.TcCoe Idealize.SL.Sem

variable (x0 : FVec Ideal S32768x1024 .f32) (x1 : FVec Ideal S1024 .f32) (x2 : FVec Ideal S1024x2048 .f32) (x3 : FVec Ideal S8x2x128x128 .f32)

theorem eqX : val_main_v35 (F := Ideal) x0 x1 = Cert.RouteIdeal.Run.GX x0 x1 := by
  funext i
  idx_vars i
  exact norm_result x0 x1 i0 i1
theorem eqR : val_main_v36 (F := Ideal) x0 x1 x2 x3 = Cert.RouteIdeal.Run.GR x0 x1 x2 x3 := by
  funext i
  idx_vars i
  refine (rank_result x0 x1 x2 x3 i0 i1 i2).trans ?_
  exact congrArg (rankOf · i1) (funext fun n => score_apply x0 x1 x2 x3 i0 n i2)
theorem eqE : val_main_v37 (F := Ideal) x0 x1 x2 x3 = Cert.RouteIdeal.Run.GE x0 x1 x2 x3 := by
  funext i
  idx_vars i
  refine (exp_result x0 x1 x2 x3 i0 i1 i2).trans ?_
  exact congrArg (expOf · i1) (funext fun n => score_apply x0 x1 x2 x3 i0 n i2)

end Cert.RouteReferenceIdeal.Net

namespace Cert.Proof.Route

open Idealize.ShloMosaic Idealize.SL.Sem

/-- The reference terminates, keeps its arguments and declares no semaphore. -/
theorem frame_ref : Cert.quiescent_RouteReferenceIdeal := fun m ρ _ =>
  (θ_run Cert.RouteReferenceIdeal.defs _ _).mono (fun r h => ⟨fun c => (h c).2.2.2, sem_eq_zero_of_no_sems (by decide) r.2⟩)
    (Cert.RouteReferenceIdeal.Value.run (F := Ideal) m ρ)

/-- The kernel's frames. -/
theorem frame : Cert.quiescent_Route := fun m ρ _ => Cert.Route.Hand.frame m ρ
theorem frame_ideal : Cert.quiescent_RouteIdeal := fun m ρ _ => Cert.RouteIdeal.Hand.frame m ρ

/-- The kernel and the reference compute the same arrays over the reals. -/
theorem algebraic : Cert.algebraic_RouteIdeal_RouteReferenceIdeal := by
  intro m ρ m' ρ' _ hag
  refine ⟨fun c => Cert.RouteIdeal.Run.GX (m ((c.tc : Thread _ _).loc Cert.RouteIdeal.main_arg0)) (m ((c.tc : Thread _ _).loc Cert.RouteIdeal.main_arg1)),
    fun c => Cert.RouteIdeal.Run.GR (m ((c.tc : Thread _ _).loc Cert.RouteIdeal.main_arg0)) (m ((c.tc : Thread _ _).loc Cert.RouteIdeal.main_arg1))
      (m ((c.tc : Thread _ _).loc Cert.RouteIdeal.main_arg2)) (m ((c.tc : Thread _ _).loc Cert.RouteIdeal.main_arg3)),
    fun c => Cert.RouteIdeal.Run.GE (m ((c.tc : Thread _ _).loc Cert.RouteIdeal.main_arg0)) (m ((c.tc : Thread _ _).loc Cert.RouteIdeal.main_arg1))
      (m ((c.tc : Thread _ _).loc Cert.RouteIdeal.main_arg2)) (m ((c.tc : Thread _ _).loc Cert.RouteIdeal.main_arg3)), ?_, ?_⟩
  · exact (θ_run Cert.RouteIdeal.defs _ _).mono (fun _ h c => ⟨(h c).1.trans (Cert.RouteIdeal.Run.final5 m c),
      (h c).2.1.trans (Cert.RouteIdeal.Run.final8 m c), (h c).2.2.1.trans (Cert.RouteIdeal.Run.final9 m c), (h c).2.2.2⟩)
      (Cert.RouteIdeal.Run.run m ρ)
  · refine (θ_run Cert.RouteReferenceIdeal.defs _ _).mono (fun _ h c => ⟨(h c).1.trans ?_, (h c).2.1.trans ?_, (h c).2.2.1.trans ?_, (h c).2.2.2⟩)
      (Cert.RouteReferenceIdeal.Value.run (F := Ideal) m' ρ')
    · refine (Cert.RouteReferenceIdeal.Read.val_main_v35_eq (F := Ideal) (m' ((c.tc : Thread _ _).loc Cert.RouteReferenceIdeal.main_arg0)) (m' ((c.tc : Thread _ _).loc Cert.RouteReferenceIdeal.main_arg1))).trans ((Cert.RouteReferenceIdeal.Net.eqX _ _).trans ?_)
      rw [(hag c).1, (hag c).2.1]
    · refine (Cert.RouteReferenceIdeal.Read.val_main_v36_eq (F := Ideal) (m' ((c.tc : Thread _ _).loc Cert.RouteReferenceIdeal.main_arg0)) (m' ((c.tc : Thread _ _).loc Cert.RouteReferenceIdeal.main_arg1)) (m' ((c.tc : Thread _ _).loc Cert.RouteReferenceIdeal.main_arg2)) (m' ((c.tc : Thread _ _).loc Cert.RouteReferenceIdeal.main_arg3))).trans ((Cert.RouteReferenceIdeal.Net.eqR _ _ _ _).trans ?_)
      rw [(hag c).1, (hag c).2.1, (hag c).2.2.1, (hag c).2.2.2]
    · refine (Cert.RouteReferenceIdeal.Read.val_main_v37_eq (F := Ideal) (m' ((c.tc : Thread _ _).loc Cert.RouteReferenceIdeal.main_arg0)) (m' ((c.tc : Thread _ _).loc Cert.RouteReferenceIdeal.main_arg1)) (m' ((c.tc : Thread _ _).loc Cert.RouteReferenceIdeal.main_arg2)) (m' ((c.tc : Thread _ _).loc Cert.RouteReferenceIdeal.main_arg3))).trans ((Cert.RouteReferenceIdeal.Net.eqE _ _ _ _).trans ?_)
      rw [(hag c).1, (hag c).2.1, (hag c).2.2.1, (hag c).2.2.2]

end Cert.Proof.Route

end
-- ==== Proof.PleFirst.lean ====
/- The gated embedding layer in its first form, without the last norm: what one block of 512 tokens computes and what the result array holds. -/
module

public import proofs.«01_k».proof.Proof.Gen.PleFirstIdeal.Value
public import proofs.«01_k».proof.Proof.Rows
public import Idealize.ShloMosaic.Lib.Pointwise
public import Idealize.ShloMosaic.Lib.Pipeline.ValueKit
public import Idealize.ShloMosaic.Lib.ValueIdx

@[expose] public section

set_option maxRecDepth 16384

noncomputable section

namespace Cert.PleFirstIdeal.Gate

open Cert.PleFirstIdeal Cert.PleFirstIdeal.Gen Cert.Rows Idealize.ShloMosaic Idealize.ShloMosaic.TcCoe Idealize.SL.Sem
open Idealize.ShloMosaic.Pipeline (Dat)

/-- The layer's result: every token's gated update. -/
def G (h : FVec Ideal S32768x1024 .f32) (p : FVec Ideal S2x32768x256 .f32) (g : FVec Ideal S1024 .f32)
    (wg : FVec Ideal S1024x1024 .f32) (wp : FVec Ideal S256x1024 .f32) : FVec Ideal S32768x1024 .f32 := fun i =>
  gated (fun k => h (ix2 (i 0) k)) (fun k => g (ix1 k)) (fun k j => wg (ix2 k j)) (fun k => p (ix3 0 (i 0) k))
    (fun k j => wp (ix2 k j)) (i 1)

variable (m : (ℓ : Loc nD τ sig) → Buf (Elt Ideal) ℓ) (ρ : Dev nD → PrngReg)

/-- The first norm's scale as the launch finds it: one row. -/
theorem V0 (c : Dev nD) : V m c main_v0 = (shapeCast S1x1024 (m ((c : Thread nD τ).loc main_arg2) : FVec Ideal S1024 .f32)
    shapeCasts_S1024_S1x1024 : FVec Ideal S1x1024 .f32) := by
  unfold V; after_results <;> rfl
/-- The gate's weight as the launch finds it. -/
theorem V1 (c : Dev nD) : V m c main_v1 = (truncf (F := Ideal) .bf16 (m ((c : Thread nD τ).loc main_arg3) : FVec Ideal S1024x1024 .f32)
    bitsLt_bf16_f32 : FVec Ideal S1024x1024 .bf16) := by
  unfold V; after_results <;> rfl
/-- The embedding's weight as the launch finds it. -/
theorem V2 (c : Dev nD) : V m c main_v2 = (truncf (F := Ideal) .bf16 (m ((c : Thread nD τ).loc main_arg4) : FVec Ideal S256x1024 .f32)
    bitsLt_bf16_f32 : FVec Ideal S256x1024 .bf16) := by
  unfold V; after_results <;> rfl
theorem e0 : ∀ t : Fin cfg0.N, win0_0.index t = ![t.val, 0] := (by decide +kernel : ∀ t : Fin grid0.N, _)
theorem e1 : ∀ t : Fin cfg0.N, win0_1.index t = ![0, t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e6 : ∀ t : Fin cfg0.N, win0_6.index t = ![t.val, 0] := (by decide +kernel : ∀ t : Fin grid0.N, _)

/-- Token `a` of block `t`, among all tokens. -/
def row (t : Fin cfg0.N) (a : Fin 512) : Fin 32768 := ⟨t.val * 512 + a.val, by have := t.isLt; have : cfg0.N = 64 := N_0; omega⟩

/-- Block `t` of the hidden state holds the rows of its tokens. -/
theorem iblk0 (c : Dev nD) (t : Fin cfg0.N) : iblk m c 0 t
    = (fun j => (m ((c : Thread nD τ).loc main_arg0) : FVec Ideal S32768x1024 .f32) (ix2 (row t (j 0)) (j 1)) : FVec Ideal S512x1024 .f32) := by
  funext j
  show V m c main_arg0 ((win0_0.blk t).view.emb j) = _
  rw [V_main_arg0]
  refine congrArg (m ((c : Thread nD τ).loc main_arg0)) ?_
  blk_ext [e0, row]
/-- Block `t` of the embeddings holds the first layer's rows of its tokens. -/
theorem iblk1 (c : Dev nD) (t : Fin cfg0.N) : iblk m c 1 t
    = (fun j => (m ((c : Thread nD τ).loc main_arg1) : FVec Ideal S2x32768x256 .f32) (ix3 0 (row t (j 1)) (j 2)) : FVec Ideal S1x512x256 .f32) := by
  funext j
  show V m c main_arg1 ((win0_1.blk t).view.emb j) = _
  rw [V_main_arg1]
  refine congrArg (m ((c : Thread nD τ).loc main_arg1)) ?_
  idx_vars j
  blk_ext [e1, row]
/-- Window 2 holds the first norm's scale. -/
theorem iblk2 (c : Dev nD) (t : Fin cfg0.N) : iblk m c 2 t
    = (fun j => (m ((c : Thread nD τ).loc main_arg2) : FVec Ideal S1024 .f32) (ix1 (j 1)) : FVec Ideal S1x1024 .f32) := by
  funext j
  show V m c main_v0 ((win0_2.blk t).view.emb j) = _
  rw [V0]
  refine (congrArg (shapeCast S1x1024 (m ((c : Thread nD τ).loc main_arg2) : FVec Ideal S1024 .f32) shapeCasts_S1024_S1x1024) (a₂ := j) ?_).trans ?_
  · blk_ext [e2]
  · idx_vars j
    pointwise
/-- Window 3 holds the gate's weight. -/
theorem iblk3 (c : Dev nD) (t : Fin cfg0.N) : iblk m c 3 t
    = (fun j => (m ((c : Thread nD τ).loc main_arg3) : FVec Ideal S1024x1024 .f32) j : FVec Ideal S1024x1024 .bf16) := by
  funext j
  show V m c main_v1 ((win0_3.blk t).view.emb j) = _
  rw [V1]
  refine (congrArg (truncf (F := Ideal) .bf16 (m ((c : Thread nD τ).loc main_arg3) : FVec Ideal S1024x1024 .f32) bitsLt_bf16_f32) (a₂ := j) ?_).trans ?_
  · blk_ext [e3]
  · pointwise
/-- Window 4 holds the embedding's weight. -/
theorem iblk4 (c : Dev nD) (t : Fin cfg0.N) : iblk m c 4 t
    = (fun j => (m ((c : Thread nD τ).loc main_arg4) : FVec Ideal S256x1024 .f32) j : FVec Ideal S256x1024 .bf16) := by
  funext j
  show V m c main_v2 ((win0_4.blk t).view.emb j) = _
  rw [V2]
  refine (congrArg (truncf (F := Ideal) .bf16 (m ((c : Thread nD τ).loc main_arg4) : FVec Ideal S256x1024 .f32) bitsLt_bf16_f32) (a₂ := j) ?_).trans ?_
  · blk_ext [e4]
  · pointwise
/-- A block's gated update at a token and a column. -/
theorem pay1_apply (h : FVec Ideal S512x1024 .f32) (g : FVec Ideal S1x1024 .f32) (wg : FVec Ideal S1024x1024 .bf16)
    (p : FVec Ideal S1x512x256 .f32) (wp : FVec Ideal S256x1024 .bf16) (a : Fin 512) (b : Fin 1024) :
    k0_pay1 (F := Ideal) h g wg p wp (ix2 a b) = gated (fun k => h (ix2 a k)) (fun k => g (ix2 0 k)) (fun k j => wg (ix2 k j))
      (fun k => p (ix3 0 a k)) (fun k j => wp (ix2 k j)) b := by
  pointwise [k0_pay1, gated, rms, sigmoid]
  rfl

/-- The result array after the run is the stated function of the arguments. -/
theorem final6 (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [iblk0, iblk1, iblk2, iblk3, iblk4]
  idx_vars y
  refine (pay1_apply _ _ _ _ _ _ _).trans ?_
  refine Eq.trans ?_ (congrArg (G _ _ _ _ _) (a₁ := ix2 (row t y0) y1) ?_)
  · rfl
  · blk_ext [e6, row]

end Cert.PleFirstIdeal.Gate

end
-- ==== Proof.PleFirstEq.lean ====
/- The first gated embedding layer's claims: the reference computes the same function of the arguments. -/
module

public import proofs.«01_k».proof.Defs
public import proofs.«01_k».proof.Proof.PleFirst
public import proofs.«01_k».proof.Proof.Gen.PleFirst.Frame
public import proofs.«01_k».proof.Proof.Gen.PleFirstReferenceIdeal.Run
public import proofs.«01_k».proof.Proof.Gen.PleFirstReferenceIdeal.Read
public import Idealize.ShloMosaic.Lib.Quiescent

@[expose] public section

set_option maxRecDepth 16384

noncomputable section

namespace Cert.PleFirstReferenceIdeal.Gate

open Cert.PleFirstReferenceIdeal Cert.PleFirstReferenceIdeal.Gen Cert.PleFirstReferenceIdeal.Read Cert.Rows
open Idealize.ShloMosaic Idealize.ShloMosaic.TcCoe Idealize.SL.Sem

variable (x0 : FVec Ideal S32768x1024 .f32) (x1 : FVec Ideal S2x32768x256 .f32) (x2 : FVec Ideal S1024 .f32)
    (x3 : FVec Ideal S1024x1024 .f32) (x4 : FVec Ideal S256x1024 .f32)

/-- The reference's first norm. -/
theorem norm_apply (a : Fin 32768) (b : Fin 1024) :
    val_main_v12 (F := Ideal) x0 x2 (ix2 a b) = rms (fun k => x0 (ix2 a k)) (fun k => x2 (ix1 k)) b := by
  simp only [val_main_v12, val_main_v9, val_main_v8, val_main_v7, val_main_v6, val_main_v5, val_main_v4, val_main_v3,
    val_main_v2, val_main_v1, val_main_v0, val_main_cst, val_main_cst_0, val_main_cst_1, val_main_v10, val_main_v11]
  pointwise [rms]

/-- The reference's gated update. -/
theorem gated_apply (a : Fin 32768) (b : Fin 1024) :
    val_main_v24 (F := Ideal) x0 x1 x2 x3 x4 (ix2 a b) = gated (fun k => x0 (ix2 a k)) (fun k => x2 (ix1 k))
      (fun k j => x3 (ix2 k j)) (fun k => x1 (ix3 0 a k)) (fun k j => x4 (ix2 k j)) b := by
  unfold gated
  simp only [← norm_apply]
  simp only [val_main_v24, val_main_v23, val_main_v19, val_main_v17, val_main_v18, val_main_v22, val_main_v20, val_main_v21,
    val_main_v14, val_main_v15, val_main_v16, val_main_v13, val_main_cst_2, val_main_cst_3]
  generalize val_main_v12 (F := Ideal) x0 x2 = y
  pointwise [sigmoid]

/-- The reference's result is the layer's function of the arguments. -/
theorem ref_eq : val_main_v24 (F := Ideal) x0 x1 x2 x3 x4 = Cert.PleFirstIdeal.Gate.G x0 x1 x2 x3 x4 := by
  funext i
  idx_vars i
  exact gated_apply x0 x1 x2 x3 x4 i0 i1

end Cert.PleFirstReferenceIdeal.Gate

namespace Cert.Proof.PleFirst

open Idealize.ShloMosaic Idealize.SL.Sem

/-- The reference terminates, keeps its arguments and declares no semaphore. -/
theorem frame_ref : Cert.quiescent_PleFirstReferenceIdeal := fun m ρ _ =>
  (θ_run Cert.PleFirstReferenceIdeal.defs _ _).mono (fun r h => ⟨fun c => (h c).2, sem_eq_zero_of_no_sems (by decide) r.2⟩)
    (Cert.PleFirstReferenceIdeal.Value.run (F := Ideal) m ρ)

/-- The kernel and the reference compute the same array over the reals. -/
theorem algebraic : Cert.algebraic_PleFirstIdeal_PleFirstReferenceIdeal := by
  intro m ρ m' ρ' _ hag
  refine ⟨fun c => Cert.PleFirstIdeal.Gate.G (m ((c.tc : Thread _ _).loc Cert.PleFirstIdeal.main_arg0)) (m ((c.tc : Thread _ _).loc Cert.PleFirstIdeal.main_arg1))
    (m ((c.tc : Thread _ _).loc Cert.PleFirstIdeal.main_arg2)) (m ((c.tc : Thread _ _).loc Cert.PleFirstIdeal.main_arg3))
    (m ((c.tc : Thread _ _).loc Cert.PleFirstIdeal.main_arg4)), ?_, ?_⟩
  · exact (θ_run Cert.PleFirstIdeal.defs _ _).mono (fun _ h c => ⟨(h c).1.trans (Cert.PleFirstIdeal.Gate.final6 m c), (h c).2⟩)
      (Cert.PleFirstIdeal.Value.run_blocks (F := Ideal) m ρ)
  · refine (θ_run Cert.PleFirstReferenceIdeal.defs _ _).mono (fun _ h c => ⟨(h c).1.trans ?_, (h c).2⟩)
      (Cert.PleFirstReferenceIdeal.Value.run (F := Ideal) m' ρ')
    refine (Cert.PleFirstReferenceIdeal.Read.val_main_v24_eq (F := Ideal) (m' ((c.tc : Thread _ _).loc Cert.PleFirstReferenceIdeal.main_arg0)) (m' ((c.tc : Thread _ _).loc Cert.PleFirstReferenceIdeal.main_arg1)) (m' ((c.tc : Thread _ _).loc Cert.PleFirstReferenceIdeal.main_arg2)) (m' ((c.tc : Thread _ _).loc Cert.PleFirstReferenceIdeal.main_arg3)) (m' ((c.tc : Thread _ _).loc Cert.PleFirstReferenceIdeal.main_arg4))).trans ((Cert.PleFirstReferenceIdeal.Gate.ref_eq _ _ _ _ _).trans ?_)
    rw [(hag c).1, (hag c).2.1, (hag c).2.2.1, (hag c).2.2.2.1, (hag c).2.2.2.2.1]

end Cert.Proof.PleFirst

end
-- ==== Proof.lean ====
/- The proof of the claim: a kernel's frame is its generated one but for the routing call's, each reference's comes from its
   run, and each value claim is proved in its own module. -/
module

public import proofs.«01_k».proof.Defs
public import proofs.«01_k».proof.Proof.Gen.Rglru.Frame
public import proofs.«01_k».proof.Proof.Gen.InProj.Frame
public import proofs.«01_k».proof.Proof.Gen.OutProj.Frame
public import proofs.«01_k».proof.Proof.Gen.Ple.Frame
public import proofs.«01_k».proof.Proof.Gen.Gmlp.Frame
public import proofs.«01_k».proof.Proof.Gen.Route.Frame
public import proofs.«01_k».proof.Proof.Gen.PleFirst.Frame
public import proofs.«01_k».proof.Proof.RglruEq
public import proofs.«01_k».proof.Proof.InProjEq
public import proofs.«01_k».proof.Proof.OutProjEq
public import proofs.«01_k».proof.Proof.PleEq
public import proofs.«01_k».proof.Proof.GmlpEq
public import proofs.«01_k».proof.Proof.RouteEq
public import proofs.«01_k».proof.Proof.PleFirstEq

@[expose] public section

noncomputable section

namespace Cert.Proof

/-- All claims. -/
theorem claim : Cert.Claim :=
  ⟨Cert.Rglru.Gen.facts, Cert.RglruIdeal.Gen.facts, Cert.RglruReferenceIdeal.Gen.facts,
    Cert.InProj.Gen.facts, Cert.InProjIdeal.Gen.facts, Cert.InProjReferenceIdeal.Gen.facts,
    Cert.OutProj.Gen.facts, Cert.OutProjIdeal.Gen.facts, Cert.OutProjReferenceIdeal.Gen.facts,
    Cert.Ple.Gen.facts, Cert.PleIdeal.Gen.facts, Cert.PleReferenceIdeal.Gen.facts,
    Cert.Gmlp.Gen.facts, Cert.GmlpIdeal.Gen.facts, Cert.GmlpReferenceIdeal.Gen.facts,
    Cert.Route.Gen.facts, Cert.RouteIdeal.Gen.facts, Cert.RouteReferenceIdeal.Gen.facts,
    Cert.PleFirst.Gen.facts, Cert.PleFirstIdeal.Gen.facts, Cert.PleFirstReferenceIdeal.Gen.facts,
    fun m ρ _ => Cert.Rglru.Gen.frame m ρ, fun m ρ _ => Cert.RglruIdeal.Gen.frame m ρ, Rglru.frame_ref,
    fun m ρ _ => Cert.InProj.Gen.frame m ρ, fun m ρ _ => Cert.InProjIdeal.Gen.frame m ρ, InProj.frame_ref,
    fun m ρ _ => Cert.OutProj.Gen.frame m ρ, fun m ρ _ => Cert.OutProjIdeal.Gen.frame m ρ, OutProj.frame_ref,
    fun m ρ _ => Cert.Ple.Gen.frame m ρ, fun m ρ _ => Cert.PleIdeal.Gen.frame m ρ, Ple.frame_ref,
    fun m ρ _ => Cert.Gmlp.Gen.frame m ρ, fun m ρ _ => Cert.GmlpIdeal.Gen.frame m ρ, Gmlp.frame_ref,
    Route.frame, Route.frame_ideal, Route.frame_ref,
    fun m ρ _ => Cert.PleFirst.Gen.frame m ρ, fun m ρ _ => Cert.PleFirstIdeal.Gen.frame m ρ, PleFirst.frame_ref,
    trivial, Rglru.algebraic, trivial, InProj.algebraic, trivial, OutProj.algebraic, trivial, Ple.algebraic, trivial, Gmlp.algebraic, trivial, Route.algebraic, trivial, PleFirst.algebraic⟩

end Cert.Proof

end
